-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_v_scales_finite [hPre_v_scales_finite : Cert.Pre_v_scales_finite.Facts] (m : (ℓ : Loc Cert.AttnIdeal.nD Cert.AttnIdeal.τ Cert.AttnIdeal.sig) → Buf (Elt Ideal) ℓ) : Prop :=
  ∀ c : Dev Cert.AttnIdeal.nD,
    (Cert.Pre_v_scales_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_v_scales_finite [hPre_v_scales_finite : Cert.Pre_v_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_v_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Quant (m : (ℓ : Loc Cert.Quant.nD Cert.Quant.τ Cert.Quant.sig) → Buf (Elt Bits) ℓ) : Prop :=
  True

def Pre_Quant_scalable [hPre_scalable : Cert.Pre_scalable.Facts] (m : (ℓ : Loc Cert.Quant.nD Cert.Quant.τ Cert.Quant.sig) → Buf (Elt Bits) ℓ) : Prop :=
  ∀ c : Dev Cert.Quant.nD,
    (Cert.Pre_scalable.fn (F := Bits) (m ((c.tc : Thread Cert.Quant.nD Cert.Quant.τ).loc Cert.Quant.main_arg0)) (m ((c.tc : Thread Cert.Quant.nD Cert.Quant.τ).loc Cert.Quant.main_arg1)) (m ((c.tc : Thread Cert.Quant.nD Cert.Quant.τ).loc Cert.Quant.main_arg2))) = (fun _ => 1#1)

def Pre_QuantReference (m : (ℓ : Loc Cert.QuantReference.nD Cert.QuantReference.τ Cert.QuantReference.sig) → Buf (Elt Bits) ℓ) : Prop :=
  True

def Pre_QuantReference_scalable [hPre_scalable : Cert.Pre_scalable.Facts] (m : (ℓ : Loc Cert.QuantReference.nD Cert.QuantReference.τ Cert.QuantReference.sig) → Buf (Elt Bits) ℓ) : Prop :=
  ∀ c : Dev Cert.QuantReference.nD,
    (Cert.Pre_scalable.fn (F := Bits) (m ((c.tc : Thread Cert.QuantReference.nD Cert.QuantReference.τ).loc Cert.QuantReference.main_arg0)) (m ((c.tc : Thread Cert.QuantReference.nD Cert.QuantReference.τ).loc Cert.QuantReference.main_arg1)) (m ((c.tc : Thread Cert.QuantReference.nD Cert.QuantReference.τ).loc Cert.QuantReference.main_arg2))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_v_scales_finite [hAttnIdeal : Cert.AttnIdeal.Facts] [hPre_v_scales_finite : Cert.Pre_v_scales_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_v_scales_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_v_scales_finite [hReferenceIdeal : Cert.ReferenceIdeal.Facts] [hPre_v_scales_finite : Cert.Pre_v_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_v_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_Quant_pre_scalable [hQuant : Cert.Quant.Facts] [hPre_scalable : Cert.Pre_scalable.Facts] : Prop :=
  ∀ (m : (ℓ : Loc Cert.Quant.nD Cert.Quant.τ Cert.Quant.sig) → Buf (Elt Bits) ℓ) (g : Dev Cert.Quant.nD → PrngReg), Pre_Quant_scalable m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1)
      ∧ r.2.mem ((c.tc : Thread Cert.QuantReference.nD Cert.QuantReference.τ).loc Cert.QuantReference.main_arg2) = m ((c.tc : Thread Cert.QuantReference.nD Cert.QuantReference.τ).loc Cert.QuantReference.main_arg2))
      ∧ r.2.sem = fun _ => 0)

def quiescent_QuantReference_pre_scalable [hQuantReference : Cert.QuantReference.Facts] [hPre_scalable : Cert.Pre_scalable.Facts] : Prop :=
  ∀ (m : (ℓ : Loc Cert.QuantReference.nD Cert.QuantReference.τ Cert.QuantReference.sig) → Buf (Elt Bits) ℓ) (g : Dev Cert.QuantReference.nD → PrngReg), Pre_QuantReference_scalable m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1)
      ∧ r.2.mem ((c.tc : Thread Cert.QuantReference.nD Cert.QuantReference.τ).loc Cert.QuantReference.main_arg2) = m ((c.tc : Thread Cert.QuantReference.nD Cert.QuantReference.τ).loc Cert.QuantReference.main_arg2))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_ReferenceIdeal_pre_v_scales_finite [hAttnIdeal : Cert.AttnIdeal.Facts] [hReferenceIdeal : Cert.ReferenceIdeal.Facts] [hPre_v_scales_finite : Cert.Pre_v_scales_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttnIdeal_v_scales_finite m →
    (∀ c : Dev Cert.AttnIdeal.nD,
      m' ((c.tc : Thread Cert.ReferenceIdeal.nD Cert.ReferenceIdeal.τ).loc Cert.ReferenceIdeal.main_arg0) = m ((c.tc : Thread Cert.AttnIdeal.nD Cert.AttnIdeal.τ).loc Cert.AttnIdeal.main_arg0)
      ∧ m' ((c.tc : Thread Cert.ReferenceIdeal.nD Cert.ReferenceIdeal.τ).loc Cert.ReferenceIdeal.main_arg1) = m ((c.tc : Thread Cert.AttnIdeal.nD Cert.AttnIdeal.τ).loc Cert.AttnIdeal.main_arg1)
      ∧ m' ((c.tc : Thread Cert.ReferenceIdeal.nD Cert.ReferenceIdeal.τ).loc Cert.ReferenceIdeal.main_arg2) = m ((c.tc : Thread Cert.AttnIdeal.nD Cert.AttnIdeal.τ).loc Cert.AttnIdeal.main_arg2)
      ∧ m' ((c.tc : Thread Cert.ReferenceIdeal.nD Cert.ReferenceIdeal.τ).loc Cert.ReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Quant_QuantReference_pre_scalable [hQuant : Cert.Quant.Facts] [hQuantReference : Cert.QuantReference.Facts] [hPre_scalable : Cert.Pre_scalable.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant_scalable m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)
      ∧ m' ((c.tc : Thread Cert.QuantReference.nD Cert.QuantReference.τ).loc Cert.QuantReference.main_arg2) = m ((c.tc : Thread Cert.Quant.nD Cert.Quant.τ).loc Cert.Quant.main_arg2)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v0_1)) (v2 : (c : Dev Cert.Quant.nD) → Buf (Elt Bits) ((c.tc : Thread Cert.Quant.nD Cert.Quant.τ).loc Cert.Quant.main_v0_2)) (v3 : (c : Dev Cert.Quant.nD) → Buf (Elt Bits) ((c.tc : Thread Cert.Quant.nD Cert.Quant.τ).loc Cert.Quant.main_v0_3)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v0_1) = v1 c
          ∧ r.2.mem ((c.tc : Thread Cert.Quant.nD Cert.Quant.τ).loc Cert.Quant.main_v0_2) = v2 c
          ∧ r.2.mem ((c.tc : Thread Cert.Quant.nD Cert.Quant.τ).loc Cert.Quant.main_v0_3) = v3 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1)
          ∧ r.2.mem ((c.tc : Thread Cert.Quant.nD Cert.Quant.τ).loc Cert.Quant.main_arg2) = m ((c.tc : Thread Cert.Quant.nD Cert.Quant.τ).loc Cert.Quant.main_arg2))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v0_0) = v0 c
          ∧ r.2.mem ((c.tc : Thread Cert.QuantReference.nD Cert.QuantReference.τ).loc Cert.QuantReference.main_v0_1) = v1 c
          ∧ r.2.mem ((c.tc : Thread Cert.QuantReference.nD Cert.QuantReference.τ).loc Cert.QuantReference.main_v0_2) = v2 c
          ∧ r.2.mem ((c.tc : Thread Cert.QuantReference.nD Cert.QuantReference.τ).loc Cert.QuantReference.main_v0_3) = v3 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1)
          ∧ r.2.mem ((c.tc : Thread Cert.QuantReference.nD Cert.QuantReference.τ).loc Cert.QuantReference.main_arg2) = m' ((c.tc : Thread Cert.QuantReference.nD Cert.QuantReference.τ).loc Cert.QuantReference.main_arg2))

def Claim : Prop :=
  ∃ (hAttn : Cert.Attn.Facts) (hAttnIdeal : Cert.AttnIdeal.Facts) (hReferenceIdeal : Cert.ReferenceIdeal.Facts) (hQuant : Cert.Quant.Facts) (hQuantReference : Cert.QuantReference.Facts) (hPre_v_scales_finite : Cert.Pre_v_scales_finite.Facts) (hPre_scalable : Cert.Pre_scalable.Facts),
    quiescent_Attn (hAttn := hAttn)
    ∧ quiescent_AttnIdeal (hAttnIdeal := hAttnIdeal)
    ∧ quiescent_AttnIdeal_pre_v_scales_finite (hAttnIdeal := hAttnIdeal) (hPre_v_scales_finite := hPre_v_scales_finite)
    ∧ quiescent_ReferenceIdeal (hReferenceIdeal := hReferenceIdeal)
    ∧ quiescent_ReferenceIdeal_pre_v_scales_finite (hReferenceIdeal := hReferenceIdeal) (hPre_v_scales_finite := hPre_v_scales_finite)
    ∧ quiescent_Quant (hQuant := hQuant)
    ∧ quiescent_Quant_pre_scalable (hQuant := hQuant) (hPre_scalable := hPre_scalable)
    ∧ quiescent_QuantReference (hQuantReference := hQuantReference)
    ∧ quiescent_QuantReference_pre_scalable (hQuantReference := hQuantReference) (hPre_scalable := hPre_scalable)
    ∧ preserves_Attn_AttnIdeal
    ∧ algebraic_AttnIdeal_ReferenceIdeal_pre_v_scales_finite (hAttnIdeal := hAttnIdeal) (hReferenceIdeal := hReferenceIdeal) (hPre_v_scales_finite := hPre_v_scales_finite)
    ∧ bitexact_Quant_QuantReference_pre_scalable (hQuant := hQuant) (hQuantReference := hQuantReference) (hPre_scalable := hPre_scalable)
-- ==== Pre_scalable.lean ====
abbrev S8x8192x2048 : Shape := ⟨3, ![8, 8192, 2048]⟩
abbrev S8x8192x256 : Shape := ⟨3, ![8, 8192, 256]⟩
abbrev S8x64x128x8x256 : Shape := ⟨5, ![8, 64, 128, 8, 256]⟩
abbrev S_ : Shape := ⟨0, ![]⟩
abbrev S8x64x8 : Shape := ⟨3, ![8, 64, 8]⟩
abbrev S8x64x128x1x256 : Shape := ⟨5, ![8, 64, 128, 1, 256]⟩
abbrev S8x64x1 : Shape := ⟨3, ![8, 64, 1]⟩

class Facts : Prop where
  bitsLt_bf16_f32 : FTy.bits .bf16 < FTy.bits .f32
  shapeCasts_S8x8192x2048_S8x64x128x8x256 : S8x8192x2048.ShapeCasts S8x64x128x8x256
  reducesTo_S8x64x128x8x256_S8x64x8_d2_4 : S8x64x128x8x256.ReducesTo [2, 4] S8x64x8
  h_S_ : 0 < S_.numel
  bcast_S_S8x64x8 : S_.BroadcastsInDim S8x64x8 (![] : Fin 0 → Fin S8x64x8.rank)
  reducesTo_S8x64x8_S_d0_1_2 : S8x64x8.ReducesTo [0, 1, 2] S_
  shapeCasts_S8x8192x256_S8x64x128x1x256 : S8x8192x256.ShapeCasts S8x64x128x1x256
  reducesTo_S8x64x128x1x256_S8x64x1_d2_4 : S8x64x128x1x256.ReducesTo [2, 4] S8x64x1
  bcast_S_S8x64x1 : S_.BroadcastsInDim S8x64x1 (![] : Fin 0 → Fin S8x64x1.rank)
  reducesTo_S8x64x1_S_d0_1_2 : S8x64x1.ReducesTo [0, 1, 2] S_

variable [Facts]

def fn_part3 {F : FTy → Type} [BitOps F] (main_v40 : IVec S_ 1) (main_v44 : FVec F S8x64x1 .f32) (main_v51 : IVec S8x64x1 32) : IVec S_ 1 :=
  let main_cst_18 : FVec F S_ .f32 := constant S_ .f32 0x00000000#32
  let main_v52 : FVec F S8x64x1 .f32 := broadcastInDim S8x64x1 ![] bcast_S_S8x64x1 main_cst_18
  let main_v53 : IVec S8x64x1 1 := cmpf .oeq main_v44 main_v52
  let main_c_19 : IVec S_ 32 := constantI S_ 32 0#32
  let main_v54 : IVec S8x64x1 32 := broadcastInDim S8x64x1 ![] bcast_S_S8x64x1 main_c_19
  let main_v55 : IVec S8x64x1 1 := cmpi .sgt main_v51 main_v54
  let main_c_20 : IVec S_ 32 := constantI S_ 32 254#32
  let main_v56 : IVec S8x64x1 32 := broadcastInDim S8x64x1 ![] bcast_S_S8x64x1 main_c_20
  let main_v57 : IVec S8x64x1 1 := cmpi .slt main_v51 main_v56
  let main_v58 : IVec S8x64x1 1 := andi main_v55 main_v57
  let main_v59 : IVec S8x64x1 1 := ori main_v53 main_v58
  let main_c_21 : IVec S_ 1 := constantI S_ 1 1#1
  let main_v60 : IVec S_ 1 := (fun x v => Host.reduce IntOp.andi x v reducesTo_S8x64x1_S_d0_1_2 h_S_) main_v59 main_c_21
  let main_v61 : IVec S_ 1 := andi main_v40 main_v60
  main_v61

def fn_part2 {F : FTy → Type} [BitOps F] (main_arg2 : FVec F S8x8192x256 .bf16) (main_v19 : IVec S_ 1) (main_v30 : IVec S8x64x1 32) (main_v32 : IVec S8x64x1 1) (main_v33 : IVec S8x64x1 32) : IVec S_ 1 :=
  let main_v34 : IVec S8x64x1 1 := cmpi .sgt main_v30 main_v33
  let main_c_12 : IVec S_ 32 := constantI S_ 32 254#32
  let main_v35 : IVec S8x64x1 32 := broadcastInDim S8x64x1 ![] bcast_S_S8x64x1 main_c_12
  let main_v36 : IVec S8x64x1 1 := cmpi .slt main_v30 main_v35
  let main_v37 : IVec S8x64x1 1 := andi main_v34 main_v36
  let main_v38 : IVec S8x64x1 1 := ori main_v32 main_v37
  let main_c_13 : IVec S_ 1 := constantI S_ 1 1#1
  let main_v39 : IVec S_ 1 := (fun x v => Host.reduce IntOp.andi x v reducesTo_S8x64x1_S_d0_1_2 h_S_) main_v38 main_c_13
  let main_v40 : IVec S_ 1 := andi main_v19 main_v39
  let main_v41 : FVec F S8x8192x256 .f32 := (extf .f32 · bitsLt_bf16_f32) main_arg2
  let main_v42 : FVec F S8x64x128x1x256 .f32 := shapeCast S8x64x128x1x256 main_v41 shapeCasts_S8x8192x256_S8x64x128x1x256
  let main_v43 : FVec F S8x64x128x1x256 .f32 := Host.absf main_v42
  let main_cst_14 : FVec F S_ .f32 := constant S_ .f32 0xFF800000#32
  let main_v44 : FVec F S8x64x1 .f32 := (fun x v => Host.reduce FloatOps.maximumf x v reducesTo_S8x64x128x1x256_S8x64x1_d2_4 h_S_) main_v43 main_cst_14
  let main_cst_15 : FVec F S_ .f32 := constant S_ .f32 0x3B124925#32
  let main_v45 : FVec F S8x64x1 .f32 := broadcastInDim S8x64x1 ![] bcast_S_S8x64x1 main_cst_15
  let main_v46 : FVec F S8x64x1 .f32 := mulf main_v44 main_v45
  let main_v47 : IVec S8x64x1 32 := bitcastToInt main_v46
  let main_c_16 : IVec S_ 32 := constantI S_ 32 23#32
  let main_v48 : IVec S8x64x1 32 := broadcastInDim S8x64x1 ![] bcast_S_S8x64x1 main_c_16
  let main_v49 : IVec S8x64x1 32 := Host.shrsi main_v47 main_v48
  let main_c_17 : IVec S_ 32 := constantI S_ 32 255#32
  let main_v50 : IVec S8x64x1 32 := broadcastInDim S8x64x1 ![] bcast_S_S8x64x1 main_c_17
  let main_v51 : IVec S8x64x1 32 := andi main_v49 main_v50
  fn_part3 (F := F) main_v40 main_v44 main_v51

def fn_part1 {F : FTy → Type} [BitOps F] (main_arg1 : FVec F S8x8192x256 .bf16) (main_arg2 : FVec F S8x8192x256 .bf16) (main_v12 : IVec S8x64x8 1) (main_v14 : IVec S8x64x8 1) (main_v16 : IVec S8x64x8 1) : IVec S_ 1 :=
  let main_v17 : IVec S8x64x8 1 := andi main_v14 main_v16
  let main_v18 : IVec S8x64x8 1 := ori main_v12 main_v17
  let main_c_5 : IVec S_ 1 := constantI S_ 1 1#1
  let main_v19 : IVec S_ 1 := (fun x v => Host.reduce IntOp.andi x v reducesTo_S8x64x8_S_d0_1_2 h_S_) main_v18 main_c_5
  let main_v20 : FVec F S8x8192x256 .f32 := (extf .f32 · bitsLt_bf16_f32) main_arg1
  let main_v21 : FVec F S8x64x128x1x256 .f32 := shapeCast S8x64x128x1x256 main_v20 shapeCasts_S8x8192x256_S8x64x128x1x256
  let main_v22 : FVec F S8x64x128x1x256 .f32 := Host.absf main_v21
  let main_cst_6 : FVec F S_ .f32 := constant S_ .f32 0xFF800000#32
  let main_v23 : FVec F S8x64x1 .f32 := (fun x v => Host.reduce FloatOps.maximumf x v reducesTo_S8x64x128x1x256_S8x64x1_d2_4 h_S_) main_v22 main_cst_6
  let main_cst_7 : FVec F S_ .f32 := constant S_ .f32 0x3B124925#32
  let main_v24 : FVec F S8x64x1 .f32 := broadcastInDim S8x64x1 ![] bcast_S_S8x64x1 main_cst_7
  let main_v25 : FVec F S8x64x1 .f32 := mulf main_v23 main_v24
  let main_v26 : IVec S8x64x1 32 := bitcastToInt main_v25
  let main_c_8 : IVec S_ 32 := constantI S_ 32 23#32
  let main_v27 : IVec S8x64x1 32 := broadcastInDim S8x64x1 ![] bcast_S_S8x64x1 main_c_8
  let main_v28 : IVec S8x64x1 32 := Host.shrsi main_v26 main_v27
  let main_c_9 : IVec S_ 32 := constantI S_ 32 255#32
  let main_v29 : IVec S8x64x1 32 := broadcastInDim S8x64x1 ![] bcast_S_S8x64x1 main_c_9
  let main_v30 : IVec S8x64x1 32 := andi main_v28 main_v29
  let main_cst_10 : FVec F S_ .f32 := constant S_ .f32 0x00000000#32
  let main_v31 : FVec F S8x64x1 .f32 := broadcastInDim S8x64x1 ![] bcast_S_S8x64x1 main_cst_10
  let main_v32 : IVec S8x64x1 1 := cmpf .oeq main_v23 main_v31
  let main_c_11 : IVec S_ 32 := constantI S_ 32 0#32
  let main_v33 : IVec S8x64x1 32 := broadcastInDim S8x64x1 ![] bcast_S_S8x64x1 main_c_11
  fn_part2 (F := F) main_arg2 main_v19 main_v30 main_v32 main_v33

def fn {F : FTy → Type} [BitOps F] (main_arg0 : FVec F S8x8192x2048 .bf16) (main_arg1 : FVec F S8x8192x256 .bf16) (main_arg2 : FVec F S8x8192x256 .bf16) : IVec S_ 1 :=
  let main_v0 : FVec F S8x8192x2048 .f32 := (extf .f32 · bitsLt_bf16_f32) main_arg0
  let main_v1 : FVec F S8x64x128x8x256 .f32 := shapeCast S8x64x128x8x256 main_v0 shapeCasts_S8x8192x2048_S8x64x128x8x256
  let main_v2 : FVec F S8x64x128x8x256 .f32 := Host.absf main_v1
  let main_cst : FVec F S_ .f32 := constant S_ .f32 0xFF800000#32
  let main_v3 : FVec F S8x64x8 .f32 := (fun x v => Host.reduce FloatOps.maximumf x v reducesTo_S8x64x128x8x256_S8x64x8_d2_4 h_S_) main_v2 main_cst
  let main_cst_0 : FVec F S_ .f32 := constant S_ .f32 0x3B124925#32
  let main_v4 : FVec F S8x64x8 .f32 := broadcastInDim S8x64x8 ![] bcast_S_S8x64x8 main_cst_0
  let main_v5 : FVec F S8x64x8 .f32 := mulf main_v3 main_v4
  let main_v6 : IVec S8x64x8 32 := bitcastToInt main_v5
  let main_c : IVec S_ 32 := constantI S_ 32 23#32
  let main_v7 : IVec S8x64x8 32 := broadcastInDim S8x64x8 ![] bcast_S_S8x64x8 main_c
  let main_v8 : IVec S8x64x8 32 := Host.shrsi main_v6 main_v7
  let main_c_1 : IVec S_ 32 := constantI S_ 32 255#32
  let main_v9 : IVec S8x64x8 32 := broadcastInDim S8x64x8 ![] bcast_S_S8x64x8 main_c_1
  let main_v10 : IVec S8x64x8 32 := andi main_v8 main_v9
  let main_cst_2 : FVec F S_ .f32 := constant S_ .f32 0x00000000#32
  let main_v11 : FVec F S8x64x8 .f32 := broadcastInDim S8x64x8 ![] bcast_S_S8x64x8 main_cst_2
  let main_v12 : IVec S8x64x8 1 := cmpf .oeq main_v3 main_v11
  let main_c_3 : IVec S_ 32 := constantI S_ 32 0#32
  let main_v13 : IVec S8x64x8 32 := broadcastInDim S8x64x8 ![] bcast_S_S8x64x8 main_c_3
  let main_v14 : IVec S8x64x8 1 := cmpi .sgt main_v10 main_v13
  let main_c_4 : IVec S_ 32 := constantI S_ 32 254#32
  let main_v15 : IVec S8x64x8 32 := broadcastInDim S8x64x8 ![] bcast_S_S8x64x8 main_c_4
  let main_v16 : IVec S8x64x8 1 := cmpi .slt main_v10 main_v15
  fn_part1 (F := F) main_arg1 main_arg2 main_v12 main_v14 main_v16
-- ==== Pre_v_scales_finite.lean ====
abbrev S8x64x16 : Shape := ⟨3, ![8, 64, 16]⟩
abbrev S8x8192x2048 : Shape := ⟨3, ![8, 8192, 2048]⟩
abbrev S8x8192x256 : Shape := ⟨3, ![8, 8192, 256]⟩
abbrev S8x64x1 : Shape := ⟨3, ![8, 64, 1]⟩
abbrev S8x64 : Shape := ⟨2, ![8, 64]⟩
abbrev S_ : Shape := ⟨0, ![]⟩

class Facts : Prop where
  slices_S8x64x16_S8x64x1_0_0_9 : S8x64x16.Slices ![0, 0, 9] S8x64x1
  shapeCasts_S8x64x1_S8x64 : S8x64x1.ShapeCasts S8x64
  bcast_S_S8x64 : S_.BroadcastsInDim S8x64 (![] : Fin 0 → Fin S8x64.rank)
  reducesTo_S8x64_S_d0_1 : S8x64.ReducesTo [0, 1] S_
  h_S_ : 0 < S_.numel

variable [Facts]

def fn {F : FTy → Type} [FloatOps F] (main_arg0 : FVec F S8x64x16 .f32) (main_arg1 : FVec F S8x8192x2048 .fp8e4m3) (main_arg2 : FVec F S8x8192x256 .fp8e4m3) (main_arg3 : FVec F S8x8192x256 .fp8e4m3) : IVec S_ 1 :=
  let main_v0 : FVec F S8x64x1 .f32 := (extractStridedSlice S8x64x1 ![0, 0, 9] · slices_S8x64x16_S8x64x1_0_0_9) main_arg0
  let main_v1 : FVec F S8x64 .f32 := shapeCast S8x64 main_v0 shapeCasts_S8x64x1_S8x64
  let main_cst : FVec F S_ .f32 := constant S_ .f32 0x00000000#32
  let main_v2 : FVec F S8x64 .f32 := broadcastInDim S8x64 ![] bcast_S_S8x64 main_cst
  let main_v3 : IVec S8x64 1 := cmpf .oge main_v1 main_v2
  let main_cst_0 : FVec F S_ .f32 := constant S_ .f32 0x7F800000#32
  let main_v4 : FVec F S8x64 .f32 := broadcastInDim S8x64 ![] bcast_S_S8x64 main_cst_0
  let main_v5 : IVec S8x64 1 := cmpf .olt main_v1 main_v4
  let main_v6 : IVec S8x64 1 := andi main_v3 main_v5
  let main_c : IVec S_ 1 := constantI S_ 1 1#1
  let main_v7 : IVec S_ 1 := (fun x v => Host.reduce IntOp.andi x v reducesTo_S8x64_S_d0_1 h_S_) main_v6 main_c
  main_v7
-- ==== Attn.lean ====
abbrev S8x64x16 : Shape := ⟨3, ![8, 64, 16]⟩
abbrev S8x8192x2048 : Shape := ⟨3, ![8, 8192, 2048]⟩
abbrev S8x8192x256 : Shape := ⟨3, ![8, 8192, 256]⟩
abbrev S1x64x16 : Shape := ⟨3, ![1, 64, 16]⟩
abbrev S1x256x1024 : Shape := ⟨3, ![1, 256, 1024]⟩
abbrev S1x8192x256 : Shape := ⟨3, ![1, 8192, 256]⟩
abbrev S17x1024x256 : Shape := ⟨3, ![17, 1024, 256]⟩
abbrev S1024x128 : Shape := ⟨2, ![1024, 128]⟩
abbrev S1024x256 : Shape := ⟨2, ![1024, 256]⟩
abbrev S1x256x256 : Shape := ⟨3, ![1, 256, 256]⟩
abbrev S256x256 : Shape := ⟨2, ![256, 256]⟩
abbrev S128x128 : Shape := ⟨2, ![128, 128]⟩
abbrev S1x1x1 : Shape := ⟨3, ![1, 1, 1]⟩
abbrev S1x128x128 : Shape := ⟨3, ![1, 128, 128]⟩
abbrev S1024 : Shape := ⟨1, ![1024]⟩
abbrev S1024x1 : Shape := ⟨2, ![1024, 1]⟩
abbrev S1x1024x128 : Shape := ⟨3, ![1, 1024, 128]⟩
abbrev S1x128x256 : Shape := ⟨3, ![1, 128, 256]⟩
abbrev S128x256 : Shape := ⟨2, ![128, 256]⟩

abbrev nBuf : Space → Nat
  | .hbm => 5
  | .vmem => 13
  | .smem => 2
  | _ => 0

abbrev bufTy : (tb : Table) → Fin (tcTables nBuf tb) → BufTy
  | .hbm, ⟨0, _⟩ => ⟨S8x64x16, .f32⟩
  | .hbm, ⟨1, _⟩ => ⟨S8x8192x2048, .fp8e4m3⟩
  | .hbm, ⟨2, _⟩ => ⟨S8x8192x256, .fp8e4m3⟩
  | .hbm, ⟨3, _⟩ => ⟨S8x8192x256, .fp8e4m3⟩
  | .hbm, ⟨4, _⟩ => ⟨S8x8192x2048, .bf16⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x8192x256, .fp8e4m3⟩
  | .local _ .vmem, ⟨3, _⟩ => ⟨S1x8192x256, .fp8e4m3⟩
  | .local _ .vmem, ⟨4, _⟩ => ⟨S1x8192x256, .fp8e4m3⟩
  | .local _ .vmem, ⟨5, _⟩ => ⟨S1x8192x256, .fp8e4m3⟩
  | .local _ .vmem, ⟨6, _⟩ => ⟨S1x256x1024, .bf16⟩
  | .local _ .vmem, ⟨7, _⟩ => ⟨S1x256x1024, .bf16⟩
  | .local _ .vmem, ⟨8, _⟩ => ⟨S17x1024x256, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x256, .f32⟩
  | .local _ .smem, ⟨0, _⟩ => ⟨S1x64x16, .f32⟩
  | .local _ .smem, ⟨1, _⟩ => ⟨S1x64x16, .f32⟩
  | _, _ => ⟨S8x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 32, 2], ![false, false, false]⟩

def k0_cond1 (i : grid0.Coords) : BitVec 1 :=
  let arg1 : BitVec 32 := BitVec.ofNat 32 (i 1).val
  let c16_i32_10 : BitVec 32 := 16#32
  let v17 : BitVec 1 := Scalar.cmpi .sge arg1 c16_i32_10
  let v18 : BitVec 32 := Scalar.extui v17
  let c0_i32_11 : BitVec 32 := 0#32
  let v19 : BitVec 1 := Scalar.cmpi .ne v18 c0_i32_11
  v19

def k0_mult1 (i : grid0.Coords) : BitVec 32 :=
  let arg1 : BitVec 32 := BitVec.ofNat 32 (i 1).val
  let c16_i32_233 : BitVec 32 := 16#32
  let v397 : BitVec 32 := Scalar.subi arg1 c16_i32_233
  let c256_i32_234 : BitVec 32 := 256#32
  let v399 : BitVec 32 := Scalar.muli v397 c256_i32_234
  v399
def k0_off1 (i : grid0.Coords) : Fin 3 → Nat :=
  let c0_235 : Index := 0#32
  let arg1 : BitVec 32 := BitVec.ofNat 32 (i 1).val
  let c16_i32_233 : BitVec 32 := 16#32
  let v397 : BitVec 32 := Scalar.subi arg1 c16_i32_233
  let c256_i32_234 : BitVec 32 := 256#32
  let v399 : BitVec 32 := Scalar.muli v397 c256_i32_234
  let v400 : BitVec 32 := v399
  let v401 : Index := Scalar.indexCast v400
  let c0_236 : Index := 0#32
  ![0, v401.toNat, 0]
def k0_off2 (i : grid0.Coords) (c0_i32_239 : BitVec 32) (c0_i32_241 : BitVec 32) : Fin 3 → Nat :=
  let c0_242 : Index := 0#32
  let c2_i32_238 : BitVec 32 := 2#32
  let arg1 : BitVec 32 := BitVec.ofNat 32 (i 1).val
  let v405 : BitVec 32 := Scalar.muli c2_i32_238 arg1
  let v406 : BitVec 32 := Scalar.addi v405 c0_i32_239
  let v409 : Index := Scalar.indexCast v406
  let arg2 : BitVec 32 := BitVec.ofNat 32 (i 2).val
  let c4_i32_240 : BitVec 32 := 4#32
  let v407 : BitVec 32 := Scalar.muli arg2 c4_i32_240
  let v408 : BitVec 32 := Scalar.addi v407 c0_i32_241
  let v410 : Index := Scalar.indexCast v408
  ![0, v409.toNat, v410.toNat]
def k0_off3 (i : grid0.Coords) (c0_i32_247 : BitVec 32) : Fin 3 → Nat :=
  let c0_248 : Index := 0#32
  let c2_i32_246 : BitVec 32 := 2#32
  let arg1 : BitVec 32 := BitVec.ofNat 32 (i 1).val
  let c16_i32_233 : BitVec 32 := 16#32
  let v397 : BitVec 32 := Scalar.subi arg1 c16_i32_233
  let v414 : BitVec 32 := Scalar.muli c2_i32_246 v397
  let v415 : BitVec 32 := Scalar.addi v414 c0_i32_247
  let v416 : Index := Scalar.indexCast v415
  let c8_249 : Index := 8#32
  ![0, v416.toNat, 8]
def k0_off4 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v426 : Index := Scalar.indexCast v398
  let c0_252 : Index := 0#32
  let c0_253 : Index := 0#32
  ![v426.toNat, 0, 0]
def k0_off5 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v440 : Index := Scalar.indexCast v398
  let c0_259 : Index := 0#32
  let c128_260 : Index := 128#32
  ![v440.toNat, 0, 128]
def k0_off6 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v458 : Index := Scalar.indexCast v398
  let c128_272 : Index := 128#32
  let c0_273 : Index := 0#32
  ![v458.toNat, 128, 0]
def k0_off7 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v474 : Index := Scalar.indexCast v398
  let c128_280 : Index := 128#32
  let c128_281 : Index := 128#32
  ![v474.toNat, 128, 128]
def k0_off8 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v503 : Index := Scalar.indexCast v398
  let c256_298 : Index := 256#32
  let c0_299 : Index := 0#32
  ![v503.toNat, 256, 0]
def k0_off9 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v517 : Index := Scalar.indexCast v398
  let c256_305 : Index := 256#32
  let c128_306 : Index := 128#32
  ![v517.toNat, 256, 128]
def k0_off10 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v535 : Index := Scalar.indexCast v398
  let c384_318 : Index := 384#32
  let c0_319 : Index := 0#32
  ![v535.toNat, 384, 0]
def k0_off11 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v551 : Index := Scalar.indexCast v398
  let c384_326 : Index := 384#32
  let c128_327 : Index := 128#32
  ![v551.toNat, 384, 128]
def k0_off12 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v580 : Index := Scalar.indexCast v398
  let c512_344 : Index := 512#32
  let c0_345 : Index := 0#32
  ![v580.toNat, 512, 0]
def k0_off13 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v594 : Index := Scalar.indexCast v398
  let c512_351 : Index := 512#32
  let c128_352 : Index := 128#32
  ![v594.toNat, 512, 128]
def k0_off14 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v612 : Index := Scalar.indexCast v398
  let c640_364 : Index := 640#32
  let c0_365 : Index := 0#32
  ![v612.toNat, 640, 0]
def k0_off15 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v628 : Index := Scalar.indexCast v398
  let c640_372 : Index := 640#32
  let c128_373 : Index := 128#32
  ![v628.toNat, 640, 128]
def k0_off16 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v657 : Index := Scalar.indexCast v398
  let c768_390 : Index := 768#32
  let c0_391 : Index := 0#32
  ![v657.toNat, 768, 0]
def k0_off17 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v671 : Index := Scalar.indexCast v398
  let c768_397 : Index := 768#32
  let c128_398 : Index := 128#32
  ![v671.toNat, 768, 128]
def k0_off18 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v689 : Index := Scalar.indexCast v398
  let c896_410 : Index := 896#32
  let c0_411 : Index := 0#32
  ![v689.toNat, 896, 0]
def k0_off19 (i : grid0.Coords) : Fin 3 → Nat :=
  let arg1 : BitVec 32 := BitVec.ofNat 32 (i 1).val
  let c16_i32_233 : BitVec 32 := 16#32
  let v397 : BitVec 32 := Scalar.subi arg1 c16_i32_233
  let c16_i32 : BitVec 32 := 16#32
  let v0 : BitVec 32 := Scalar.subi arg1 c16_i32
  let c0_i32 : BitVec 32 := 0#32
  let v1 : BitVec 32 := Scalar.maxsi v0 c0_i32
  let v398 : BitVec 32 := Scalar.subi v397 v1
  let v705 : Index := Scalar.indexCast v398
  let c896_418 : Index := 896#32
  let c128_419 : Index := 128#32
  ![v705.toNat, 896, 128]
@[reducible] def k0_t1_loop (i : grid0.Coords) : Scf.Loop 32 :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_16 : BitVec 32 := 1#32
  ⟨v22, v27, c1_i32_16⟩
def k0_mult2 (i : grid0.Coords) (k0_t1 : Fin (k0_t1_loop i).trips) : BitVec 32 :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c256_i32_233 : BitVec 32 := 256#32
  let v398 : BitVec 32 := Scalar.muli arg13 c256_i32_233
  v398
def k0_off20 (i : grid0.Coords) (k0_t1 : Fin (k0_t1_loop i).trips) : Fin 3 → Nat :=
  let c0_234 : Index := 0#32
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c256_i32_233 : BitVec 32 := 256#32
  let v398 : BitVec 32 := Scalar.muli arg13 c256_i32_233
  let v399 : BitVec 32 := v398
  let v400 : Index := Scalar.indexCast v399
  let c0_235 : Index := 0#32
  ![0, v400.toNat, 0]
def k0_off21 (i : grid0.Coords) (c0_i32_238 : BitVec 32) (c0_i32_240 : BitVec 32) : Fin 3 → Nat :=
  let c0_241 : Index := 0#32
  let c2_i32_237 : BitVec 32 := 2#32
  let arg1 : BitVec 32 := BitVec.ofNat 32 (i 1).val
  let v404 : BitVec 32 := Scalar.muli c2_i32_237 arg1
  let v405 : BitVec 32 := Scalar.addi v404 c0_i32_238
  let v408 : Index := Scalar.indexCast v405
  let arg2 : BitVec 32 := BitVec.ofNat 32 (i 2).val
  let c4_i32_239 : BitVec 32 := 4#32
  let v406 : BitVec 32 := Scalar.muli arg2 c4_i32_239
  let v407 : BitVec 32 := Scalar.addi v406 c0_i32_240
  let v409 : Index := Scalar.indexCast v407
  ![0, v408.toNat, v409.toNat]
def k0_off22 (i : grid0.Coords) (k0_t1 : Fin (k0_t1_loop i).trips) (c0_i32_246 : BitVec 32) : Fin 3 → Nat :=
  let c0_247 : Index := 0#32
  let c2_i32_245 : BitVec 32 := 2#32
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let v413 : BitVec 32 := Scalar.muli c2_i32_245 arg13
  let v414 : BitVec 32 := Scalar.addi v413 c0_i32_246
  let v415 : Index := Scalar.indexCast v414
  let c8_248 : Index := 8#32
  ![0, v415.toNat, 8]
def k0_off23 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v422 : Index := Scalar.indexCast v397
  let c0_250 : Index := 0#32
  let c0_251 : Index := 0#32
  ![v422.toNat, 0, 0]
def k0_off24 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v436 : Index := Scalar.indexCast v397
  let c0_257 : Index := 0#32
  let c128_258 : Index := 128#32
  ![v436.toNat, 0, 128]
def k0_off25 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v462 : Index := Scalar.indexCast v397
  let c128_274 : Index := 128#32
  let c0_275 : Index := 0#32
  ![v462.toNat, 128, 0]
def k0_off26 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v476 : Index := Scalar.indexCast v397
  let c128_281 : Index := 128#32
  let c128_282 : Index := 128#32
  ![v476.toNat, 128, 128]
def k0_off27 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v502 : Index := Scalar.indexCast v397
  let c256_298 : Index := 256#32
  let c0_299 : Index := 0#32
  ![v502.toNat, 256, 0]
def k0_off28 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v516 : Index := Scalar.indexCast v397
  let c256_305 : Index := 256#32
  let c128_306 : Index := 128#32
  ![v516.toNat, 256, 128]
def k0_off29 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v542 : Index := Scalar.indexCast v397
  let c384_322 : Index := 384#32
  let c0_323 : Index := 0#32
  ![v542.toNat, 384, 0]
def k0_off30 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v556 : Index := Scalar.indexCast v397
  let c384_329 : Index := 384#32
  let c128_330 : Index := 128#32
  ![v556.toNat, 384, 128]
def k0_off31 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v582 : Index := Scalar.indexCast v397
  let c512_346 : Index := 512#32
  let c0_347 : Index := 0#32
  ![v582.toNat, 512, 0]
def k0_off32 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v596 : Index := Scalar.indexCast v397
  let c512_353 : Index := 512#32
  let c128_354 : Index := 128#32
  ![v596.toNat, 512, 128]
def k0_off33 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v622 : Index := Scalar.indexCast v397
  let c640_370 : Index := 640#32
  let c0_371 : Index := 0#32
  ![v622.toNat, 640, 0]
def k0_off34 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v636 : Index := Scalar.indexCast v397
  let c640_377 : Index := 640#32
  let c128_378 : Index := 128#32
  ![v636.toNat, 640, 128]
def k0_off35 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v662 : Index := Scalar.indexCast v397
  let c768_394 : Index := 768#32
  let c0_395 : Index := 0#32
  ![v662.toNat, 768, 0]
def k0_off36 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v676 : Index := Scalar.indexCast v397
  let c768_401 : Index := 768#32
  let c128_402 : Index := 128#32
  ![v676.toNat, 768, 128]
def k0_off37 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v702 : Index := Scalar.indexCast v397
  let c896_418 : Index := 896#32
  let c0_419 : Index := 0#32
  ![v702.toNat, 896, 0]
def k0_off38 (i : grid0.Coords) (k0_t1 : Fin (k0_t1_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let c1_i32_16 : BitVec 32 := 1#32
  let arg13 : BitVec 32 := Scf.iv v22 c1_i32_16 k0_t1
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v716 : Index := Scalar.indexCast v397
  let c896_425 : Index := 896#32
  let c128_426 : Index := 128#32
  ![v716.toNat, 896, 128]
@[reducible] def k0_t2_loop (i : grid0.Coords) : Scf.Loop 32 :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let v24 : BitVec 32 := Scalar.addi v22 v23
  let c1_i32_17 : BitVec 32 := 1#32
  ⟨v27, v24, c1_i32_17⟩
def k0_mult3 (i : grid0.Coords) (k0_t2 : Fin (k0_t2_loop i).trips) : BitVec 32 :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c256_i32_233 : BitVec 32 := 256#32
  let v398 : BitVec 32 := Scalar.muli arg13 c256_i32_233
  v398
def k0_off39 (i : grid0.Coords) (k0_t2 : Fin (k0_t2_loop i).trips) : Fin 3 → Nat :=
  let c0_234 : Index := 0#32
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c256_i32_233 : BitVec 32 := 256#32
  let v398 : BitVec 32 := Scalar.muli arg13 c256_i32_233
  let v399 : BitVec 32 := v398
  let v400 : Index := Scalar.indexCast v399
  let c0_235 : Index := 0#32
  ![0, v400.toNat, 0]
def k0_off40 (i : grid0.Coords) (c0_i32_238 : BitVec 32) (c0_i32_240 : BitVec 32) : Fin 3 → Nat :=
  let c0_241 : Index := 0#32
  let c2_i32_237 : BitVec 32 := 2#32
  let arg1 : BitVec 32 := BitVec.ofNat 32 (i 1).val
  let v404 : BitVec 32 := Scalar.muli c2_i32_237 arg1
  let v405 : BitVec 32 := Scalar.addi v404 c0_i32_238
  let v408 : Index := Scalar.indexCast v405
  let arg2 : BitVec 32 := BitVec.ofNat 32 (i 2).val
  let c4_i32_239 : BitVec 32 := 4#32
  let v406 : BitVec 32 := Scalar.muli arg2 c4_i32_239
  let v407 : BitVec 32 := Scalar.addi v406 c0_i32_240
  let v409 : Index := Scalar.indexCast v407
  ![0, v408.toNat, v409.toNat]
def k0_off41 (i : grid0.Coords) (k0_t2 : Fin (k0_t2_loop i).trips) (c0_i32_246 : BitVec 32) : Fin 3 → Nat :=
  let c0_247 : Index := 0#32
  let c2_i32_245 : BitVec 32 := 2#32
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let v413 : BitVec 32 := Scalar.muli c2_i32_245 arg13
  let v414 : BitVec 32 := Scalar.addi v413 c0_i32_246
  let v415 : Index := Scalar.indexCast v414
  let c8_248 : Index := 8#32
  ![0, v415.toNat, 8]
def k0_off42 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v422 : Index := Scalar.indexCast v397
  let c0_250 : Index := 0#32
  let c0_251 : Index := 0#32
  ![v422.toNat, 0, 0]
def k0_off43 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v436 : Index := Scalar.indexCast v397
  let c0_257 : Index := 0#32
  let c128_258 : Index := 128#32
  ![v436.toNat, 0, 128]
def k0_off44 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v462 : Index := Scalar.indexCast v397
  let c128_274 : Index := 128#32
  let c0_275 : Index := 0#32
  ![v462.toNat, 128, 0]
def k0_off45 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v476 : Index := Scalar.indexCast v397
  let c128_281 : Index := 128#32
  let c128_282 : Index := 128#32
  ![v476.toNat, 128, 128]
def k0_off46 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v502 : Index := Scalar.indexCast v397
  let c256_298 : Index := 256#32
  let c0_299 : Index := 0#32
  ![v502.toNat, 256, 0]
def k0_off47 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v516 : Index := Scalar.indexCast v397
  let c256_305 : Index := 256#32
  let c128_306 : Index := 128#32
  ![v516.toNat, 256, 128]
def k0_off48 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v542 : Index := Scalar.indexCast v397
  let c384_322 : Index := 384#32
  let c0_323 : Index := 0#32
  ![v542.toNat, 384, 0]
def k0_off49 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v556 : Index := Scalar.indexCast v397
  let c384_329 : Index := 384#32
  let c128_330 : Index := 128#32
  ![v556.toNat, 384, 128]
def k0_off50 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v582 : Index := Scalar.indexCast v397
  let c512_346 : Index := 512#32
  let c0_347 : Index := 0#32
  ![v582.toNat, 512, 0]
def k0_off51 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v596 : Index := Scalar.indexCast v397
  let c512_353 : Index := 512#32
  let c128_354 : Index := 128#32
  ![v596.toNat, 512, 128]
def k0_off52 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v622 : Index := Scalar.indexCast v397
  let c640_370 : Index := 640#32
  let c0_371 : Index := 0#32
  ![v622.toNat, 640, 0]
def k0_off53 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v636 : Index := Scalar.indexCast v397
  let c640_377 : Index := 640#32
  let c128_378 : Index := 128#32
  ![v636.toNat, 640, 128]
def k0_off54 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v662 : Index := Scalar.indexCast v397
  let c768_394 : Index := 768#32
  let c0_395 : Index := 0#32
  ![v662.toNat, 768, 0]
def k0_off55 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v676 : Index := Scalar.indexCast v397
  let c768_401 : Index := 768#32
  let c128_402 : Index := 128#32
  ![v676.toNat, 768, 128]
def k0_off56 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v702 : Index := Scalar.indexCast v397
  let c896_418 : Index := 896#32
  let c0_419 : Index := 0#32
  ![v702.toNat, 896, 0]
def k0_off57 (i : grid0.Coords) (k0_t2 : Fin (k0_t2_loop i).trips) : Fin 3 → Nat :=
  let arg1 : BitVec 32 := BitVec.ofNat 32 (i 1).val
  let c16_i32_12 : BitVec 32 := 16#32
  let v20 : BitVec 32 := Scalar.subi arg1 c16_i32_12
  let c1_i32 : BitVec 32 := 1#32
  let v21 : BitVec 32 := Scalar.addi v20 c1_i32
  let c0_i32_13 : BitVec 32 := 0#32
  let v22 : BitVec 32 := Scalar.maxsi v21 c0_i32_13
  let v23 : BitVec 32 := Scalar.subi arg1 v22
  let c1_i32_15 : BitVec 32 := 1#32
  let v25 : BitVec 32 := Scalar.divsi v23 c1_i32_15
  let v26 : BitVec 32 := Scalar.muli v25 c1_i32_15
  let v27 : BitVec 32 := Scalar.addi v22 v26
  let c1_i32_17 : BitVec 32 := 1#32
  let arg13 : BitVec 32 := Scf.iv v27 c1_i32_17 k0_t2
  let c16_i32 : BitVec 32 := 16#32
  let v0 : BitVec 32 := Scalar.subi arg1 c16_i32
  let c0_i32 : BitVec 32 := 0#32
  let v1 : BitVec 32 := Scalar.maxsi v0 c0_i32
  let v397 : BitVec 32 := Scalar.subi arg13 v1
  let v716 : Index := Scalar.indexCast v397
  let c896_425 : Index := 896#32
  let c128_426 : Index := 128#32
  ![v716.toNat, 896, 128]
def k0_mult4 (i : grid0.Coords) : BitVec 32 :=
  let arg1 : BitVec 32 := BitVec.ofNat 32 (i 1).val
  let c256_i32 : BitVec 32 := 256#32
  let v29 : BitVec 32 := Scalar.muli arg1 c256_i32
  v29
def k0_off58 (i : grid0.Coords) : Fin 3 → Nat :=
  let c0_18 : Index := 0#32
  let arg1 : BitVec 32 := BitVec.ofNat 32 (i 1).val
  let c256_i32 : BitVec 32 := 256#32
  let v29 : BitVec 32 := Scalar.muli arg1 c256_i32
  let v30 : BitVec 32 := v29
  let v31 : Index := Scalar.indexCast v30
  let c0_19 : Index := 0#32
  ![0, v31.toNat, 0]
def k0_off59 (i : grid0.Coords) (c0_i32_21 : BitVec 32) (c0_i32_22 : BitVec 32) : Fin 3 → Nat :=
  let c0_23 : Index := 0#32
  let c2_i32 : BitVec 32 := 2#32
  let arg1 : BitVec 32 := BitVec.ofNat 32 (i 1).val
  let v35 : BitVec 32 := Scalar.muli c2_i32 arg1
  let v36 : BitVec 32 := Scalar.addi v35 c0_i32_21
  let v39 : Index := Scalar.indexCast v36
  let arg2 : BitVec 32 := BitVec.ofNat 32 (i 2).val
  let c4_i32 : BitVec 32 := 4#32
  let v37 : BitVec 32 := Scalar.muli arg2 c4_i32
  let v38 : BitVec 32 := Scalar.addi v37 c0_i32_22
  let v40 : Index := Scalar.indexCast v38
  ![0, v39.toNat, v40.toNat]
def k0_off60 (i : grid0.Coords) (c0_i32_28 : BitVec 32) : Fin 3 → Nat :=
  let c0_29 : Index := 0#32
  let c2_i32_27 : BitVec 32 := 2#32
  let arg1 : BitVec 32 := BitVec.ofNat 32 (i 1).val
  let v44 : BitVec 32 := Scalar.muli c2_i32_27 arg1
  let v45 : BitVec 32 := Scalar.addi v44 c0_i32_28
  let v46 : Index := Scalar.indexCast v45
  let c8 : Index := 8#32
  ![0, v46.toNat, 8]
def k0_off61 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v56 : Index := Scalar.indexCast v28
  let c0_32 : Index := 0#32
  let c0_33 : Index := 0#32
  ![v56.toNat, 0, 0]
def k0_off62 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v62 : Index := Scalar.indexCast v28
  let c0_35 : Index := 0#32
  let c128 : Index := 128#32
  ![v62.toNat, 0, 128]
def k0_off63 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v87 : Index := Scalar.indexCast v28
  let c128_51 : Index := 128#32
  let c0_52 : Index := 0#32
  ![v87.toNat, 128, 0]
def k0_off64 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v104 : Index := Scalar.indexCast v28
  let c128_59 : Index := 128#32
  let c128_60 : Index := 128#32
  ![v104.toNat, 128, 128]
def k0_off65 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v133 : Index := Scalar.indexCast v28
  let c256_77 : Index := 256#32
  let c0_78 : Index := 0#32
  ![v133.toNat, 256, 0]
def k0_off66 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v139 : Index := Scalar.indexCast v28
  let c256_80 : Index := 256#32
  let c128_81 : Index := 128#32
  ![v139.toNat, 256, 128]
def k0_off67 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v164 : Index := Scalar.indexCast v28
  let c384_96 : Index := 384#32
  let c0_97 : Index := 0#32
  ![v164.toNat, 384, 0]
def k0_off68 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v181 : Index := Scalar.indexCast v28
  let c384_104 : Index := 384#32
  let c128_105 : Index := 128#32
  ![v181.toNat, 384, 128]
def k0_off69 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v210 : Index := Scalar.indexCast v28
  let c512_122 : Index := 512#32
  let c0_123 : Index := 0#32
  ![v210.toNat, 512, 0]
def k0_off70 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v216 : Index := Scalar.indexCast v28
  let c512_125 : Index := 512#32
  let c128_126 : Index := 128#32
  ![v216.toNat, 512, 128]
def k0_off71 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v241 : Index := Scalar.indexCast v28
  let c640_141 : Index := 640#32
  let c0_142 : Index := 0#32
  ![v241.toNat, 640, 0]
def k0_off72 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v258 : Index := Scalar.indexCast v28
  let c640_149 : Index := 640#32
  let c128_150 : Index := 128#32
  ![v258.toNat, 640, 128]
def k0_off73 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v287 : Index := Scalar.indexCast v28
  let c768_166 : Index := 768#32
  let c0_167 : Index := 0#32
  ![v287.toNat, 768, 0]
def k0_off74 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v293 : Index := Scalar.indexCast v28
  let c768_169 : Index := 768#32
  let c128_170 : Index := 128#32
  ![v293.toNat, 768, 128]
def k0_off75 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v318 : Index := Scalar.indexCast v28
  let c896_185 : Index := 896#32
  let c0_186 : Index := 0#32
  ![v318.toNat, 896, 0]
def k0_off76 (i : grid0.Coords) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let v28 : BitVec 32 := Scalar.subi arg1 v1
  let v335 : Index := Scalar.indexCast v28
  let c896_193 : Index := 896#32
  let c128_194 : Index := 128#32
  ![v335.toNat, 896, 128]
@[reducible] def k0_t3_loop (i : grid0.Coords) : Scf.Loop 32 :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_212 : BitVec 32 := 1#32
  ⟨v1, v366, c1_i32_212⟩
def k0_off77 (i : grid0.Coords) (k0_t3 : Fin (k0_t3_loop i).trips) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let v397 : BitVec 32 := Scalar.subi arg13 v1
  let v399 : Index := Scalar.indexCast v397
  let c0_235 : Index := 0#32
  let c0_236 : Index := 0#32
  ![v399.toNat, 0, 0]
def k0_off78 (i : grid0.Coords) (k0_t3 : Fin (k0_t3_loop i).trips) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let v397 : BitVec 32 := Scalar.subi arg13 v1
  let v404 : Index := Scalar.indexCast v397
  let c0_237 : Index := 0#32
  let c128_238 : Index := 128#32
  ![v404.toNat, 0, 128]
def k0_mult5 (i : grid0.Coords) (k0_t3 : Fin (k0_t3_loop i).trips) : BitVec 32 :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let c256_i32_247 : BitVec 32 := 256#32
  let v425 : BitVec 32 := Scalar.muli arg13 c256_i32_247
  v425
def k0_off79 (i : grid0.Coords) (k0_t3 : Fin (k0_t3_loop i).trips) : Fin 3 → Nat :=
  let c0_249 : Index := 0#32
  let c2_i32_248 : BitVec 32 := 2#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let v427 : BitVec 32 := Scalar.muli c2_i32_248 arg13
  let v428 : Index := Scalar.indexCast v427
  let c9 : Index := 9#32
  ![0, v428.toNat, 9]
def k0_off80 (i : grid0.Coords) (k0_t3 : Fin (k0_t3_loop i).trips) : Fin 3 → Nat :=
  let c0_252 : Index := 0#32
  let c2_i32_250 : BitVec 32 := 2#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let v430 : BitVec 32 := Scalar.muli c2_i32_250 arg13
  let c1_i32_251 : BitVec 32 := 1#32
  let v431 : BitVec 32 := Scalar.addi v430 c1_i32_251
  let v432 : Index := Scalar.indexCast v431
  let c9_253 : Index := 9#32
  ![0, v432.toNat, 9]
def k0_off81 (i : grid0.Coords) (k0_t3 : Fin (k0_t3_loop i).trips) : Fin 3 → Nat :=
  let c0_256 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let c256_i32_247 : BitVec 32 := 256#32
  let v425 : BitVec 32 := Scalar.muli arg13 c256_i32_247
  let v426 : BitVec 32 := v425
  let v441 : Index := Scalar.indexCast v426
  let c0_257 : Index := 0#32
  ![0, v441.toNat, 0]
def k0_off82 (i : grid0.Coords) (k0_t3 : Fin (k0_t3_loop i).trips) : Fin 3 → Nat :=
  let c0_256 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let c256_i32_247 : BitVec 32 := 256#32
  let v425 : BitVec 32 := Scalar.muli arg13 c256_i32_247
  let v426 : BitVec 32 := v425
  let v440 : Index := Scalar.indexCast v426
  let c0_257 : Index := 0#32
  ![0, v440.toNat, 0]
def k0_off83 (i : grid0.Coords) (k0_t3 : Fin (k0_t3_loop i).trips) : Fin 3 → Nat :=
  let c0_259 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_212 : BitVec 32 := 1#32
  let arg13 : BitVec 32 := Scf.iv v1 c1_i32_212 k0_t3
  let c256_i32_247 : BitVec 32 := 256#32
  let v425 : BitVec 32 := Scalar.muli arg13 c256_i32_247
  let v426 : BitVec 32 := v425
  let c128_i32 : BitVec 32 := 128#32
  let v444 : BitVec 32 := Scalar.addi v426 c128_i32
  let v445 : Index := Scalar.indexCast v444
  let c0_260 : Index := 0#32
  ![0, v445.toNat, 0]
@[reducible] def k0_t4_loop (i : grid0.Coords) : Scf.Loop 32 :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let v363 : BitVec 32 := Scalar.addi v1 v362
  let c1_i32_213 : BitVec 32 := 1#32
  ⟨v366, v363, c1_i32_213⟩
def k0_off84 (i : grid0.Coords) (k0_t4 : Fin (k0_t4_loop i).trips) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let v397 : BitVec 32 := Scalar.subi arg13 v1
  let v399 : Index := Scalar.indexCast v397
  let c0_235 : Index := 0#32
  let c0_236 : Index := 0#32
  ![v399.toNat, 0, 0]
def k0_off85 (i : grid0.Coords) (k0_t4 : Fin (k0_t4_loop i).trips) : Fin 3 → Nat :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let v397 : BitVec 32 := Scalar.subi arg13 v1
  let v404 : Index := Scalar.indexCast v397
  let c0_237 : Index := 0#32
  let c128_238 : Index := 128#32
  ![v404.toNat, 0, 128]
def k0_mult6 (i : grid0.Coords) (k0_t4 : Fin (k0_t4_loop i).trips) : BitVec 32 :=
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let c256_i32_247 : BitVec 32 := 256#32
  let v425 : BitVec 32 := Scalar.muli arg13 c256_i32_247
  v425
def k0_off86 (i : grid0.Coords) (k0_t4 : Fin (k0_t4_loop i).trips) : Fin 3 → Nat :=
  let c0_249 : Index := 0#32
  let c2_i32_248 : BitVec 32 := 2#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let v427 : BitVec 32 := Scalar.muli c2_i32_248 arg13
  let v428 : Index := Scalar.indexCast v427
  let c9 : Index := 9#32
  ![0, v428.toNat, 9]
def k0_off87 (i : grid0.Coords) (k0_t4 : Fin (k0_t4_loop i).trips) : Fin 3 → Nat :=
  let c0_252 : Index := 0#32
  let c2_i32_250 : BitVec 32 := 2#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let v430 : BitVec 32 := Scalar.muli c2_i32_250 arg13
  let c1_i32_251 : BitVec 32 := 1#32
  let v431 : BitVec 32 := Scalar.addi v430 c1_i32_251
  let v432 : Index := Scalar.indexCast v431
  let c9_253 : Index := 9#32
  ![0, v432.toNat, 9]
def k0_off88 (i : grid0.Coords) (k0_t4 : Fin (k0_t4_loop i).trips) : Fin 3 → Nat :=
  let c0_256 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let c256_i32_247 : BitVec 32 := 256#32
  let v425 : BitVec 32 := Scalar.muli arg13 c256_i32_247
  let v426 : BitVec 32 := v425
  let v441 : Index := Scalar.indexCast v426
  let c0_257 : Index := 0#32
  ![0, v441.toNat, 0]
def k0_off89 (i : grid0.Coords) (k0_t4 : Fin (k0_t4_loop i).trips) : Fin 3 → Nat :=
  let c0_256 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let c256_i32_247 : BitVec 32 := 256#32
  let v425 : BitVec 32 := Scalar.muli arg13 c256_i32_247
  let v426 : BitVec 32 := v425
  let v440 : Index := Scalar.indexCast v426
  let c0_257 : Index := 0#32
  ![0, v440.toNat, 0]
def k0_off90 (i : grid0.Coords) (k0_t4 : Fin (k0_t4_loop i).trips) : Fin 3 → Nat :=
  let c0_259 : Index := 0#32
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c1_i32_209 : BitVec 32 := 1#32
  let v361 : BitVec 32 := Scalar.addi arg1 c1_i32_209
  let v362 : BitVec 32 := Scalar.subi v361 v1
  let c1_i32_211 : BitVec 32 := 1#32
  let v364 : BitVec 32 := Scalar.divsi v362 c1_i32_211
  let v365 : BitVec 32 := Scalar.muli v364 c1_i32_211
  let v366 : BitVec 32 := Scalar.addi v1 v365
  let c1_i32_213 : BitVec 32 := 1#32
  let arg13 : BitVec 32 := Scf.iv v366 c1_i32_213 k0_t4
  let c256_i32_247 : BitVec 32 := 256#32
  let v425 : BitVec 32 := Scalar.muli arg13 c256_i32_247
  let v426 : BitVec 32 := v425
  let c128_i32 : BitVec 32 := 128#32
  let v444 : BitVec 32 := Scalar.addi v426 c128_i32
  let v445 : Index := Scalar.indexCast v444
  let c0_260 : Index := 0#32
  ![0, v445.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .smem S1x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnIdeal.lean ====
variable {F : FTy → Type} [FloatOps F] [Named F]
def κ : String → Option EReal := fun
  | "log2e" => some (((Real.log 2)⁻¹ : ℝ) : EReal)
  | _ => none
-- ==== ReferenceIdeal.lean ====
abbrev S8x64x16 : Shape := ⟨3, ![8, 64, 16]⟩
abbrev S8x8192x2048 : Shape := ⟨3, ![8, 8192, 2048]⟩
abbrev S8x8192x256 : Shape := ⟨3, ![8, 8192, 256]⟩
abbrev S8x8192x8x256 : Shape := ⟨4, ![8, 8192, 8, 256]⟩
abbrev S8x64x128x256 : Shape := ⟨4, ![8, 64, 128, 256]⟩
abbrev S8x64x8 : Shape := ⟨3, ![8, 64, 8]⟩
abbrev S8x64x1x8 : Shape := ⟨4, ![8, 64, 1, 8]⟩
abbrev S8x64x128x8 : Shape := ⟨4, ![8, 64, 128, 8]⟩
abbrev S8x8192x8 : Shape := ⟨3, ![8, 8192, 8]⟩
abbrev S8x64x1 : Shape := ⟨3, ![8, 64, 1]⟩
abbrev S8x64 : Shape := ⟨2, ![8, 64]⟩
abbrev S8x64x128x8192x8 : Shape := ⟨5, ![8, 64, 128, 8192, 8]⟩
abbrev S8x8x8192x64x128 : Shape := ⟨5, ![8, 8, 8192, 64, 128]⟩
abbrev S8x8x8192 : Shape := ⟨3, ![8, 8, 8192]⟩
abbrev S8x8x8192x1x1 : Shape := ⟨5, ![8, 8, 8192, 1, 1]⟩
abbrev S8x1x1x64x1 : Shape := ⟨5, ![8, 1, 1, 64, 1]⟩
abbrev S8192x64x128 : Shape := ⟨3, ![8192, 64, 128]⟩
abbrev S1x1x8192x64x128 : Shape := ⟨5, ![1, 1, 8192, 64, 128]⟩
abbrev S8x64x256x8x8192 : Shape := ⟨5, ![8, 64, 256, 8, 8192]⟩
abbrev S8x8x8192x64x256 : Shape := ⟨5, ![8, 8, 8192, 64, 256]⟩
abbrev S8x8x8192x256 : Shape := ⟨4, ![8, 8, 8192, 256]⟩
abbrev S8x8x8192x1 : Shape := ⟨4, ![8, 8, 8192, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x64x16, .f32⟩
  | .hbm, ⟨1, _⟩ => ⟨S8x8192x2048, .fp8e4m3⟩
  | .hbm, ⟨2, _⟩ => ⟨S8x8192x256, .fp8e4m3⟩
  | .hbm, ⟨3, _⟩ => ⟨S8x8192x256, .fp8e4m3⟩
  | .hbm, ⟨4, _⟩ => ⟨S8x8192x2048, .bf16⟩
  | .local _ .vmem, ⟨0, _⟩ => ⟨S8x64x16, .f32⟩
  | .local _ .vmem, ⟨1, _⟩ => ⟨S8x8192x2048, .fp8e4m3⟩
  | .local _ .vmem, ⟨2, _⟩ => ⟨S8x8192x256, .fp8e4m3⟩
  | .local _ .vmem, ⟨3, _⟩ => ⟨S8x8192x256, .fp8e4m3⟩
  | .local _ .vmem, ⟨4, _⟩ => ⟨S8x8192x2048, .bf16⟩
  | _, _ => ⟨S8x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Quant.lean ====
abbrev S8x8192x2048 : Shape := ⟨3, ![8, 8192, 2048]⟩
abbrev S8x8192x256 : Shape := ⟨3, ![8, 8192, 256]⟩
abbrev S8x64x128 : Shape := ⟨3, ![8, 64, 128]⟩
abbrev S1x256x2048 : Shape := ⟨3, ![1, 256, 2048]⟩
abbrev S1x256x256 : Shape := ⟨3, ![1, 256, 256]⟩
abbrev S1x64x128 : Shape := ⟨3, ![1, 64, 128]⟩
abbrev S1x128 : Shape := ⟨2, ![1, 128]⟩
abbrev S1x128x256 : Shape := ⟨3, ![1, 128, 256]⟩
abbrev S128x256 : Shape := ⟨2, ![128, 256]⟩
abbrev S1 : Shape := ⟨1, ![1]⟩
abbrev S1x1x1 : Shape := ⟨3, ![1, 1, 1]⟩
abbrev S1x1 : Shape := ⟨2, ![1, 1]⟩
abbrev S1x1x128 : Shape := ⟨3, ![1, 1, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .fp8e4m3⟩
  | .hbm, ⟨4, _⟩ => ⟨S8x8192x256, .fp8e4m3⟩
  | .hbm, ⟨5, _⟩ => ⟨S8x8192x256, .fp8e4m3⟩
  | .hbm, ⟨6, _⟩ => ⟨S8x64x128, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x2048, .fp8e4m3⟩
  | .local _ .vmem, ⟨7, _⟩ => ⟨S1x256x2048, .fp8e4m3⟩
  | .local _ .vmem, ⟨8, _⟩ => ⟨S1x256x256, .fp8e4m3⟩
  | .local _ .vmem, ⟨9, _⟩ => ⟨S1x256x256, .fp8e4m3⟩
  | .local _ .vmem, ⟨10, _⟩ => ⟨S1x256x256, .fp8e4m3⟩
  | .local _ .vmem, ⟨11, _⟩ => ⟨S1x256x256, .fp8e4m3⟩
  | .local _ .vmem, ⟨12, _⟩ => ⟨S1x64x128, .f32⟩
  | .local _ .vmem, ⟨13, _⟩ => ⟨S1x64x128, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 32], ![false, false]⟩

def k0_off1 (i : grid0.Coords) (c0_i32_179 : BitVec 32) : Fin 3 → Nat :=
  let c0_180 : Index := 0#32
  let arg1 : BitVec 32 := BitVec.ofNat 32 (i 1).val
  let c2_i32_178 : BitVec 32 := 2#32
  let v472 : BitVec 32 := Scalar.muli arg1 c2_i32_178
  let v473 : BitVec 32 := Scalar.addi v472 c0_i32_179
  let v474 : Index := Scalar.indexCast v473
  let c0_181 : Index := 0#32
  ![0, v474.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QuantReference.lean ====
abbrev S8x8192x2048 : Shape := ⟨3, ![8, 8192, 2048]⟩
abbrev S8x8192x256 : Shape := ⟨3, ![8, 8192, 256]⟩
abbrev S8x64x128 : Shape := ⟨3, ![8, 64, 128]⟩
abbrev S8x64x128x8x256 : Shape := ⟨5, ![8, 64, 128, 8, 256]⟩
abbrev S8x64x8 : Shape := ⟨3, ![8, 64, 8]⟩
abbrev S8x64x1x8x1 : Shape := ⟨5, ![8, 64, 1, 8, 1]⟩
abbrev S8x64x128x1x256 : Shape := ⟨5, ![8, 64, 128, 1, 256]⟩
abbrev S8x64x1 : Shape := ⟨3, ![8, 64, 1]⟩
abbrev S8x64x1x1x1 : Shape := ⟨5, ![8, 64, 1, 1, 1]⟩
abbrev S8x64x118 : Shape := ⟨3, ![8, 64, 118]⟩

abbrev nBuf : Space → Nat
  | .hbm => 7
  | .vmem => 7
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .fp8e4m3⟩
  | .hbm, ⟨4, _⟩ => ⟨S8x8192x256, .fp8e4m3⟩
  | .hbm, ⟨5, _⟩ => ⟨S8x8192x256, .fp8e4m3⟩
  | .hbm, ⟨6, _⟩ => ⟨S8x64x128, .f32⟩
  | .local _ .vmem, ⟨0, _⟩ => ⟨S8x8192x2048, .bf16⟩
  | .local _ .vmem, ⟨1, _⟩ => ⟨S8x8192x256, .bf16⟩
  | .local _ .vmem, ⟨2, _⟩ => ⟨S8x8192x256, .bf16⟩
  | .local _ .vmem, ⟨3, _⟩ => ⟨S8x8192x2048, .fp8e4m3⟩
  | .local _ .vmem, ⟨4, _⟩ => ⟨S8x8192x256, .fp8e4m3⟩
  | .local _ .vmem, ⟨5, _⟩ => ⟨S8x8192x256, .fp8e4m3⟩
  | .local _ .vmem, ⟨6, _⟩ => ⟨S8x64x128, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.AttnOffs.lean ====
/- Closed forms of the offsets at which `Attn`'s kernel reads and writes: the pair of key blocks a trip visits, and the
   slot of the score scratch that pair is kept in. -/
module

public import proofs.«01_k».proof.Proof.Gen.Attn.Points

@[expose] public section

set_option maxRecDepth 16384

noncomputable section

namespace Cert.Proof.Attn

open Cert.Attn Cert.Attn.Gen
open Idealize.ShloMosaic Idealize.ShloMosaic.Tactic

/-- The number of a grid point's query tile. -/
abbrev tt (i : grid0.Coords) : ℕ := (i 1).val

instance cl_off4 (i : grid0.Coords) : ClosedOff (k0_off4 i) := ⟨![k0_off4 i 0, 0, 0], by funext a; fin_cases a <;> rfl⟩
instance cl_off5 (i : grid0.Coords) : ClosedOff (k0_off5 i) := ⟨![k0_off4 i 0, 0, 128], by funext a; fin_cases a <;> rfl⟩
instance cl_off6 (i : grid0.Coords) : ClosedOff (k0_off6 i) := ⟨![k0_off4 i 0, 128, 0], by funext a; fin_cases a <;> rfl⟩
instance cl_off7 (i : grid0.Coords) : ClosedOff (k0_off7 i) := ⟨![k0_off4 i 0, 128, 128], by funext a; fin_cases a <;> rfl⟩
instance cl_off8 (i : grid0.Coords) : ClosedOff (k0_off8 i) := ⟨![k0_off4 i 0, 256, 0], by funext a; fin_cases a <;> rfl⟩
instance cl_off9 (i : grid0.Coords) : ClosedOff (k0_off9 i) := ⟨![k0_off4 i 0, 256, 128], by funext a; fin_cases a <;> rfl⟩
instance cl_off10 (i : grid0.Coords) : ClosedOff (k0_off10 i) := ⟨![k0_off4 i 0, 384, 0], by funext a; fin_cases a <;> rfl⟩
instance cl_off11 (i : grid0.Coords) : ClosedOff (k0_off11 i) := ⟨![k0_off4 i 0, 384, 128], by funext a; fin_cases a <;> rfl⟩
instance cl_off12 (i : grid0.Coords) : ClosedOff (k0_off12 i) := ⟨![k0_off4 i 0, 512, 0], by funext a; fin_cases a <;> rfl⟩
instance cl_off13 (i : grid0.Coords) : ClosedOff (k0_off13 i) := ⟨![k0_off4 i 0, 512, 128], by funext a; fin_cases a <;> rfl⟩
instance cl_off14 (i : grid0.Coords) : ClosedOff (k0_off14 i) := ⟨![k0_off4 i 0, 640, 0], by funext a; fin_cases a <;> rfl⟩
instance cl_off15 (i : grid0.Coords) : ClosedOff (k0_off15 i) := ⟨![k0_off4 i 0, 640, 128], by funext a; fin_cases a <;> rfl⟩
instance cl_off16 (i : grid0.Coords) : ClosedOff (k0_off16 i) := ⟨![k0_off4 i 0, 768, 0], by funext a; fin_cases a <;> rfl⟩
instance cl_off17 (i : grid0.Coords) : ClosedOff (k0_off17 i) := ⟨![k0_off4 i 0, 768, 128], by funext a; fin_cases a <;> rfl⟩
instance cl_off18 (i : grid0.Coords) : ClosedOff (k0_off18 i) := ⟨![k0_off4 i 0, 896, 0], by funext a; fin_cases a <;> rfl⟩
instance cl_off19 (i : grid0.Coords) : ClosedOff (k0_off19 i) := ⟨![k0_off4 i 0, 896, 128], by funext a; fin_cases a <;> rfl⟩
theorem farPair_eq : ∀ (i : grid0.Coords), 16 ≤ tt i → k0_off1 i = ![0, 256 * (tt i - 16), 0] := by decide +kernel
theorem farScale_eq : ∀ (i : grid0.Coords) (r : Fin 2), 16 ≤ tt i → k0_off3 i (BitVec.ofNat 32 r.val) = ![0, 2 * (tt i - 16) + r.val, 8] := by decide +kernel
theorem farSlot_eq : ∀ (i : grid0.Coords), 16 ≤ tt i → k0_off4 i 0 = 0 := by decide +kernel
instance cl_off1 (i : grid0.Coords) : ClosedOff (k0_off1 i) := ⟨![0, k0_off1 i 1, 0], by funext a; fin_cases a <;> rfl⟩
instance cl_off3_0 (i : grid0.Coords) : ClosedOff (k0_off3 i 0#32) := ⟨![0, k0_off3 i 0#32 1, 8], by funext a; fin_cases a <;> rfl⟩
instance cl_off3_1 (i : grid0.Coords) : ClosedOff (k0_off3 i 1#32) := ⟨![0, k0_off3 i 1#32 1, 8], by funext a; fin_cases a <;> rfl⟩
theorem k0_off20_cl : ∀ (i : grid0.Coords) (k : Fin (k0_t1_loop i).trips), k0_off20 i k = ![0, 256 * ((tt i - 15) + k.val), 0] := by decide +kernel
instance cl_off20 (i : grid0.Coords) (k : Fin (k0_t1_loop i).trips) : ClosedOff (k0_off20 i k) := ⟨_, k0_off20_cl i k⟩
theorem k0_off22_cl : ∀ (i : grid0.Coords) (k : Fin (k0_t1_loop i).trips) (r : Fin 2), k0_off22 i k (BitVec.ofNat 32 r.val) = ![0, 2 * ((tt i - 15) + k.val) + r.val, 8] := by decide +kernel
instance cl_off22_0 (i : grid0.Coords) (k : Fin (k0_t1_loop i).trips) : ClosedOff (k0_off22 i k 0#32) := ⟨![0, 2 * ((tt i - 15) + k.val) + 0, 8], k0_off22_cl i k 0⟩
instance cl_off22_1 (i : grid0.Coords) (k : Fin (k0_t1_loop i).trips) : ClosedOff (k0_off22 i k 1#32) := ⟨![0, 2 * ((tt i - 15) + k.val) + 1, 8], k0_off22_cl i k 1⟩
theorem k0_off23_cl : ∀ (i : grid0.Coords) (k : Fin (k0_t1_loop i).trips), k0_off23 i k = ![(tt i - 15) + k.val - (tt i - 16), 0, 0] := by decide +kernel
instance cl_off23 (i : grid0.Coords) (k : Fin (k0_t1_loop i).trips) : ClosedOff (k0_off23 i k) := ⟨_, k0_off23_cl i k⟩
theorem k0_off24_cl (i : grid0.Coords) (k : Fin (k0_t1_loop i).trips) : k0_off24 i k = ![(tt i - 15) + k.val - (tt i - 16), 0, 128] := by
  have h := congrFun (k0_off23_cl i k) 0; funext a; fin_cases a; exacts [h, rfl, rfl]
instance cl_off24 (i : grid0.Coords) (k : Fin (k0_t1_loop i).trips) : ClosedOff (k0_off24 i k) := ⟨_, k0_off24_cl i k⟩
theorem k0_off25_cl (i : grid0.Coords) (k : Fin (k0_t1_loop i).trips) : k0_off25 i k = ![(tt i - 15) + k.val - (tt i - 16), 128, 0] := by
  have h := congrFun (k0_off23_cl i k) 0; funext a; fin_cases a; exacts [h, rfl, rfl]
instance cl_off25 (i : grid0.Coords) (k : Fin (k0_t1_loop i).trips) : ClosedOff (k0_off25 i k) := ⟨_, k0_off25_cl i k⟩
theorem k0_off26_cl (i : grid0.Coords) (k : Fin (k0_t1_loop i).trips) : k0_off26 i k = ![(tt i - 15) + k.val - (tt i - 16), 128, 128] := by
  have h := congrFun (k0_off23_cl i k) 0; funext a; fin_cases a; exacts [h, rfl, rfl]
instance cl_off26 (i : grid0.Coords) (k : Fin (k0_t1_loop i).trips) : ClosedOff (k0_off26 i k) := ⟨_, k0_off26_cl i k⟩
theorem k0_off27_cl (i : grid0.Coords) (k : Fin (k0_t1_loop i).trips) : k0_off27 i k = ![(tt i - 15) + k.val - (tt i - 16), 256, 0] := by
  have h := congrFun (k0_off23_cl i k) 0; funext a; fin_cases a; exacts [h, rfl, rfl]
instance cl_off27 (i : grid0.Coords) (k : Fin (k0_t1_loop i).trips) : ClosedOff (k0_off27 i k) := ⟨_, k0_off27_cl i k⟩
theorem k0_off28_cl (i : grid0.Coords) (k : Fin (k0_t1_loop i).trips) : k0_off28 i k = ![(tt i - 15) + k.val - (tt i - 16), 256, 128] := by
  have h := congrFun (k0_off23_cl i k) 0; funext a; fin_cases a; exacts [h, rfl, rfl]
instance cl_off28 (i : grid0.Coords) (k : Fin (k0_t1_loop i).trips) : ClosedOff (k0_off28 i k) := ⟨_, k0_off28_cl i k⟩
theorem k0_off29_cl (i : grid0.Coords) (k : Fin (k0_t1_loop i).trips) : k0_off29 i k = ![(tt i - 15) + k.val - (tt i - 16), 384, 0] := by
  have h := congrFun (k0_off23_cl i k) 0; funext a; fin_cases a; exacts [h, rfl, rfl]
instance cl_off29 (i : grid0.Coords) (k : Fin (k0_t1_loop i).trips) : ClosedOff (k0_off29 i k) := ⟨_, k0_off29_cl i k⟩
theorem k0_off30_cl (i : grid0.Coords) (k : Fin (k0_t1_loop i).trips) : k0_off30 i k = ![(tt i - 15) + k.val - (tt i - 16), 384, 128] := by
  have h := congrFun (k0_off23_cl i k) 0; funext a; fin_cases a; exacts [h, rfl, rfl]
instance cl_off30 (i : grid0.Coords) (k : Fin (k0_t1_loop i).trips) : ClosedOff (k0_off30 i k) := ⟨_, k0_off30_cl i k⟩
theorem k0_off31_cl (i : grid0.Coords) (k : Fin (k0_t1_loop i).trips) : k0_off31 i k = ![(tt i - 15) + k.val - (tt i - 16), 512, 0] := by
  have h := congrFun (k0_off23_cl i k) 0; funext a; fin_cases a; exacts [h, rfl, rfl]
instance cl_off31 (i : grid0.Coords) (k : Fin (k0_t1_loop i).trips) : ClosedOff (k0_off31 i k) := ⟨_, k0_off31_cl i k⟩
theorem k0_off32_cl (i : grid0.Coords) (k : Fin (k0_t1_loop i).trips) : k0_off32 i k = ![(tt i - 15) + k.val - (tt i - 16), 512, 128] := by
  have h := congrFun (k0_off23_cl i k) 0; funext a; fin_cases a; exacts [h, rfl, rfl]
instance cl_off32 (i : grid0.Coords) (k : Fin (k0_t1_loop i).trips) : ClosedOff (k0_off32 i k) := ⟨_, k0_off32_cl i k⟩
theorem k0_off33_cl (i : grid0.Coords) (k : Fin (k0_t1_loop i).trips) : k0_off33 i k = ![(tt i - 15) + k.val - (tt i - 16), 640, 0] := by
  have h := congrFun (k0_off23_cl i k) 0; funext a; fin_cases a; exacts [h, rfl, rfl]
instance cl_off33 (i : grid0.Coords) (k : Fin (k0_t1_loop i).trips) : ClosedOff (k0_off33 i k) := ⟨_, k0_off33_cl i k⟩
theorem k0_off34_cl (i : grid0.Coords) (k : Fin (k0_t1_loop i).trips) : k0_off34 i k = ![(tt i - 15) + k.val - (tt i - 16), 640, 128] := by
  have h := congrFun (k0_off23_cl i k) 0; funext a; fin_cases a; exacts [h, rfl, rfl]
instance cl_off34 (i : grid0.Coords) (k : Fin (k0_t1_loop i).trips) : ClosedOff (k0_off34 i k) := ⟨_, k0_off34_cl i k⟩
theorem k0_off35_cl (i : grid0.Coords) (k : Fin (k0_t1_loop i).trips) : k0_off35 i k = ![(tt i - 15) + k.val - (tt i - 16), 768, 0] := by
  have h := congrFun (k0_off23_cl i k) 0; funext a; fin_cases a; exacts [h, rfl, rfl]
instance cl_off35 (i : grid0.Coords) (k : Fin (k0_t1_loop i).trips) : ClosedOff (k0_off35 i k) := ⟨_, k0_off35_cl i k⟩
theorem k0_off36_cl (i : grid0.Coords) (k : Fin (k0_t1_loop i).trips) : k0_off36 i k = ![(tt i - 15) + k.val - (tt i - 16), 768, 128] := by
  have h := congrFun (k0_off23_cl i k) 0; funext a; fin_cases a; exacts [h, rfl, rfl]
instance cl_off36 (i : grid0.Coords) (k : Fin (k0_t1_loop i).trips) : ClosedOff (k0_off36 i k) := ⟨_, k0_off36_cl i k⟩
theorem k0_off37_cl (i : grid0.Coords) (k : Fin (k0_t1_loop i).trips) : k0_off37 i k = ![(tt i - 15) + k.val - (tt i - 16), 896, 0] := by
  have h := congrFun (k0_off23_cl i k) 0; funext a; fin_cases a; exacts [h, rfl, rfl]
instance cl_off37 (i : grid0.Coords) (k : Fin (k0_t1_loop i).trips) : ClosedOff (k0_off37 i k) := ⟨_, k0_off37_cl i k⟩
theorem k0_off38_cl (i : grid0.Coords) (k : Fin (k0_t1_loop i).trips) : k0_off38 i k = ![(tt i - 15) + k.val - (tt i - 16), 896, 128] := by
  have h := congrFun (k0_off23_cl i k) 0; funext a; fin_cases a; exacts [h, rfl, rfl]
instance cl_off38 (i : grid0.Coords) (k : Fin (k0_t1_loop i).trips) : ClosedOff (k0_off38 i k) := ⟨_, k0_off38_cl i k⟩
theorem k0_off61_cl : ∀ (i : grid0.Coords), k0_off61 i = ![tt i - (tt i - 16), 0, 0] := by decide +kernel
instance cl_off61 (i : grid0.Coords) : ClosedOff (k0_off61 i) := ⟨_, k0_off61_cl i⟩
theorem k0_off62_cl (i : grid0.Coords) : k0_off62 i = ![tt i - (tt i - 16), 0, 128] := by
  have h := congrFun (k0_off61_cl i) 0; funext a; fin_cases a; exacts [h, rfl, rfl]
instance cl_off62 (i : grid0.Coords) : ClosedOff (k0_off62 i) := ⟨_, k0_off62_cl i⟩
theorem k0_off63_cl (i : grid0.Coords) : k0_off63 i = ![tt i - (tt i - 16), 128, 0] := by
  have h := congrFun (k0_off61_cl i) 0; funext a; fin_cases a; exacts [h, rfl, rfl]
instance cl_off63 (i : grid0.Coords) : ClosedOff (k0_off63 i) := ⟨_, k0_off63_cl i⟩
theorem k0_off64_cl (i : grid0.Coords) : k0_off64 i = ![tt i - (tt i - 16), 128, 128] := by
  have h := congrFun (k0_off61_cl i) 0; funext a; fin_cases a; exacts [h, rfl, rfl]
instance cl_off64 (i : grid0.Coords) : ClosedOff (k0_off64 i) := ⟨_, k0_off64_cl i⟩
theorem k0_off65_cl (i : grid0.Coords) : k0_off65 i = ![tt i - (tt i - 16), 256, 0] := by
  have h := congrFun (k0_off61_cl i) 0; funext a; fin_cases a; exacts [h, rfl, rfl]
instance cl_off65 (i : grid0.Coords) : ClosedOff (k0_off65 i) := ⟨_, k0_off65_cl i⟩
theorem k0_off66_cl (i : grid0.Coords) : k0_off66 i = ![tt i - (tt i - 16), 256, 128] := by
  have h := congrFun (k0_off61_cl i) 0; funext a; fin_cases a; exacts [h, rfl, rfl]
instance cl_off66 (i : grid0.Coords) : ClosedOff (k0_off66 i) := ⟨_, k0_off66_cl i⟩
theorem k0_off67_cl (i : grid0.Coords) : k0_off67 i = ![tt i - (tt i - 16), 384, 0] := by
  have h := congrFun (k0_off61_cl i) 0; funext a; fin_cases a; exacts [h, rfl, rfl]
instance cl_off67 (i : grid0.Coords) : ClosedOff (k0_off67 i) := ⟨_, k0_off67_cl i⟩
theorem k0_off68_cl (i : grid0.Coords) : k0_off68 i = ![tt i - (tt i - 16), 384, 128] := by
  have h := congrFun (k0_off61_cl i) 0; funext a; fin_cases a; exacts [h, rfl, rfl]
instance cl_off68 (i : grid0.Coords) : ClosedOff (k0_off68 i) := ⟨_, k0_off68_cl i⟩
theorem k0_off69_cl (i : grid0.Coords) : k0_off69 i = ![tt i - (tt i - 16), 512, 0] := by
  have h := congrFun (k0_off61_cl i) 0; funext a; fin_cases a; exacts [h, rfl, rfl]
instance cl_off69 (i : grid0.Coords) : ClosedOff (k0_off69 i) := ⟨_, k0_off69_cl i⟩
theorem k0_off70_cl (i : grid0.Coords) : k0_off70 i = ![tt i - (tt i - 16), 512, 128] := by
  have h := congrFun (k0_off61_cl i) 0; funext a; fin_cases a; exacts [h, rfl, rfl]
instance cl_off70 (i : grid0.Coords) : ClosedOff (k0_off70 i) := ⟨_, k0_off70_cl i⟩
theorem k0_off71_cl (i : grid0.Coords) : k0_off71 i = ![tt i - (tt i - 16), 640, 0] := by
  have h := congrFun (k0_off61_cl i) 0; funext a; fin_cases a; exacts [h, rfl, rfl]
instance cl_off71 (i : grid0.Coords) : ClosedOff (k0_off71 i) := ⟨_, k0_off71_cl i⟩
theorem k0_off72_cl (i : grid0.Coords) : k0_off72 i = ![tt i - (tt i - 16), 640, 128] := by
  have h := congrFun (k0_off61_cl i) 0; funext a; fin_cases a; exacts [h, rfl, rfl]
instance cl_off72 (i : grid0.Coords) : ClosedOff (k0_off72 i) := ⟨_, k0_off72_cl i⟩
theorem k0_off73_cl (i : grid0.Coords) : k0_off73 i = ![tt i - (tt i - 16), 768, 0] := by
  have h := congrFun (k0_off61_cl i) 0; funext a; fin_cases a; exacts [h, rfl, rfl]
instance cl_off73 (i : grid0.Coords) : ClosedOff (k0_off73 i) := ⟨_, k0_off73_cl i⟩
theorem k0_off74_cl (i : grid0.Coords) : k0_off74 i = ![tt i - (tt i - 16), 768, 128] := by
  have h := congrFun (k0_off61_cl i) 0; funext a; fin_cases a; exacts [h, rfl, rfl]
instance cl_off74 (i : grid0.Coords) : ClosedOff (k0_off74 i) := ⟨_, k0_off74_cl i⟩
theorem k0_off75_cl (i : grid0.Coords) : k0_off75 i = ![tt i - (tt i - 16), 896, 0] := by
  have h := congrFun (k0_off61_cl i) 0; funext a; fin_cases a; exacts [h, rfl, rfl]
instance cl_off75 (i : grid0.Coords) : ClosedOff (k0_off75 i) := ⟨_, k0_off75_cl i⟩
theorem k0_off76_cl (i : grid0.Coords) : k0_off76 i = ![tt i - (tt i - 16), 896, 128] := by
  have h := congrFun (k0_off61_cl i) 0; funext a; fin_cases a; exacts [h, rfl, rfl]
instance cl_off76 (i : grid0.Coords) : ClosedOff (k0_off76 i) := ⟨_, k0_off76_cl i⟩
theorem k0_off77_cl : ∀ (i : grid0.Coords) (k : Fin (k0_t3_loop i).trips), k0_off77 i k = ![k.val, 0, 0] := by decide +kernel
theorem k0_off78_cl : ∀ (i : grid0.Coords) (k : Fin (k0_t3_loop i).trips), k0_off78 i k = ![k.val, 0, 128] := by decide +kernel
theorem k0_off79_cl : ∀ (i : grid0.Coords) (k : Fin (k0_t3_loop i).trips), k0_off79 i k = ![0, 2 * ((tt i - 16) + k.val), 9] := by decide +kernel
theorem k0_off80_cl : ∀ (i : grid0.Coords) (k : Fin (k0_t3_loop i).trips), k0_off80 i k = ![0, 2 * ((tt i - 16) + k.val) + 1, 9] := by decide +kernel
theorem k0_off81_cl : ∀ (i : grid0.Coords) (k : Fin (k0_t3_loop i).trips), k0_off81 i k = ![0, 256 * ((tt i - 16) + k.val), 0] := by decide +kernel
theorem k0_off82_cl : ∀ (i : grid0.Coords) (k : Fin (k0_t3_loop i).trips), k0_off82 i k = ![0, 256 * ((tt i - 16) + k.val), 0] := by decide +kernel
theorem k0_off83_cl : ∀ (i : grid0.Coords) (k : Fin (k0_t3_loop i).trips), k0_off83 i k = ![0, 256 * ((tt i - 16) + k.val) + 128, 0] := by decide +kernel
instance cl_off77 (i : grid0.Coords) (k : Fin (k0_t3_loop i).trips) : ClosedOff (k0_off77 i k) := ⟨_, k0_off77_cl i k⟩
instance cl_off78 (i : grid0.Coords) (k : Fin (k0_t3_loop i).trips) : ClosedOff (k0_off78 i k) := ⟨_, k0_off78_cl i k⟩
instance cl_off79 (i : grid0.Coords) (k : Fin (k0_t3_loop i).trips) : ClosedOff (k0_off79 i k) := ⟨_, k0_off79_cl i k⟩
instance cl_off80 (i : grid0.Coords) (k : Fin (k0_t3_loop i).trips) : ClosedOff (k0_off80 i k) := ⟨_, k0_off80_cl i k⟩
instance cl_off81 (i : grid0.Coords) (k : Fin (k0_t3_loop i).trips) : ClosedOff (k0_off81 i k) := ⟨_, k0_off81_cl i k⟩
instance cl_off82 (i : grid0.Coords) (k : Fin (k0_t3_loop i).trips) : ClosedOff (k0_off82 i k) := ⟨_, k0_off82_cl i k⟩
instance cl_off83 (i : grid0.Coords) (k : Fin (k0_t3_loop i).trips) : ClosedOff (k0_off83 i k) := ⟨_, k0_off83_cl i k⟩

/-- The pairs of the second loop: those after the window's first pair and before the diagonal one. -/
theorem t1_trips : ∀ i : grid0.Coords, (k0_t1_loop i).trips = tt i - (tt i - 15) := by decide +kernel
theorem t2_trips : ∀ i : grid0.Coords, (k0_t2_loop i).trips = 0 := by decide +kernel
theorem t3_trips : ∀ i : grid0.Coords, (k0_t3_loop i).trips = tt i + 1 - (tt i - 16) := by decide +kernel
theorem t4_trips : ∀ i : grid0.Coords, (k0_t4_loop i).trips = 0 := by decide +kernel

end Cert.Proof.Attn

end
-- ==== Proof.AttnMid.lean ====
/- `Attn`: the loop over the pairs of key blocks between the first and the diagonal one. One trip stores sixteen tiles of
   scores and raises the running maximum of eight groups of rows. -/
module

public import proofs.«01_k».proof.Proof.AttnOffs
public import proofs.«01_k».proof.Proof.Gen.Attn.Loops
public import proofs.«01_k».proof.Proof.Gen.Attn.Frame

@[expose] public section

set_option maxRecDepth 65536
set_option maxHeartbeats 8000000

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame: points-tos alone. -/
local notation "𝕄" => MT nD τ sig Unit (Elt F) ℕ (UR sig nD τ) ℕ

/-- A buffer held whole at the contents `f`. -/
abbrev held (c : Dev nD) {sp : Space} {s : Shape} {e : EltTy} (b : Memref sig .tc sp s e) (f : BufTy.Contents (Elt F) b.view.ty) : sProp 𝕄 :=
  b.view.loc (c : Thread nD τ) ↦[b.view.set]{fullShare} f

/-- What one trip touches: the scales, the keys, the scratch of scores, the running maxima. -/
abbrev Mid (c : Dev nD) (arg3 : Memref sig .tc .smem S1x64x16 .f32) (arg5 : Memref sig .tc .vmem S1x8192x256 .fp8e4m3)
    (arg8 : Memref sig .tc .vmem S17x1024x256 .f32) (arg9 : Memref sig .tc .vmem S1024x128 .f32)
    (X3 : BufTy.Contents (Elt F) arg3.view.ty) (X5 : BufTy.Contents (Elt F) arg5.view.ty) (f8 : BufTy.Contents (Elt F) arg8.view.ty) (f9 : BufTy.Contents (Elt F) arg9.view.ty) : sProp 𝕄 :=
  iprop(held c arg3 X3 ∗ held c arg5 X5 ∗ held c arg8 f8 ∗ held c arg9 f9)

/-- One trip: the tiles it stores, and the maxima it stores over those it finds. -/
@[irreducible] def midTrip (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (f9 : BufTy.Contents (Elt F) arg9.view.ty) (k : Fin (k0_t1_loop i).trips) :
    Σ' L8 : List (View.Piece (Elt F) S17x1024x256 .f32), { L9 : List (View.Piece (Elt F) S1024x128 .f32) //
      ∀ (E : Set ℕ) (f8 : BufTy.Contents (Elt F) arg8.view.ty),
      Mid c arg3 arg5 arg8 arg9 X3 X5 f8 f9
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg1 arg2 v1 v2 v4 v6 v8 v22 k PUnit.unit)
          (fun _ => Mid c arg3 arg5 arg8 arg9 X3 X5 (arg8.view.writes (Elt F) f8 L8) (arg9.view.writes (Elt F) f9 L9)) } := by
  refine ⟨?_, ?_, fun E f8 => ?run⟩
  case run =>
    unfold k0_t1_body
    iintro ⟨H3, H5, H8, H9⟩
    sl_exec_parts
    sl_step
    sl_close

/-- The tiles trip `k` stores (they do not depend on the maxima found). -/
def midL8 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (k : Fin (k0_t1_loop i).trips) : BufTy.Contents (Elt F) arg9.view.ty → List (View.Piece (Elt F) S17x1024x256 .f32) :=
  fun f9 => (midTrip c i arg3 harg3 arg4 harg4 arg5 harg5 arg6 harg6 arg7 harg7 arg8 harg8 arg9 harg9 arg10 harg10 arg11 harg11 arg12 harg12 arg1 arg2 v1 v2 v4 v6 v8 v22 X3 X5 f9 k).1

/-- The scratch of scores and the running maxima before trip `k`. -/
def midAt (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) :
    ℕ → BufTy.Contents (Elt F) arg8.view.ty × BufTy.Contents (Elt F) arg9.view.ty
  | 0 => (G8, G9)
  | k + 1 =>
    let p := midAt c i arg3 harg3 arg4 harg4 arg5 harg5 arg6 harg6 arg7 harg7 arg8 harg8 arg9 harg9 arg10 harg10 arg11 harg11 arg12 harg12 arg1 arg2 v1 v2 v4 v6 v8 v22 X3 X5 G8 G9 k
    if h : k < (k0_t1_loop i).trips then
      (arg8.view.writes (Elt F) p.1 (midTrip c i arg3 harg3 arg4 harg4 arg5 harg5 arg6 harg6 arg7 harg7 arg8 harg8 arg9 harg9 arg10 harg10 arg11 harg11 arg12 harg12 arg1 arg2 v1 v2 v4 v6 v8 v22 X3 X5 p.2 ⟨k, h⟩).1, arg9.view.writes (Elt F) p.2 (midTrip c i arg3 harg3 arg4 harg4 arg5 harg5 arg6 harg6 arg7 harg7 arg8 harg8 arg9 harg9 arg10 harg10 arg11 harg11 arg12 harg12 arg1 arg2 v1 v2 v4 v6 v8 v22 X3 X5 p.2 ⟨k, h⟩).2.1)
    else p

theorem midAt_succ (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) (k : Fin (k0_t1_loop i).trips) :
    midAt c i arg3 harg3 arg4 harg4 arg5 harg5 arg6 harg6 arg7 harg7 arg8 harg8 arg9 harg9 arg10 harg10 arg11 harg11 arg12 harg12 arg1 arg2 v1 v2 v4 v6 v8 v22 X3 X5 G8 G9 (k.val + 1)
      = (arg8.view.writes (Elt F) (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).1 (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).1,
         arg9.view.writes (Elt F) (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).2.1) := by
  rw [midAt.eq_2]; exact dif_pos k.isLt

set_option warn.classDefReducibility false in
/-- The loop's invariant: the two buffers at the contents `midAt` gives. -/
@[sl_loop] def loopInv_k0_t1 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v1 v2 v4 v6 v8 v22 where
  inv := fun k _ => Mid c arg3 arg5 arg8 arg9 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k).1 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k).2
  step := fun k _ => by
    rw [midAt_succ]
    exact (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).2.2 Set.univ _

set_option warn.classDefReducibility false in
/-- The loop's remainder has no trip. -/
@[sl_loop] def loopInv_k0_t2 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v10 : FVec F S1024x256 .fp8e4m3) (v11 : IVec S128x128 32) (v12 : IVec S128x128 32) (v27 : BitVec 32) (c1_i32_17 : BitVec 32) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v1 v10 v11 v12 v27 c1_i32_17 where
  inv := fun _ _ => iprop(emp)
  step := fun k _ => absurd (Nat.lt_of_lt_of_eq k.isLt (t2_trips i)) (Nat.not_lt_zero _)

end Cert.Proof.Attn

end
-- ==== Proof.AttnProbs.lean ====
/- `Attn`: the loop that turns scores into probabilities, sums them and weighs the values. -/
module

public import proofs.«01_k».proof.Proof.AttnMid

@[expose] public section

set_option maxRecDepth 65536
set_option maxHeartbeats 8000000

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame: points-tos alone. -/
local notation "𝕄" => MT nD τ sig Unit (Elt F) ℕ (UR sig nD τ) ℕ

/-- What one trip touches: the scales, the values, the scores, the offset of the exponents, the two sums. -/
abbrev Probs (c : Dev nD) (arg3 : Memref sig .tc .smem S1x64x16 .f32) (arg6 : Memref sig .tc .vmem S1x8192x256 .fp8e4m3)
    (arg8 : Memref sig .tc .vmem S17x1024x256 .f32) (arg10 : Memref sig .tc .vmem S1024x128 .f32) (arg11 : Memref sig .tc .vmem S1024x128 .f32) (arg12 : Memref sig .tc .vmem S1024x256 .f32)
    (X3 : BufTy.Contents (Elt F) arg3.view.ty) (X6 : BufTy.Contents (Elt F) arg6.view.ty) (X8 : BufTy.Contents (Elt F) arg8.view.ty) (X10 : BufTy.Contents (Elt F) arg10.view.ty) (f11 : BufTy.Contents (Elt F) arg11.view.ty) (f12 : BufTy.Contents (Elt F) arg12.view.ty) : sProp 𝕄 :=
  iprop(held c arg3 X3 ∗ held c arg6 X6 ∗ held c arg8 X8 ∗ held c arg10 X10 ∗ held c arg11 f11 ∗ held c arg12 f12)

/-- One trip: the two sums it leaves. -/
@[irreducible] def probsTrip (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (f11 : BufTy.Contents (Elt F) arg11.view.ty) (f12 : BufTy.Contents (Elt F) arg12.view.ty) (k : Fin (k0_t3_loop i).trips) :
    Σ' g11 : BufTy.Contents (Elt F) arg11.view.ty, { g12 : BufTy.Contents (Elt F) arg12.view.ty //
      ∀ (E : Set ℕ),
      Probs c arg3 arg6 arg8 arg10 arg11 arg12 X3 X6 X8 X10 f11 f12
      ⊢ wp frame (wpE (defs₀ (F := F)) Variants.none (c : Thread nD τ) none) E (k0_t3_body (F := F) i arg3 harg3 arg4 harg4 arg5 harg5 arg6 harg6 arg7 harg7 arg8 harg8 arg9 harg9 arg10 harg10 arg11 harg11 arg12 harg12 arg1 v1 v349 k PUnit.unit)
          (fun _ => Probs c arg3 arg6 arg8 arg10 arg11 arg12 X3 X6 X8 X10 g11 g12) } := by
  refine ⟨?_, ?_, fun E => ?run⟩
  case run =>
    unfold k0_t3_body
    iintro ⟨H3, H6, H8, H10, H11, H12⟩
    sl_exec_parts
    sl_step
    isplitl [H3]; · iexact H3
    isplitl [H6]; · iexact H6
    isplitl [H8]; · iexact H8
    isplitl [H10]; · iexact H10
    isplitl [H11]; · iexact H11
    iexact H12

/-- The two sums before trip `k`. -/
def probsAt (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) :
    ℕ → BufTy.Contents (Elt F) arg11.view.ty × BufTy.Contents (Elt F) arg12.view.ty
  | 0 => (G11, G12)
  | k + 1 =>
    let p := probsAt c i arg3 harg3 arg4 harg4 arg5 harg5 arg6 harg6 arg7 harg7 arg8 harg8 arg9 harg9 arg10 harg10 arg11 harg11 arg12 harg12 arg1 v1 v349 X3 X6 X8 X10 G11 G12 k
    if h : k < (k0_t3_loop i).trips then
      ((probsTrip c i arg3 harg3 arg4 harg4 arg5 harg5 arg6 harg6 arg7 harg7 arg8 harg8 arg9 harg9 arg10 harg10 arg11 harg11 arg12 harg12 arg1 v1 v349 X3 X6 X8 X10 p.1 p.2 ⟨k, h⟩).1, (probsTrip c i arg3 harg3 arg4 harg4 arg5 harg5 arg6 harg6 arg7 harg7 arg8 harg8 arg9 harg9 arg10 harg10 arg11 harg11 arg12 harg12 arg1 v1 v349 X3 X6 X8 X10 p.1 p.2 ⟨k, h⟩).2.1)
    else p

theorem probsAt_succ (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : Fin (k0_t3_loop i).trips) :
    probsAt c i arg3 harg3 arg4 harg4 arg5 harg5 arg6 harg6 arg7 harg7 arg8 harg8 arg9 harg9 arg10 harg10 arg11 harg11 arg12 harg12 arg1 v1 v349 X3 X6 X8 X10 G11 G12 (k.val + 1)
      = ((probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).1,
         (probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).2.1) := by
  rw [probsAt.eq_2]; exact dif_pos k.isLt

/-- The first sum before trip `k` (the one before the first trip in plain sight), -/
def probs11 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) : BufTy.Contents (Elt F) arg11.view.ty :=
  match k with
  | 0 => G11
  | k + 1 => (probsAt c i arg3 harg3 arg4 harg4 arg5 harg5 arg6 harg6 arg7 harg7 arg8 harg8 arg9 harg9 arg10 harg10 arg11 harg11 arg12 harg12 arg1 v1 v349 X3 X6 X8 X10 G11 G12 (k + 1)).1
/-- and the second. -/
def probs12 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) : BufTy.Contents (Elt F) arg12.view.ty :=
  match k with
  | 0 => G12
  | k + 1 => (probsAt c i arg3 harg3 arg4 harg4 arg5 harg5 arg6 harg6 arg7 harg7 arg8 harg8 arg9 harg9 arg10 harg10 arg11 harg11 arg12 harg12 arg1 v1 v349 X3 X6 X8 X10 G11 G12 (k + 1)).2

theorem probs11_eq (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) :
    probs11 c i arg3 harg3 arg4 harg4 arg5 harg5 arg6 harg6 arg7 harg7 arg8 harg8 arg9 harg9 arg10 harg10 arg11 harg11 arg12 harg12 arg1 v1 v349 X3 X6 X8 X10 G11 G12 k = (probsAt c i arg3 harg3 arg4 harg4 arg5 harg5 arg6 harg6 arg7 harg7 arg8 harg8 arg9 harg9 arg10 harg10 arg11 harg11 arg12 harg12 arg1 v1 v349 X3 X6 X8 X10 G11 G12 k).1 := by cases k <;> rfl
theorem probs12_eq (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) :
    probs12 c i arg3 harg3 arg4 harg4 arg5 harg5 arg6 harg6 arg7 harg7 arg8 harg8 arg9 harg9 arg10 harg10 arg11 harg11 arg12 harg12 arg1 v1 v349 X3 X6 X8 X10 G11 G12 k = (probsAt c i arg3 harg3 arg4 harg4 arg5 harg5 arg6 harg6 arg7 harg7 arg8 harg8 arg9 harg9 arg10 harg10 arg11 harg11 arg12 harg12 arg1 v1 v349 X3 X6 X8 X10 G11 G12 k).2 := by cases k <;> rfl

set_option warn.classDefReducibility false in
/-- The loop's invariant: the two sums at the contents `probsAt` gives. -/
@[sl_loop] def loopInv_k0_t3 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg1 v1 v349 where
  inv := fun k _ => Probs c arg3 arg6 arg8 arg10 arg11 arg12 X3 X6 X8 X10 (probs11 c i arg3 harg3 arg4 harg4 arg5 harg5 arg6 harg6 arg7 harg7 arg8 harg8 arg9 harg9 arg10 harg10 arg11 harg11 arg12 harg12 arg1 v1 v349 X3 X6 X8 X10 G11 G12 k) (probs12 c i arg3 harg3 arg4 harg4 arg5 harg5 arg6 harg6 arg7 harg7 arg8 harg8 arg9 harg9 arg10 harg10 arg11 harg11 arg12 harg12 arg1 v1 v349 X3 X6 X8 X10 G11 G12 k)
  step := fun k _ => by
    rw [probs11_eq, probs12_eq, probs11_eq, probs12_eq, probsAt_succ]
    exact (probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).2.2 Set.univ

set_option warn.classDefReducibility false in
/-- The loop's remainder has no trip. -/
@[sl_loop] def loopInv_k0_t4 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (v366 : BitVec 32) :
    LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg1 v1 v349 v366 where
  inv := fun _ _ => iprop(emp)
  step := fun k _ => absurd (Nat.lt_of_lt_of_eq k.isLt (t4_trips i)) (Nat.not_lt_zero _)

end Cert.Proof.Attn

end
-- ==== Proof.AttnBody.lean ====
/- `Attn`: the body of the kernel run whole, from any contents of the output block and of the scratch. -/
module

public import proofs.«01_k».proof.Proof.AttnProbs

@[expose] public section

set_option maxRecDepth 65536
set_option maxHeartbeats 8000000

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame: points-tos alone. -/
local notation "𝕄" => MT nD τ sig Unit (Elt F) ℕ (UR sig nD τ) ℕ

/-- What the body touches: the four inputs, the output block, the five scratch buffers. -/
abbrev All (c : Dev nD)  (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop(held c arg3 X3 ∗ held c arg4 X4 ∗ held c arg5 X5 ∗ held c arg6 X6 ∗ held c arg7 f7 ∗ held c arg8 f8 ∗ held c arg9 f9 ∗ held c arg10 f10 ∗ held c arg11 f11 ∗ held c arg12 f12)

/-- The body: what it leaves in the output block and in the scratch. -/
@[irreducible] def kernelRun (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    Σ' (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty), { g12 : BufTy.Contents (Elt F) arg12.view.ty //
      All c arg3 harg3 arg4 harg4 arg5 harg5 arg6 harg6 arg7 harg7 arg8 harg8 arg9 harg9 arg10 harg10 arg11 harg11 arg12 harg12 X3 X4 X5 X6 f7 f8 f9 f10 f11 f12
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12)
          (fun _ => All c arg3 harg3 arg4 harg4 arg5 harg5 arg6 harg6 arg7 harg7 arg8 harg8 arg9 harg9 arg10 harg10 arg11 harg11 arg12 harg12 X3 X4 X5 X6 g7 g8 g9 g10 g11 g12) } := by
  refine ⟨?_, ?_, ?_, ?_, ?_, ?_, ?run⟩
  case run =>
    simp only [cc0_attn_eq_skeleton]
    unfold cc0_attn_skel
    iintro ⟨H3, H4, H5, H6, H7, H8, H9, H10, H11, H12⟩
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.Attn

end
-- ==== Proof.AttnKernel.lean ====
/- `Attn`: the body of the kernel as the pipeline calls it. -/
module

public import proofs.«01_k».proof.Proof.AttnBody
public import proofs.«01_k».proof.Proof.Gen.Attn.Points

@[expose] public section

set_option maxRecDepth 65536
set_option maxHeartbeats 8000000

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame: points-tos alone. -/
local notation "𝕄" => MT nD τ sig Unit (Elt F) ℕ (UR sig nD τ) ℕ

/-- The output block has `Q` whatever the output block and the scratch held before. -/
def Leaves (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)
    (x3 : Vec F S1x64x16 .f32) (x4 : Vec F S1x256x1024 .fp8e4m3) (x5 : Vec F S1x8192x256 .fp8e4m3) (x6 : Vec F S1x8192x256 .fp8e4m3) (Q : Vec F S1x256x1024 .bf16 → Prop) : Prop :=
  ∀ (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
    arg3.view.read (Elt F) X3 = x3 → arg4.view.read (Elt F) X4 = x4 → arg5.view.read (Elt F) X5 = x5 → arg6.view.read (Elt F) X6 = x6 →
    Q (arg7.view.read (Elt F) (kernelRun c i arg3 harg3 arg4 harg4 arg5 harg5 arg6 harg6 arg7 harg7 arg8 harg8 arg9 harg9 arg10 harg10 arg11 harg11 arg12 harg12 X3 X4 X5 X6 f7 f8 f9 f10 f11 f12).1)

/-- The body at input blocks `x3` to `x6`: they stay, the output block gets what `Leaves` says, the scratch is held at something. -/
theorem sound_kernel (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)
    (x3 : Vec F S1x64x16 .f32) (x4 : Vec F S1x256x1024 .fp8e4m3) (x5 : Vec F S1x8192x256 .fp8e4m3) (x6 : Vec F S1x8192x256 .fp8e4m3) (Q : Vec F S1x256x1024 .bf16 → Prop)
    (hQ : Leaves c i arg3 harg3 arg4 harg4 arg5 harg5 arg6 harg6 arg7 harg7 arg8 harg8 arg9 harg9 arg10 harg10 arg11 harg11 arg12 harg12 x3 x4 x5 x6 Q) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6
        ∗ (∃ d, ⌜Q d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12) K := by
  unfold owns
  iintro ⟨⟨%X3, %e3, H3⟩, ⟨%X4, %e4, H4⟩, ⟨%X5, %e5, H5⟩, ⟨%X6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, Hk⟩
  iapply (wp_wand_r _ _ _)
  isplitl [H3 H4 H5 H6 H7 H8 H9 H10 H11 H12]
  · iapply (kernelRun c i arg3 harg3 arg4 harg4 arg5 harg5 arg6 harg6 arg7 harg7 arg8 harg8 arg9 harg9 arg10 harg10 arg11 harg11 arg12 harg12 X3 X4 X5 X6 f7 f8 f9 f10 f11 f12).2.2.2.2.2.2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %a ⟨H3, H4, H5, H6, H7, H8, H9, H10, H11, H12⟩
    iapply Hk
    isplitl [H3]
    · iexists X3; isplitr; swap; · iexact H3
      ipureintro; exact e3
    isplitl [H4]
    · iexists X4; isplitr; swap; · iexact H4
      ipureintro; exact e4
    isplitl [H5]
    · iexists X5; isplitr; swap; · iexact H5
      ipureintro; exact e5
    isplitl [H6]
    · iexists X6; isplitr; swap; · iexact H6
      ipureintro; exact e6
    isplitl [H7]
    · iexists _; isplitr; swap
      · iexists _; isplitr; swap; · iexact H7
        ipureintro; rfl
      ipureintro; exact hQ X3 X4 X5 X6 f7 f8 f9 f10 f11 f12 e3 e4 e5 e6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.Proof.Attn

end
-- ==== Proof.AttnFrame.lean ====
/- `Attn`: every execution of the whole program terminates and leaves the argument arrays as they were. Nothing is said
   of the output here: its window is forgotten. -/
module

public import proofs.«01_k».proof.Proof.AttnKernel
public import proofs.«01_k».proof.Proof.Gen.Attn.Points

@[expose] public section

set_option maxRecDepth 65536
set_option maxHeartbeats 8000000

noncomputable section

namespace Cert.Proof.Attn.Forget

open Idealize.ShloMosaic.Pipeline (Dat Cfg Window BodyObligation cellOf)
open Cert.Proof.Attn Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame: points-tos alone. -/
local notation "𝕄" => MT nD τ sig Unit (Elt F) ℕ (UR sig nD τ) ℕ

variable (m : (ℓ : Loc nD τ sig) → Buf (Elt F) ℓ) (ρ : Dev nD → PrngReg)

/-- The output's window is forgotten, the inputs' are not. -/
def forgets0 : Fin cfg0.W → Bool := fun w => w.val == 4

/-- The proof data on core `c`: the arrays as the region finds them; each input's block left as it is found; the output's unnamed;
    the scratch held at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scopedRest0_eq]
  simp only [← owns_whole]
  iintro ⟨⟨⟨H8, H9, H10, H11, H12⟩, Hr⟩, Ho, ⟨%d0, H0⟩, ⟨%d1, H1⟩, ⟨%d2, H2⟩, ⟨%d3, H3⟩, H4⟩
  iapply (sound_kernel c _ _ _ _ _ _ _ _ _ _ _ _ _ _ _ _ _ _ _ _ _ (iblk m c 0 t) (iblk m c 1 t) (iblk m c 2 t) (iblk m c 3 t) (fun _ => True) (fun _ _ _ _ _ _ _ _ _ _ _ _ _ _ => trivial) _)
  isplitl [H0]; · iexact H0
  isplitl [H1]; · iexact H1
  isplitl [H2]; · iexact H2
  isplitl [H3]; · iexact H3
  isplitl [H4]; · iexact H4
  isplitl [H8]; · iexact H8
  isplitl [H9]; · iexact H9
  isplitl [H10]; · iexact H10
  isplitl [H11]; · iexact H11
  isplitl [H12]; · iexact H12
  iintro ⟨H0, H1, H2, H3, ⟨%d4, -, H4⟩, H8, H9, H10, H11, H12⟩
  isplitl [H8 H9 H10 H11 H12 Hr]
  · isplitl [H8 H9 H10 H11 H12]
    · isplitl [H8]; · iexact H8
      isplitl [H9]; · iexact H9
      isplitl [H10]; · iexact H10
      isplitl [H11]; · iexact H11
      iexact H12
    iexact Hr
  isplitl [Ho]; · iexact Ho
  isplitl [H0]; · iexact H0
  isplitl [H1]; · iexact H1
  isplitl [H2]; · iexact H2
  isplitl [H3]; · iexact H3
  iexists d4; iexact H4

theorem defs₀_row (t : Fin cfg0.N) :
    defs₀ (F := F) .tc cfg0.body (cfg0.bodyArgs t (cfg0.slots t)) = bodyAt0 t := by
  unfold defs₀; rw [Defs.onTc_tc]

/-- The library's body obligation with the output forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every execution terminates with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c))⟩, h.2⟩) (run_main m ρ)

end Cert.Proof.Attn.Forget

end
-- ==== Proof.AttnIdealOffs.lean ====
/- Closed forms of the offsets at which `AttnIdeal`'s kernel reads and writes: the pair of key blocks a trip visits, and the
   slot of the score scratch that pair is kept in. -/
module

public import proofs.«01_k».proof.Proof.Gen.AttnIdeal.Points

@[expose] public section

set_option maxRecDepth 16384

noncomputable section

namespace Cert.Proof.AttnIdeal

open Cert.AttnIdeal Cert.AttnIdeal.Gen
open Idealize.ShloMosaic Idealize.ShloMosaic.Tactic

/-- The number of a grid point's query tile. -/
abbrev tt (i : grid0.Coords) : ℕ := (i 1).val

instance cl_off4 (i : grid0.Coords) : ClosedOff (k0_off4 i) := ⟨![k0_off4 i 0, 0, 0], by funext a; fin_cases a <;> rfl⟩
instance cl_off5 (i : grid0.Coords) : ClosedOff (k0_off5 i) := ⟨![k0_off4 i 0, 0, 128], by funext a; fin_cases a <;> rfl⟩
instance cl_off6 (i : grid0.Coords) : ClosedOff (k0_off6 i) := ⟨![k0_off4 i 0, 128, 0], by funext a; fin_cases a <;> rfl⟩
instance cl_off7 (i : grid0.Coords) : ClosedOff (k0_off7 i) := ⟨![k0_off4 i 0, 128, 128], by funext a; fin_cases a <;> rfl⟩
instance cl_off8 (i : grid0.Coords) : ClosedOff (k0_off8 i) := ⟨![k0_off4 i 0, 256, 0], by funext a; fin_cases a <;> rfl⟩
instance cl_off9 (i : grid0.Coords) : ClosedOff (k0_off9 i) := ⟨![k0_off4 i 0, 256, 128], by funext a; fin_cases a <;> rfl⟩
instance cl_off10 (i : grid0.Coords) : ClosedOff (k0_off10 i) := ⟨![k0_off4 i 0, 384, 0], by funext a; fin_cases a <;> rfl⟩
instance cl_off11 (i : grid0.Coords) : ClosedOff (k0_off11 i) := ⟨![k0_off4 i 0, 384, 128], by funext a; fin_cases a <;> rfl⟩
instance cl_off12 (i : grid0.Coords) : ClosedOff (k0_off12 i) := ⟨![k0_off4 i 0, 512, 0], by funext a; fin_cases a <;> rfl⟩
instance cl_off13 (i : grid0.Coords) : ClosedOff (k0_off13 i) := ⟨![k0_off4 i 0, 512, 128], by funext a; fin_cases a <;> rfl⟩
instance cl_off14 (i : grid0.Coords) : ClosedOff (k0_off14 i) := ⟨![k0_off4 i 0, 640, 0], by funext a; fin_cases a <;> rfl⟩
instance cl_off15 (i : grid0.Coords) : ClosedOff (k0_off15 i) := ⟨![k0_off4 i 0, 640, 128], by funext a; fin_cases a <;> rfl⟩
instance cl_off16 (i : grid0.Coords) : ClosedOff (k0_off16 i) := ⟨![k0_off4 i 0, 768, 0], by funext a; fin_cases a <;> rfl⟩
instance cl_off17 (i : grid0.Coords) : ClosedOff (k0_off17 i) := ⟨![k0_off4 i 0, 768, 128], by funext a; fin_cases a <;> rfl⟩
instance cl_off18 (i : grid0.Coords) : ClosedOff (k0_off18 i) := ⟨![k0_off4 i 0, 896, 0], by funext a; fin_cases a <;> rfl⟩
instance cl_off19 (i : grid0.Coords) : ClosedOff (k0_off19 i) := ⟨![k0_off4 i 0, 896, 128], by funext a; fin_cases a <;> rfl⟩
theorem farPair_eq : ∀ (i : grid0.Coords), 16 ≤ tt i → k0_off1 i = ![0, 256 * (tt i - 16), 0] := by decide +kernel
theorem farScale_eq : ∀ (i : grid0.Coords) (r : Fin 2), 16 ≤ tt i → k0_off3 i (BitVec.ofNat 32 r.val) = ![0, 2 * (tt i - 16) + r.val, 8] := by decide +kernel
theorem farSlot_eq : ∀ (i : grid0.Coords), 16 ≤ tt i → k0_off4 i 0 = 0 := by decide +kernel
instance cl_off1 (i : grid0.Coords) : ClosedOff (k0_off1 i) := ⟨![0, k0_off1 i 1, 0], by funext a; fin_cases a <;> rfl⟩
instance cl_off3_0 (i : grid0.Coords) : ClosedOff (k0_off3 i 0#32) := ⟨![0, k0_off3 i 0#32 1, 8], by funext a; fin_cases a <;> rfl⟩
instance cl_off3_1 (i : grid0.Coords) : ClosedOff (k0_off3 i 1#32) := ⟨![0, k0_off3 i 1#32 1, 8], by funext a; fin_cases a <;> rfl⟩
theorem k0_off20_cl : ∀ (i : grid0.Coords) (k : Fin (k0_t1_loop i).trips), k0_off20 i k = ![0, 256 * ((tt i - 15) + k.val), 0] := by decide +kernel
instance cl_off20 (i : grid0.Coords) (k : Fin (k0_t1_loop i).trips) : ClosedOff (k0_off20 i k) := ⟨_, k0_off20_cl i k⟩
theorem k0_off22_cl : ∀ (i : grid0.Coords) (k : Fin (k0_t1_loop i).trips) (r : Fin 2), k0_off22 i k (BitVec.ofNat 32 r.val) = ![0, 2 * ((tt i - 15) + k.val) + r.val, 8] := by decide +kernel
instance cl_off22_0 (i : grid0.Coords) (k : Fin (k0_t1_loop i).trips) : ClosedOff (k0_off22 i k 0#32) := ⟨![0, 2 * ((tt i - 15) + k.val) + 0, 8], k0_off22_cl i k 0⟩
instance cl_off22_1 (i : grid0.Coords) (k : Fin (k0_t1_loop i).trips) : ClosedOff (k0_off22 i k 1#32) := ⟨![0, 2 * ((tt i - 15) + k.val) + 1, 8], k0_off22_cl i k 1⟩
theorem k0_off23_cl : ∀ (i : grid0.Coords) (k : Fin (k0_t1_loop i).trips), k0_off23 i k = ![(tt i - 15) + k.val - (tt i - 16), 0, 0] := by decide +kernel
instance cl_off23 (i : grid0.Coords) (k : Fin (k0_t1_loop i).trips) : ClosedOff (k0_off23 i k) := ⟨_, k0_off23_cl i k⟩
theorem k0_off24_cl (i : grid0.Coords) (k : Fin (k0_t1_loop i).trips) : k0_off24 i k = ![(tt i - 15) + k.val - (tt i - 16), 0, 128] := by
  have h := congrFun (k0_off23_cl i k) 0; funext a; fin_cases a; exacts [h, rfl, rfl]
instance cl_off24 (i : grid0.Coords) (k : Fin (k0_t1_loop i).trips) : ClosedOff (k0_off24 i k) := ⟨_, k0_off24_cl i k⟩
theorem k0_off25_cl (i : grid0.Coords) (k : Fin (k0_t1_loop i).trips) : k0_off25 i k = ![(tt i - 15) + k.val - (tt i - 16), 128, 0] := by
  have h := congrFun (k0_off23_cl i k) 0; funext a; fin_cases a; exacts [h, rfl, rfl]
instance cl_off25 (i : grid0.Coords) (k : Fin (k0_t1_loop i).trips) : ClosedOff (k0_off25 i k) := ⟨_, k0_off25_cl i k⟩
theorem k0_off26_cl (i : grid0.Coords) (k : Fin (k0_t1_loop i).trips) : k0_off26 i k = ![(tt i - 15) + k.val - (tt i - 16), 128, 128] := by
  have h := congrFun (k0_off23_cl i k) 0; funext a; fin_cases a; exacts [h, rfl, rfl]
instance cl_off26 (i : grid0.Coords) (k : Fin (k0_t1_loop i).trips) : ClosedOff (k0_off26 i k) := ⟨_, k0_off26_cl i k⟩
theorem k0_off27_cl (i : grid0.Coords) (k : Fin (k0_t1_loop i).trips) : k0_off27 i k = ![(tt i - 15) + k.val - (tt i - 16), 256, 0] := by
  have h := congrFun (k0_off23_cl i k) 0; funext a; fin_cases a; exacts [h, rfl, rfl]
instance cl_off27 (i : grid0.Coords) (k : Fin (k0_t1_loop i).trips) : ClosedOff (k0_off27 i k) := ⟨_, k0_off27_cl i k⟩
theorem k0_off28_cl (i : grid0.Coords) (k : Fin (k0_t1_loop i).trips) : k0_off28 i k = ![(tt i - 15) + k.val - (tt i - 16), 256, 128] := by
  have h := congrFun (k0_off23_cl i k) 0; funext a; fin_cases a; exacts [h, rfl, rfl]
instance cl_off28 (i : grid0.Coords) (k : Fin (k0_t1_loop i).trips) : ClosedOff (k0_off28 i k) := ⟨_, k0_off28_cl i k⟩
theorem k0_off29_cl (i : grid0.Coords) (k : Fin (k0_t1_loop i).trips) : k0_off29 i k = ![(tt i - 15) + k.val - (tt i - 16), 384, 0] := by
  have h := congrFun (k0_off23_cl i k) 0; funext a; fin_cases a; exacts [h, rfl, rfl]
instance cl_off29 (i : grid0.Coords) (k : Fin (k0_t1_loop i).trips) : ClosedOff (k0_off29 i k) := ⟨_, k0_off29_cl i k⟩
theorem k0_off30_cl (i : grid0.Coords) (k : Fin (k0_t1_loop i).trips) : k0_off30 i k = ![(tt i - 15) + k.val - (tt i - 16), 384, 128] := by
  have h := congrFun (k0_off23_cl i k) 0; funext a; fin_cases a; exacts [h, rfl, rfl]
instance cl_off30 (i : grid0.Coords) (k : Fin (k0_t1_loop i).trips) : ClosedOff (k0_off30 i k) := ⟨_, k0_off30_cl i k⟩
theorem k0_off31_cl (i : grid0.Coords) (k : Fin (k0_t1_loop i).trips) : k0_off31 i k = ![(tt i - 15) + k.val - (tt i - 16), 512, 0] := by
  have h := congrFun (k0_off23_cl i k) 0; funext a; fin_cases a; exacts [h, rfl, rfl]
instance cl_off31 (i : grid0.Coords) (k : Fin (k0_t1_loop i).trips) : ClosedOff (k0_off31 i k) := ⟨_, k0_off31_cl i k⟩
theorem k0_off32_cl (i : grid0.Coords) (k : Fin (k0_t1_loop i).trips) : k0_off32 i k = ![(tt i - 15) + k.val - (tt i - 16), 512, 128] := by
  have h := congrFun (k0_off23_cl i k) 0; funext a; fin_cases a; exacts [h, rfl, rfl]
instance cl_off32 (i : grid0.Coords) (k : Fin (k0_t1_loop i).trips) : ClosedOff (k0_off32 i k) := ⟨_, k0_off32_cl i k⟩
theorem k0_off33_cl (i : grid0.Coords) (k : Fin (k0_t1_loop i).trips) : k0_off33 i k = ![(tt i - 15) + k.val - (tt i - 16), 640, 0] := by
  have h := congrFun (k0_off23_cl i k) 0; funext a; fin_cases a; exacts [h, rfl, rfl]
instance cl_off33 (i : grid0.Coords) (k : Fin (k0_t1_loop i).trips) : ClosedOff (k0_off33 i k) := ⟨_, k0_off33_cl i k⟩
theorem k0_off34_cl (i : grid0.Coords) (k : Fin (k0_t1_loop i).trips) : k0_off34 i k = ![(tt i - 15) + k.val - (tt i - 16), 640, 128] := by
  have h := congrFun (k0_off23_cl i k) 0; funext a; fin_cases a; exacts [h, rfl, rfl]
instance cl_off34 (i : grid0.Coords) (k : Fin (k0_t1_loop i).trips) : ClosedOff (k0_off34 i k) := ⟨_, k0_off34_cl i k⟩
theorem k0_off35_cl (i : grid0.Coords) (k : Fin (k0_t1_loop i).trips) : k0_off35 i k = ![(tt i - 15) + k.val - (tt i - 16), 768, 0] := by
  have h := congrFun (k0_off23_cl i k) 0; funext a; fin_cases a; exacts [h, rfl, rfl]
instance cl_off35 (i : grid0.Coords) (k : Fin (k0_t1_loop i).trips) : ClosedOff (k0_off35 i k) := ⟨_, k0_off35_cl i k⟩
theorem k0_off36_cl (i : grid0.Coords) (k : Fin (k0_t1_loop i).trips) : k0_off36 i k = ![(tt i - 15) + k.val - (tt i - 16), 768, 128] := by
  have h := congrFun (k0_off23_cl i k) 0; funext a; fin_cases a; exacts [h, rfl, rfl]
instance cl_off36 (i : grid0.Coords) (k : Fin (k0_t1_loop i).trips) : ClosedOff (k0_off36 i k) := ⟨_, k0_off36_cl i k⟩
theorem k0_off37_cl (i : grid0.Coords) (k : Fin (k0_t1_loop i).trips) : k0_off37 i k = ![(tt i - 15) + k.val - (tt i - 16), 896, 0] := by
  have h := congrFun (k0_off23_cl i k) 0; funext a; fin_cases a; exacts [h, rfl, rfl]
instance cl_off37 (i : grid0.Coords) (k : Fin (k0_t1_loop i).trips) : ClosedOff (k0_off37 i k) := ⟨_, k0_off37_cl i k⟩
theorem k0_off38_cl (i : grid0.Coords) (k : Fin (k0_t1_loop i).trips) : k0_off38 i k = ![(tt i - 15) + k.val - (tt i - 16), 896, 128] := by
  have h := congrFun (k0_off23_cl i k) 0; funext a; fin_cases a; exacts [h, rfl, rfl]
instance cl_off38 (i : grid0.Coords) (k : Fin (k0_t1_loop i).trips) : ClosedOff (k0_off38 i k) := ⟨_, k0_off38_cl i k⟩
theorem k0_off61_cl : ∀ (i : grid0.Coords), k0_off61 i = ![tt i - (tt i - 16), 0, 0] := by decide +kernel
instance cl_off61 (i : grid0.Coords) : ClosedOff (k0_off61 i) := ⟨_, k0_off61_cl i⟩
theorem k0_off62_cl (i : grid0.Coords) : k0_off62 i = ![tt i - (tt i - 16), 0, 128] := by
  have h := congrFun (k0_off61_cl i) 0; funext a; fin_cases a; exacts [h, rfl, rfl]
instance cl_off62 (i : grid0.Coords) : ClosedOff (k0_off62 i) := ⟨_, k0_off62_cl i⟩
theorem k0_off63_cl (i : grid0.Coords) : k0_off63 i = ![tt i - (tt i - 16), 128, 0] := by
  have h := congrFun (k0_off61_cl i) 0; funext a; fin_cases a; exacts [h, rfl, rfl]
instance cl_off63 (i : grid0.Coords) : ClosedOff (k0_off63 i) := ⟨_, k0_off63_cl i⟩
theorem k0_off64_cl (i : grid0.Coords) : k0_off64 i = ![tt i - (tt i - 16), 128, 128] := by
  have h := congrFun (k0_off61_cl i) 0; funext a; fin_cases a; exacts [h, rfl, rfl]
instance cl_off64 (i : grid0.Coords) : ClosedOff (k0_off64 i) := ⟨_, k0_off64_cl i⟩
theorem k0_off65_cl (i : grid0.Coords) : k0_off65 i = ![tt i - (tt i - 16), 256, 0] := by
  have h := congrFun (k0_off61_cl i) 0; funext a; fin_cases a; exacts [h, rfl, rfl]
instance cl_off65 (i : grid0.Coords) : ClosedOff (k0_off65 i) := ⟨_, k0_off65_cl i⟩
theorem k0_off66_cl (i : grid0.Coords) : k0_off66 i = ![tt i - (tt i - 16), 256, 128] := by
  have h := congrFun (k0_off61_cl i) 0; funext a; fin_cases a; exacts [h, rfl, rfl]
instance cl_off66 (i : grid0.Coords) : ClosedOff (k0_off66 i) := ⟨_, k0_off66_cl i⟩
theorem k0_off67_cl (i : grid0.Coords) : k0_off67 i = ![tt i - (tt i - 16), 384, 0] := by
  have h := congrFun (k0_off61_cl i) 0; funext a; fin_cases a; exacts [h, rfl, rfl]
instance cl_off67 (i : grid0.Coords) : ClosedOff (k0_off67 i) := ⟨_, k0_off67_cl i⟩
theorem k0_off68_cl (i : grid0.Coords) : k0_off68 i = ![tt i - (tt i - 16), 384, 128] := by
  have h := congrFun (k0_off61_cl i) 0; funext a; fin_cases a; exacts [h, rfl, rfl]
instance cl_off68 (i : grid0.Coords) : ClosedOff (k0_off68 i) := ⟨_, k0_off68_cl i⟩
theorem k0_off69_cl (i : grid0.Coords) : k0_off69 i = ![tt i - (tt i - 16), 512, 0] := by
  have h := congrFun (k0_off61_cl i) 0; funext a; fin_cases a; exacts [h, rfl, rfl]
instance cl_off69 (i : grid0.Coords) : ClosedOff (k0_off69 i) := ⟨_, k0_off69_cl i⟩
theorem k0_off70_cl (i : grid0.Coords) : k0_off70 i = ![tt i - (tt i - 16), 512, 128] := by
  have h := congrFun (k0_off61_cl i) 0; funext a; fin_cases a; exacts [h, rfl, rfl]
instance cl_off70 (i : grid0.Coords) : ClosedOff (k0_off70 i) := ⟨_, k0_off70_cl i⟩
theorem k0_off71_cl (i : grid0.Coords) : k0_off71 i = ![tt i - (tt i - 16), 640, 0] := by
  have h := congrFun (k0_off61_cl i) 0; funext a; fin_cases a; exacts [h, rfl, rfl]
instance cl_off71 (i : grid0.Coords) : ClosedOff (k0_off71 i) := ⟨_, k0_off71_cl i⟩
theorem k0_off72_cl (i : grid0.Coords) : k0_off72 i = ![tt i - (tt i - 16), 640, 128] := by
  have h := congrFun (k0_off61_cl i) 0; funext a; fin_cases a; exacts [h, rfl, rfl]
instance cl_off72 (i : grid0.Coords) : ClosedOff (k0_off72 i) := ⟨_, k0_off72_cl i⟩
theorem k0_off73_cl (i : grid0.Coords) : k0_off73 i = ![tt i - (tt i - 16), 768, 0] := by
  have h := congrFun (k0_off61_cl i) 0; funext a; fin_cases a; exacts [h, rfl, rfl]
instance cl_off73 (i : grid0.Coords) : ClosedOff (k0_off73 i) := ⟨_, k0_off73_cl i⟩
theorem k0_off74_cl (i : grid0.Coords) : k0_off74 i = ![tt i - (tt i - 16), 768, 128] := by
  have h := congrFun (k0_off61_cl i) 0; funext a; fin_cases a; exacts [h, rfl, rfl]
instance cl_off74 (i : grid0.Coords) : ClosedOff (k0_off74 i) := ⟨_, k0_off74_cl i⟩
theorem k0_off75_cl (i : grid0.Coords) : k0_off75 i = ![tt i - (tt i - 16), 896, 0] := by
  have h := congrFun (k0_off61_cl i) 0; funext a; fin_cases a; exacts [h, rfl, rfl]
instance cl_off75 (i : grid0.Coords) : ClosedOff (k0_off75 i) := ⟨_, k0_off75_cl i⟩
theorem k0_off76_cl (i : grid0.Coords) : k0_off76 i = ![tt i - (tt i - 16), 896, 128] := by
  have h := congrFun (k0_off61_cl i) 0; funext a; fin_cases a; exacts [h, rfl, rfl]
instance cl_off76 (i : grid0.Coords) : ClosedOff (k0_off76 i) := ⟨_, k0_off76_cl i⟩
theorem k0_off77_cl : ∀ (i : grid0.Coords) (k : Fin (k0_t3_loop i).trips), k0_off77 i k = ![k.val, 0, 0] := by decide +kernel
theorem k0_off78_cl : ∀ (i : grid0.Coords) (k : Fin (k0_t3_loop i).trips), k0_off78 i k = ![k.val, 0, 128] := by decide +kernel
theorem k0_off79_cl : ∀ (i : grid0.Coords) (k : Fin (k0_t3_loop i).trips), k0_off79 i k = ![0, 2 * ((tt i - 16) + k.val), 9] := by decide +kernel
theorem k0_off80_cl : ∀ (i : grid0.Coords) (k : Fin (k0_t3_loop i).trips), k0_off80 i k = ![0, 2 * ((tt i - 16) + k.val) + 1, 9] := by decide +kernel
theorem k0_off81_cl : ∀ (i : grid0.Coords) (k : Fin (k0_t3_loop i).trips), k0_off81 i k = ![0, 256 * ((tt i - 16) + k.val), 0] := by decide +kernel
theorem k0_off82_cl : ∀ (i : grid0.Coords) (k : Fin (k0_t3_loop i).trips), k0_off82 i k = ![0, 256 * ((tt i - 16) + k.val), 0] := by decide +kernel
theorem k0_off83_cl : ∀ (i : grid0.Coords) (k : Fin (k0_t3_loop i).trips), k0_off83 i k = ![0, 256 * ((tt i - 16) + k.val) + 128, 0] := by decide +kernel
instance cl_off77 (i : grid0.Coords) (k : Fin (k0_t3_loop i).trips) : ClosedOff (k0_off77 i k) := ⟨_, k0_off77_cl i k⟩
instance cl_off78 (i : grid0.Coords) (k : Fin (k0_t3_loop i).trips) : ClosedOff (k0_off78 i k) := ⟨_, k0_off78_cl i k⟩
instance cl_off79 (i : grid0.Coords) (k : Fin (k0_t3_loop i).trips) : ClosedOff (k0_off79 i k) := ⟨_, k0_off79_cl i k⟩
instance cl_off80 (i : grid0.Coords) (k : Fin (k0_t3_loop i).trips) : ClosedOff (k0_off80 i k) := ⟨_, k0_off80_cl i k⟩
instance cl_off81 (i : grid0.Coords) (k : Fin (k0_t3_loop i).trips) : ClosedOff (k0_off81 i k) := ⟨_, k0_off81_cl i k⟩
instance cl_off82 (i : grid0.Coords) (k : Fin (k0_t3_loop i).trips) : ClosedOff (k0_off82 i k) := ⟨_, k0_off82_cl i k⟩
instance cl_off83 (i : grid0.Coords) (k : Fin (k0_t3_loop i).trips) : ClosedOff (k0_off83 i k) := ⟨_, k0_off83_cl i k⟩

/-- The pairs of the second loop: those after the window's first pair and before the diagonal one. -/
theorem t1_trips : ∀ i : grid0.Coords, (k0_t1_loop i).trips = tt i - (tt i - 15) := by decide +kernel
theorem t2_trips : ∀ i : grid0.Coords, (k0_t2_loop i).trips = 0 := by decide +kernel
theorem t3_trips : ∀ i : grid0.Coords, (k0_t3_loop i).trips = tt i + 1 - (tt i - 16) := by decide +kernel
theorem t4_trips : ∀ i : grid0.Coords, (k0_t4_loop i).trips = 0 := by decide +kernel

end Cert.Proof.AttnIdeal

end
-- ==== Proof.AttnIdealMid.lean ====
/- `AttnIdeal`: the loop over the pairs of key blocks between the first and the diagonal one. One trip stores sixteen tiles of
   scores and raises the running maximum of eight groups of rows. -/
module

public import proofs.«01_k».proof.Proof.AttnIdealOffs
public import proofs.«01_k».proof.Proof.Gen.AttnIdeal.Loops
public import proofs.«01_k».proof.Proof.Gen.AttnIdeal.Frame

@[expose] public section

set_option maxRecDepth 65536
set_option maxHeartbeats 8000000

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame: points-tos alone. -/
local notation "𝕄" => MT nD τ sig Unit (Elt F) ℕ (UR sig nD τ) ℕ

/-- A buffer held whole at the contents `f`. -/
abbrev held (c : Dev nD) {sp : Space} {s : Shape} {e : EltTy} (b : Memref sig .tc sp s e) (f : BufTy.Contents (Elt F) b.view.ty) : sProp 𝕄 :=
  b.view.loc (c : Thread nD τ) ↦[b.view.set]{fullShare} f

/-- What one trip touches: the scales, the keys, the scratch of scores, the running maxima. -/
abbrev Mid (c : Dev nD) (arg3 : Memref sig .tc .smem S1x64x16 .f32) (arg5 : Memref sig .tc .vmem S1x8192x256 .fp8e4m3)
    (arg8 : Memref sig .tc .vmem S17x1024x256 .f32) (arg9 : Memref sig .tc .vmem S1024x128 .f32)
    (X3 : BufTy.Contents (Elt F) arg3.view.ty) (X5 : BufTy.Contents (Elt F) arg5.view.ty) (f8 : BufTy.Contents (Elt F) arg8.view.ty) (f9 : BufTy.Contents (Elt F) arg9.view.ty) : sProp 𝕄 :=
  iprop(held c arg3 X3 ∗ held c arg5 X5 ∗ held c arg8 f8 ∗ held c arg9 f9)

/-- One trip: the tiles it stores, and the maxima it stores over those it finds. -/
@[irreducible] def midTrip (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (f9 : BufTy.Contents (Elt F) arg9.view.ty) (k : Fin (k0_t1_loop i).trips) :
    Σ' L8 : List (View.Piece (Elt F) S17x1024x256 .f32), { L9 : List (View.Piece (Elt F) S1024x128 .f32) //
      ∀ (E : Set ℕ) (f8 : BufTy.Contents (Elt F) arg8.view.ty),
      Mid c arg3 arg5 arg8 arg9 X3 X5 f8 f9
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg1 arg2 v1 v2 v4 v6 v8 v22 k PUnit.unit)
          (fun _ => Mid c arg3 arg5 arg8 arg9 X3 X5 (arg8.view.writes (Elt F) f8 L8) (arg9.view.writes (Elt F) f9 L9)) } := by
  refine ⟨?_, ?_, fun E f8 => ?run⟩
  case run =>
    unfold k0_t1_body
    iintro ⟨H3, H5, H8, H9⟩
    sl_exec_parts
    sl_step
    sl_close

/-- The tiles trip `k` stores (they do not depend on the maxima found). -/
def midL8 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (k : Fin (k0_t1_loop i).trips) : BufTy.Contents (Elt F) arg9.view.ty → List (View.Piece (Elt F) S17x1024x256 .f32) :=
  fun f9 => (midTrip c i arg3 harg3 arg4 harg4 arg5 harg5 arg6 harg6 arg7 harg7 arg8 harg8 arg9 harg9 arg10 harg10 arg11 harg11 arg12 harg12 arg1 arg2 v1 v2 v4 v6 v8 v22 X3 X5 f9 k).1

/-- The scratch of scores and the running maxima before trip `k`. -/
def midAt (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) :
    ℕ → BufTy.Contents (Elt F) arg8.view.ty × BufTy.Contents (Elt F) arg9.view.ty
  | 0 => (G8, G9)
  | k + 1 =>
    let p := midAt c i arg3 harg3 arg4 harg4 arg5 harg5 arg6 harg6 arg7 harg7 arg8 harg8 arg9 harg9 arg10 harg10 arg11 harg11 arg12 harg12 arg1 arg2 v1 v2 v4 v6 v8 v22 X3 X5 G8 G9 k
    if h : k < (k0_t1_loop i).trips then
      (arg8.view.writes (Elt F) p.1 (midTrip c i arg3 harg3 arg4 harg4 arg5 harg5 arg6 harg6 arg7 harg7 arg8 harg8 arg9 harg9 arg10 harg10 arg11 harg11 arg12 harg12 arg1 arg2 v1 v2 v4 v6 v8 v22 X3 X5 p.2 ⟨k, h⟩).1, arg9.view.writes (Elt F) p.2 (midTrip c i arg3 harg3 arg4 harg4 arg5 harg5 arg6 harg6 arg7 harg7 arg8 harg8 arg9 harg9 arg10 harg10 arg11 harg11 arg12 harg12 arg1 arg2 v1 v2 v4 v6 v8 v22 X3 X5 p.2 ⟨k, h⟩).2.1)
    else p

theorem midAt_succ (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) (k : Fin (k0_t1_loop i).trips) :
    midAt c i arg3 harg3 arg4 harg4 arg5 harg5 arg6 harg6 arg7 harg7 arg8 harg8 arg9 harg9 arg10 harg10 arg11 harg11 arg12 harg12 arg1 arg2 v1 v2 v4 v6 v8 v22 X3 X5 G8 G9 (k.val + 1)
      = (arg8.view.writes (Elt F) (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).1 (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).1,
         arg9.view.writes (Elt F) (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).2.1) := by
  rw [midAt.eq_2]; exact dif_pos k.isLt

set_option warn.classDefReducibility false in
/-- The loop's invariant: the two buffers at the contents `midAt` gives. -/
@[sl_loop] def loopInv_k0_t1 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v2 : Vec F S1x256x256 .fp8e4m3) (v4 : Vec F S1x256x256 .fp8e4m3) (v6 : Vec F S1x256x256 .fp8e4m3) (v8 : Vec F S1x256x256 .fp8e4m3) (v22 : BitVec 32) (X3 : BufTy.Contents (Elt F) arg3.view.ty) (X5 : BufTy.Contents (Elt F) arg5.view.ty) (G8 : BufTy.Contents (Elt F) arg8.view.ty) (G9 : BufTy.Contents (Elt F) arg9.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v1 v2 v4 v6 v8 v22 where
  inv := fun k _ => Mid c arg3 arg5 arg8 arg9 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k).1 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k).2
  step := fun k _ => by
    rw [midAt_succ]
    exact (midTrip c i arg3 harg3 arg4 harg4 arg5 harg5 arg6 harg6 arg7 harg7 arg8 harg8 arg9 harg9 arg10 harg10 arg11 harg11 arg12 harg12 arg1 arg2 v1 v2 v4 v6 v8 v22 X3 X5 (midAt c i arg3 harg3 arg4 harg4 arg5 harg5 arg6 harg6 arg7 harg7 arg8 harg8 arg9 harg9 arg10 harg10 arg11 harg11 arg12 harg12 arg1 arg2 v1 v2 v4 v6 v8 v22 X3 X5 G8 G9 k.val).2 k).2.2 Set.univ _

set_option warn.classDefReducibility false in
/-- The loop's remainder has no trip. -/
@[sl_loop] def loopInv_k0_t2 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v10 : FVec F S1024x256 .fp8e4m3) (v11 : IVec S128x128 32) (v12 : IVec S128x128 32) (v27 : BitVec 32) (c1_i32_17 : BitVec 32) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg1 arg2 v1 v10 v11 v12 v27 c1_i32_17 where
  inv := fun _ _ => iprop(emp)
  step := fun k _ => absurd (Nat.lt_of_lt_of_eq k.isLt (t2_trips i)) (Nat.not_lt_zero _)

end Cert.Proof.AttnIdeal

end
-- ==== Proof.AttnIdealProbs.lean ====
/- `AttnIdeal`: the loop that turns scores into probabilities, sums them and weighs the values. -/
module

public import proofs.«01_k».proof.Proof.AttnIdealMid

@[expose] public section

set_option maxRecDepth 65536
set_option maxHeartbeats 8000000

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame: points-tos alone. -/
local notation "𝕄" => MT nD τ sig Unit (Elt F) ℕ (UR sig nD τ) ℕ

/-- What one trip touches: the scales, the values, the scores, the offset of the exponents, the two sums. -/
abbrev Probs (c : Dev nD) (arg3 : Memref sig .tc .smem S1x64x16 .f32) (arg6 : Memref sig .tc .vmem S1x8192x256 .fp8e4m3)
    (arg8 : Memref sig .tc .vmem S17x1024x256 .f32) (arg10 : Memref sig .tc .vmem S1024x128 .f32) (arg11 : Memref sig .tc .vmem S1024x128 .f32) (arg12 : Memref sig .tc .vmem S1024x256 .f32)
    (X3 : BufTy.Contents (Elt F) arg3.view.ty) (X6 : BufTy.Contents (Elt F) arg6.view.ty) (X8 : BufTy.Contents (Elt F) arg8.view.ty) (X10 : BufTy.Contents (Elt F) arg10.view.ty) (f11 : BufTy.Contents (Elt F) arg11.view.ty) (f12 : BufTy.Contents (Elt F) arg12.view.ty) : sProp 𝕄 :=
  iprop(held c arg3 X3 ∗ held c arg6 X6 ∗ held c arg8 X8 ∗ held c arg10 X10 ∗ held c arg11 f11 ∗ held c arg12 f12)

/-- One trip: the two sums it leaves. -/
@[irreducible] def probsTrip (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (f11 : BufTy.Contents (Elt F) arg11.view.ty) (f12 : BufTy.Contents (Elt F) arg12.view.ty) (k : Fin (k0_t3_loop i).trips) :
    Σ' g11 : BufTy.Contents (Elt F) arg11.view.ty, { g12 : BufTy.Contents (Elt F) arg12.view.ty //
      ∀ (E : Set ℕ),
      Probs c arg3 arg6 arg8 arg10 arg11 arg12 X3 X6 X8 X10 f11 f12
      ⊢ wp frame (wpE (defs₀ (F := F)) Variants.none (c : Thread nD τ) none) E (k0_t3_body (F := F) i arg3 harg3 arg4 harg4 arg5 harg5 arg6 harg6 arg7 harg7 arg8 harg8 arg9 harg9 arg10 harg10 arg11 harg11 arg12 harg12 arg1 v1 v349 k PUnit.unit)
          (fun _ => Probs c arg3 arg6 arg8 arg10 arg11 arg12 X3 X6 X8 X10 g11 g12) } := by
  refine ⟨?_, ?_, fun E => ?run⟩
  case run =>
    unfold k0_t3_body
    iintro ⟨H3, H6, H8, H10, H11, H12⟩
    sl_exec_parts
    sl_step
    isplitl [H3]; · iexact H3
    isplitl [H6]; · iexact H6
    isplitl [H8]; · iexact H8
    isplitl [H10]; · iexact H10
    isplitl [H11]; · iexact H11
    iexact H12

/-- The two sums before trip `k`. -/
def probsAt (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) :
    ℕ → BufTy.Contents (Elt F) arg11.view.ty × BufTy.Contents (Elt F) arg12.view.ty
  | 0 => (G11, G12)
  | k + 1 =>
    let p := probsAt c i arg3 harg3 arg4 harg4 arg5 harg5 arg6 harg6 arg7 harg7 arg8 harg8 arg9 harg9 arg10 harg10 arg11 harg11 arg12 harg12 arg1 v1 v349 X3 X6 X8 X10 G11 G12 k
    if h : k < (k0_t3_loop i).trips then
      ((probsTrip c i arg3 harg3 arg4 harg4 arg5 harg5 arg6 harg6 arg7 harg7 arg8 harg8 arg9 harg9 arg10 harg10 arg11 harg11 arg12 harg12 arg1 v1 v349 X3 X6 X8 X10 p.1 p.2 ⟨k, h⟩).1, (probsTrip c i arg3 harg3 arg4 harg4 arg5 harg5 arg6 harg6 arg7 harg7 arg8 harg8 arg9 harg9 arg10 harg10 arg11 harg11 arg12 harg12 arg1 v1 v349 X3 X6 X8 X10 p.1 p.2 ⟨k, h⟩).2.1)
    else p

theorem probsAt_succ (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : Fin (k0_t3_loop i).trips) :
    probsAt c i arg3 harg3 arg4 harg4 arg5 harg5 arg6 harg6 arg7 harg7 arg8 harg8 arg9 harg9 arg10 harg10 arg11 harg11 arg12 harg12 arg1 v1 v349 X3 X6 X8 X10 G11 G12 (k.val + 1)
      = ((probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).1,
         (probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).2.1) := by
  rw [probsAt.eq_2]; exact dif_pos k.isLt

/-- The first sum before trip `k` (the one before the first trip in plain sight), -/
def probs11 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) : BufTy.Contents (Elt F) arg11.view.ty :=
  match k with
  | 0 => G11
  | k + 1 => (probsAt c i arg3 harg3 arg4 harg4 arg5 harg5 arg6 harg6 arg7 harg7 arg8 harg8 arg9 harg9 arg10 harg10 arg11 harg11 arg12 harg12 arg1 v1 v349 X3 X6 X8 X10 G11 G12 (k + 1)).1
/-- and the second. -/
def probs12 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) : BufTy.Contents (Elt F) arg12.view.ty :=
  match k with
  | 0 => G12
  | k + 1 => (probsAt c i arg3 harg3 arg4 harg4 arg5 harg5 arg6 harg6 arg7 harg7 arg8 harg8 arg9 harg9 arg10 harg10 arg11 harg11 arg12 harg12 arg1 v1 v349 X3 X6 X8 X10 G11 G12 (k + 1)).2

theorem probs11_eq (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) :
    probs11 c i arg3 harg3 arg4 harg4 arg5 harg5 arg6 harg6 arg7 harg7 arg8 harg8 arg9 harg9 arg10 harg10 arg11 harg11 arg12 harg12 arg1 v1 v349 X3 X6 X8 X10 G11 G12 k = (probsAt c i arg3 harg3 arg4 harg4 arg5 harg5 arg6 harg6 arg7 harg7 arg8 harg8 arg9 harg9 arg10 harg10 arg11 harg11 arg12 harg12 arg1 v1 v349 X3 X6 X8 X10 G11 G12 k).1 := by cases k <;> rfl
theorem probs12_eq (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) (k : ℕ) :
    probs12 c i arg3 harg3 arg4 harg4 arg5 harg5 arg6 harg6 arg7 harg7 arg8 harg8 arg9 harg9 arg10 harg10 arg11 harg11 arg12 harg12 arg1 v1 v349 X3 X6 X8 X10 G11 G12 k = (probsAt c i arg3 harg3 arg4 harg4 arg5 harg5 arg6 harg6 arg7 harg7 arg8 harg8 arg9 harg9 arg10 harg10 arg11 harg11 arg12 harg12 arg1 v1 v349 X3 X6 X8 X10 G11 G12 k).2 := by cases k <;> rfl

set_option warn.classDefReducibility false in
/-- The loop's invariant: the two sums at the contents `probsAt` gives. -/
@[sl_loop] def loopInv_k0_t3 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (X3 : BufTy.Contents (Elt F) arg3.view.ty) (X6 : BufTy.Contents (Elt F) arg6.view.ty) (X8 : BufTy.Contents (Elt F) arg8.view.ty) (X10 : BufTy.Contents (Elt F) arg10.view.ty) (G11 : BufTy.Contents (Elt F) arg11.view.ty) (G12 : BufTy.Contents (Elt F) arg12.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg1 v1 v349 where
  inv := fun k _ => Probs c arg3 arg6 arg8 arg10 arg11 arg12 X3 X6 X8 X10 (probs11 c i arg3 harg3 arg4 harg4 arg5 harg5 arg6 harg6 arg7 harg7 arg8 harg8 arg9 harg9 arg10 harg10 arg11 harg11 arg12 harg12 arg1 v1 v349 X3 X6 X8 X10 G11 G12 k) (probs12 c i arg3 harg3 arg4 harg4 arg5 harg5 arg6 harg6 arg7 harg7 arg8 harg8 arg9 harg9 arg10 harg10 arg11 harg11 arg12 harg12 arg1 v1 v349 X3 X6 X8 X10 G11 G12 k)
  step := fun k _ => by
    rw [probs11_eq, probs12_eq, probs11_eq, probs12_eq, probsAt_succ]
    exact (probsTrip c i arg3 harg3 arg4 harg4 arg5 harg5 arg6 harg6 arg7 harg7 arg8 harg8 arg9 harg9 arg10 harg10 arg11 harg11 arg12 harg12 arg1 v1 v349 X3 X6 X8 X10 (probsAt c i arg3 harg3 arg4 harg4 arg5 harg5 arg6 harg6 arg7 harg7 arg8 harg8 arg9 harg9 arg10 harg10 arg11 harg11 arg12 harg12 arg1 v1 v349 X3 X6 X8 X10 G11 G12 k.val).1 (probsAt c i arg3 harg3 arg4 harg4 arg5 harg5 arg6 harg6 arg7 harg7 arg8 harg8 arg9 harg9 arg10 harg10 arg11 harg11 arg12 harg12 arg1 v1 v349 X3 X6 X8 X10 G11 G12 k.val).2 k).2.2 Set.univ

set_option warn.classDefReducibility false in
/-- The loop's remainder has no trip. -/
@[sl_loop] def loopInv_k0_t4 (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (v1 : BitVec 32) (v349 : FVec F S1024x128 .f32) (v366 : BitVec 32) :
    LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg1 v1 v349 v366 where
  inv := fun _ _ => iprop(emp)
  step := fun k _ => absurd (Nat.lt_of_lt_of_eq k.isLt (t4_trips i)) (Nat.not_lt_zero _)

end Cert.Proof.AttnIdeal

end
-- ==== Proof.AttnIdealBody.lean ====
/- `AttnIdeal`: the body of the kernel run whole, from any contents of the output block and of the scratch. -/
module

public import proofs.«01_k».proof.Proof.AttnIdealProbs

@[expose] public section

set_option maxRecDepth 65536
set_option maxHeartbeats 8000000

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame: points-tos alone. -/
local notation "𝕄" => MT nD τ sig Unit (Elt F) ℕ (UR sig nD τ) ℕ

/-- What the body touches: the four inputs, the output block, the five scratch buffers. -/
abbrev All (c : Dev nD)  (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄 :=
  iprop(held c arg3 X3 ∗ held c arg4 X4 ∗ held c arg5 X5 ∗ held c arg6 X6 ∗ held c arg7 f7 ∗ held c arg8 f8 ∗ held c arg9 f9 ∗ held c arg10 f10 ∗ held c arg11 f11 ∗ held c arg12 f12)

/-- The body: what it leaves in the output block and in the scratch. -/
@[irreducible] def kernelRun (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    Σ' (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty), { g12 : BufTy.Contents (Elt F) arg12.view.ty //
      All c arg3 harg3 arg4 harg4 arg5 harg5 arg6 harg6 arg7 harg7 arg8 harg8 arg9 harg9 arg10 harg10 arg11 harg11 arg12 harg12 X3 X4 X5 X6 f7 f8 f9 f10 f11 f12
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12)
          (fun _ => All c arg3 harg3 arg4 harg4 arg5 harg5 arg6 harg6 arg7 harg7 arg8 harg8 arg9 harg9 arg10 harg10 arg11 harg11 arg12 harg12 X3 X4 X5 X6 g7 g8 g9 g10 g11 g12) } := by
  refine ⟨?_, ?_, ?_, ?_, ?_, ?_, ?run⟩
  case run =>
    simp only [cc0_attn_eq_skeleton]
    unfold cc0_attn_skel
    simp only [k0_part39_eq_skeleton]
    unfold k0_part39_skel
    iintro ⟨H3, H4, H5, H6, H7, H8, H9, H10, H11, H12⟩
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.AttnIdeal

end
-- ==== Proof.AttnIdealKernel.lean ====
/- `AttnIdeal`: the body of the kernel as the pipeline calls it. -/
module

public import proofs.«01_k».proof.Proof.AttnIdealBody
public import proofs.«01_k».proof.Proof.Gen.AttnIdeal.Points

@[expose] public section

set_option maxRecDepth 65536
set_option maxHeartbeats 8000000

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame: points-tos alone. -/
local notation "𝕄" => MT nD τ sig Unit (Elt F) ℕ (UR sig nD τ) ℕ

/-- The output block has `Q` whatever the output block and the scratch held before. -/
def Leaves (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)
    (x3 : Vec F S1x64x16 .f32) (x4 : Vec F S1x256x1024 .fp8e4m3) (x5 : Vec F S1x8192x256 .fp8e4m3) (x6 : Vec F S1x8192x256 .fp8e4m3) (Q : Vec F S1x256x1024 .bf16 → Prop) : Prop :=
  ∀ (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
    arg3.view.read (Elt F) X3 = x3 → arg4.view.read (Elt F) X4 = x4 → arg5.view.read (Elt F) X5 = x5 → arg6.view.read (Elt F) X6 = x6 →
    Q (arg7.view.read (Elt F) (kernelRun c i arg3 harg3 arg4 harg4 arg5 harg5 arg6 harg6 arg7 harg7 arg8 harg8 arg9 harg9 arg10 harg10 arg11 harg11 arg12 harg12 X3 X4 X5 X6 f7 f8 f9 f10 f11 f12).1)

/-- The body at input blocks `x3` to `x6`: they stay, the output block gets what `Leaves` says, the scratch is held at something. -/
theorem sound_kernel (c : Dev nD) (i : grid0.Coords) (arg3 : Memref sig .tc .smem S1x64x16 .f32) (harg3 : arg3.IsWhole) (arg4 : Memref sig .tc .vmem S1x256x1024 .fp8e4m3) (harg4 : arg4.IsWhole) (arg5 : Memref sig .tc .vmem S1x8192x256 .fp8e4m3) (harg5 : arg5.IsWhole) (arg6 : Memref sig .tc .vmem S1x8192x256 .fp8e4m3) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)
    (x3 : Vec F S1x64x16 .f32) (x4 : Vec F S1x256x1024 .fp8e4m3) (x5 : Vec F S1x8192x256 .fp8e4m3) (x6 : Vec F S1x8192x256 .fp8e4m3) (Q : Vec F S1x256x1024 .bf16 → Prop)
    (hQ : Leaves c i arg3 harg3 arg4 harg4 arg5 harg5 arg6 harg6 arg7 harg7 arg8 harg8 arg9 harg9 arg10 harg10 arg11 harg11 arg12 harg12 x3 x4 x5 x6 Q) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6
        ∗ (∃ d, ⌜Q d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12) K := by
  unfold owns
  iintro ⟨⟨%X3, %e3, H3⟩, ⟨%X4, %e4, H4⟩, ⟨%X5, %e5, H5⟩, ⟨%X6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, Hk⟩
  iapply (wp_wand_r _ _ _)
  isplitl [H3 H4 H5 H6 H7 H8 H9 H10 H11 H12]
  · iapply (kernelRun c i arg3 harg3 arg4 harg4 arg5 harg5 arg6 harg6 arg7 harg7 arg8 harg8 arg9 harg9 arg10 harg10 arg11 harg11 arg12 harg12 X3 X4 X5 X6 f7 f8 f9 f10 f11 f12).2.2.2.2.2.2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %a ⟨H3, H4, H5, H6, H7, H8, H9, H10, H11, H12⟩
    iapply Hk
    isplitl [H3]
    · iexists X3; isplitr; swap; · iexact H3
      ipureintro; exact e3
    isplitl [H4]
    · iexists X4; isplitr; swap; · iexact H4
      ipureintro; exact e4
    isplitl [H5]
    · iexists X5; isplitr; swap; · iexact H5
      ipureintro; exact e5
    isplitl [H6]
    · iexists X6; isplitr; swap; · iexact H6
      ipureintro; exact e6
    isplitl [H7]
    · iexists _; isplitr; swap
      · iexists _; isplitr; swap; · iexact H7
        ipureintro; rfl
      ipureintro; exact hQ X3 X4 X5 X6 f7 f8 f9 f10 f11 f12 e3 e4 e5 e6
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.Proof.AttnIdeal

end
-- ==== Proof.AttnIdealFrame.lean ====
/- `AttnIdeal`: every execution of the whole program terminates and leaves the argument arrays as they were. Nothing is said
   of the output here: its window is forgotten. -/
module

public import proofs.«01_k».proof.Proof.AttnIdealKernel
public import proofs.«01_k».proof.Proof.Gen.AttnIdeal.Points

@[expose] public section

set_option maxRecDepth 65536
set_option maxHeartbeats 8000000

noncomputable section

namespace Cert.Proof.AttnIdeal.Forget

open Idealize.ShloMosaic.Pipeline (Dat Cfg Window BodyObligation cellOf)
open Cert.Proof.AttnIdeal Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame: points-tos alone. -/
local notation "𝕄" => MT nD τ sig Unit (Elt F) ℕ (UR sig nD τ) ℕ

variable (m : (ℓ : Loc nD τ sig) → Buf (Elt F) ℓ) (ρ : Dev nD → PrngReg)

/-- The output's window is forgotten, the inputs' are not. -/
def forgets0 : Fin cfg0.W → Bool := fun w => w.val == 4

/-- The proof data on core `c`: the arrays as the region finds them; each input's block left as it is found; the output's unnamed;
    the scratch held at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scopedRest0_eq]
  simp only [← owns_whole]
  iintro ⟨⟨⟨H8, H9, H10, H11, H12⟩, Hr⟩, Ho, ⟨%d0, H0⟩, ⟨%d1, H1⟩, ⟨%d2, H2⟩, ⟨%d3, H3⟩, H4⟩
  iapply (sound_kernel c _ _ _ _ _ _ _ _ _ _ _ _ _ _ _ _ _ _ _ _ _ (iblk m c 0 t) (iblk m c 1 t) (iblk m c 2 t) (iblk m c 3 t) (fun _ => True) (fun _ _ _ _ _ _ _ _ _ _ _ _ _ _ => trivial) _)
  isplitl [H0]; · iexact H0
  isplitl [H1]; · iexact H1
  isplitl [H2]; · iexact H2
  isplitl [H3]; · iexact H3
  isplitl [H4]; · iexact H4
  isplitl [H8]; · iexact H8
  isplitl [H9]; · iexact H9
  isplitl [H10]; · iexact H10
  isplitl [H11]; · iexact H11
  isplitl [H12]; · iexact H12
  iintro ⟨H0, H1, H2, H3, ⟨%d4, -, H4⟩, H8, H9, H10, H11, H12⟩
  isplitl [H8 H9 H10 H11 H12 Hr]
  · isplitl [H8 H9 H10 H11 H12]
    · isplitl [H8]; · iexact H8
      isplitl [H9]; · iexact H9
      isplitl [H10]; · iexact H10
      isplitl [H11]; · iexact H11
      iexact H12
    iexact Hr
  isplitl [Ho]; · iexact Ho
  isplitl [H0]; · iexact H0
  isplitl [H1]; · iexact H1
  isplitl [H2]; · iexact H2
  isplitl [H3]; · iexact H3
  iexists d4; iexact H4

theorem defs₀_row (t : Fin cfg0.N) :
    defs₀ (F := F) .tc cfg0.body (cfg0.bodyArgs t (cfg0.slots t)) = bodyAt0 t := by
  unfold defs₀; rw [Defs.onTc_tc]

/-- The library's body obligation with the output forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every execution terminates with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c))⟩, h.2⟩) (run_main m ρ)

end Cert.Proof.AttnIdeal.Forget

end
-- ==== Proof.Spec.lean ====
/- What the kernel computes of one block, as plain mathematics over the extended reals: the scores of the block's rows, key by
   key. A row `r` of the block's 1024 is query `r % 256` of head `r / 256`; a key is numbered in the whole sequence. -/
module

public import proofs.«01_k».proof.Proof.AttnIdealBody
public import Idealize.ShloMosaic.Lib.Pointwise
public import Idealize.ShloMosaic.Lib.Writes

@[expose] public section

set_option maxRecDepth 65536
set_option maxHeartbeats 1000000

noncomputable section

namespace Cert.Proof.AttnIdeal

open Cert.AttnIdeal Cert.AttnIdeal.Gen
open Idealize.ShloMosaic Idealize.ShloMosaic.Tactic

/-- The inputs of one block: its query tile, its group of heads, the scales, the codes of queries, keys and values. -/
structure In where
  t : ℕ
  g : ℕ
  sc : Vec Ideal S1x64x16 .f32
  q : Vec Ideal S1x256x1024 .fp8e4m3
  k : Vec Ideal S1x8192x256 .fp8e4m3
  v : Vec Ideal S1x8192x256 .fp8e4m3

/-- The softmax scale 1/16. -/
abbrev sm : EReal := Ideal.ofBits .f32 0x3D800000#32
/-- `log2 e`. -/
abbrev l2e : EReal := Named.named (F := Ideal) (φ := .f32) κ "log2e" 0x3FB8AA3B#32

namespace In

variable (I : In)

/-- The query codes' row `r`. -/
def qrow (r : ℕ) (d : Fin 256) : EReal := I.q (ix3 (0 : Fin 1) (Fin.ofNat 256 (r % 256)) (Fin.ofNat 1024 (256 * (r / 256) + d.val)))
/-- The product of the codes of row `r` and key `j`. -/
def acc (r j : ℕ) : EReal := ∑ d : Fin 256, I.qrow r d * I.k (ix3 (0 : Fin 1) (Fin.ofNat 8192 j) d)
/-- The scale of row `r`. -/
def qs (r : ℕ) : EReal := I.sc (ix3 (0 : Fin 1) (Fin.ofNat 64 (2 * I.t + r % 256 / 128)) (Fin.ofNat 16 (4 * I.g + r / 256)))
/-- The scale of key `j`. -/
def ks (j : ℕ) : EReal := I.sc (ix3 (0 : Fin 1) (Fin.ofNat 64 (j / 128)) (8 : Fin 16))
/-- The scale of value `j`. -/
def vs (j : ℕ) : EReal := I.sc (ix3 (0 : Fin 1) (Fin.ofNat 64 (j / 128)) (9 : Fin 16))
/-- The score of row `r` and key `j`, in base two, unmasked. -/
def rawScore (r j : ℕ) : EReal := I.acc r j * (I.qs r * sm * I.ks j * l2e)
/-- Key `j` is visible to row `r`: not after it, and less than 4096 before it. -/
def Vis (r j : ℕ) : Prop := j ≤ 256 * I.t + r % 256 ∧ 256 * I.t + r % 256 < j + 4096
instance (r j : ℕ) : Decidable (I.Vis r j) := inferInstanceAs (Decidable (_ ∧ _))
/-- The score of row `r` and key `j`, in base two: `⊥` where the key is not visible. -/
def score (r j : ℕ) : EReal := if I.Vis r j then I.rawScore r j else ⊥

end In

/-- The four heads' query blocks under one another. -/
abbrev qmat (q : Vec Ideal S1x256x1024 .fp8e4m3) : FVec Ideal S1024x256 .fp8e4m3 :=
  k0_pay163 (View.ld q (Rect.unit ![0, 0, 0] S1x256x256.size inb_S1x256x1024_S1x256x256_0_0_0))
    (View.ld q (Rect.unit ![0, 0, 256] S1x256x256.size inb_S1x256x1024_S1x256x256_0_0_256))
    (View.ld q (Rect.unit ![0, 0, 512] S1x256x256.size inb_S1x256x1024_S1x256x256_0_0_512))
    (View.ld q (Rect.unit ![0, 0, 768] S1x256x256.size inb_S1x256x1024_S1x256x256_0_0_768))

theorem qmat_apply (I : In) (a : Fin 1024) (d : Fin 256) : qmat I.q (ix2 a d) = I.qrow a.val d := by
  unfold In.qrow
  have ha := a.isLt
  have hd := d.isLt
  pointwise [k0_pay163]
  split_ifs <;> (congr 2 <;> apply Fin.ext <;> simp only [Fin.val_ofNat] <;> omega)

theorem pay47_apply (Q : FVec Ideal S1024x256 .fp8e4m3) (kp : Vec Ideal S1x256x256 .fp8e4m3) (a : Fin 1024) (b : Fin 256) :
    k0_pay47 Q kp (ix2 a b) = ∑ d : Fin 256, Q (ix2 a d) * kp (ix3 (0 : Fin 1) b d) := by
  pointwise [k0_pay47]

/-- One tile of scores: 128 rows from `r0`, 128 columns from `c0` of a product, under one scale. -/
abbrev tile (S : FVec Ideal S1024x256 .f32) (qs ks : EReal) (o : Fin 2 → ℕ) (h : S1024x256.Slices o S128x128) : FVec Ideal S128x128 .f32 :=
  mulf (extractStridedSlice S128x128 o S h) (broadcast S128x128 (Scalar.mulf (Scalar.mulf (Scalar.mulf (F := Ideal) (φ := .f32) qs (Scalar.ofBits .f32 0x3D800000#32)) ks) (Named.named κ "log2e" 0x3FB8AA3B#32)))

theorem tile_apply (I : In) (p r0 c0 : ℕ) (hr : r0 + 128 ≤ 1024) (hc : c0 + 128 ≤ 256) (hp : p < 32) (hr' : r0 % 128 = 0) (hc' : c0 % 128 = 0)
    (off : Fin 3 → ℕ) (hoff : off = ![0, 256 * p, 0]) (inb) (h) (qs ks : EReal) (hqs : qs = I.qs r0) (hks : ks = I.ks (256 * p + c0)) (y : S128x128.Idx) :
    tile (k0_pay47 (qmat I.q) (View.ld I.k (Rect.unit off S1x256x256.size inb))) qs ks ![r0, c0] h y = I.rawScore (r0 + (y 0).val) (256 * p + (c0 + (y 1).val)) := by
  subst hoff hqs hks
  have h0 : (y 0).val < 128 := (y 0).isLt
  have h1 : (y 1).val < 128 := (y 1).isLt
  have e1 : I.qs r0 = I.qs (r0 + (y 0).val) := by
    unfold In.qs; rw [show (r0 + (y 0).val) % 256 / 128 = r0 % 256 / 128 by omega, show (r0 + (y 0).val) / 256 = r0 / 256 by omega]
  have e2 : I.ks (256 * p + c0) = I.ks (256 * p + (c0 + (y 1).val)) := by
    unfold In.ks; rw [show (256 * p + (c0 + (y 1).val)) / 128 = (256 * p + c0) / 128 by omega]
  pointwise [tile]
  rw [pay47_apply, e1, e2]
  refine congrArg (· * _) (Finset.sum_congr rfl fun d _ => ?_)
  rw [qmat_apply]
  refine congrArg (_ * ·) ?_
  pointwise
  congr 2
  apply Fin.ext; simp only [Fin.val_ofNat]; omega

end Cert.Proof.AttnIdeal

end
-- ==== Proof.Tiles.lean ====
/- Tiles of scores and groups of rows: what a list of stores of tiles leaves in the scratch of scores, and what a chain of
   stores of 128 rows each leaves in the running maxima. -/
module

public import proofs.«01_k».proof.Proof.Spec

@[expose] public section

set_option maxRecDepth 65536
set_option maxHeartbeats 1000000

noncomputable section

namespace Cert.Proof.AttnIdeal

open Cert.AttnIdeal Cert.AttnIdeal.Gen
open Idealize.ShloMosaic Idealize.ShloMosaic.Tactic

/-- A rectangle's element at the coordinates of the array. -/
theorem emb_val {s : Shape} (r : Rect s) (x : r.shape.Idx) (a : Fin s.rank) : (r.emb x a).val = r.off a + r.stride a * (x a).val := rfl

/-- One number of the scales read. -/
theorem scale_read {κ' : Kind} {sp : Space} (v : View sig κ' sp S1x64x16 .f32) (X : v.ty.Contents (Elt Ideal)) (off : Fin 3 → ℕ) (a b : ℕ)
    (hoff : off = ![0, a, b]) (inb) (h) (ha : a < 64) (hb : b < 16) :
    View.readAt (Elt Ideal) v (Rect.unit (s := S1x64x16) off S1x1x1.size inb).toLoadRect X (Shape.Idx.first h)
      = v.read (Elt Ideal) X (ix3 (0 : Fin 1) (⟨a, ha⟩ : Fin 64) (⟨b, hb⟩ : Fin 16)) := by
  subst hoff
  rw [View.readAt_eq_ld]
  show v.read (Elt Ideal) X _ = _
  congr 1
  funext c
  apply Fin.ext
  fin_cases c <;> rfl

/-- `T` is the tile of scores of 128 rows from `r0` and 128 keys from the `c0`-th of pair `p`. -/
def IsTile (I : In) (p r0 c0 : ℕ) (T : FVec Ideal S128x128 .f32) : Prop := ∀ y : S128x128.Idx, T y = I.score (r0 + (y 0).val) (256 * p + (c0 + (y 1).val))

theorem negInf_eq : (Scalar.ofBits (F := Ideal) .f32 0xFF800000#32 : EReal) = ⊥ := by
  show Ideal.ofBits .f32 0xFF800000#32 = ⊥
  simp [Ideal.ofBits, Ideal.ieee]

/-- A tile whose keys are all visible. -/
theorem isTile_all {I : In} {p r0 c0 : ℕ} {T : FVec Ideal S128x128 .f32}
    (hT : ∀ y : S128x128.Idx, T y = I.rawScore (r0 + (y 0).val) (256 * p + (c0 + (y 1).val)))
    (hv : ∀ a b, a < 128 → b < 128 → I.Vis (r0 + a) (256 * p + (c0 + b))) : IsTile I p r0 c0 T := fun y => by
  rw [hT, In.score, if_pos (hv _ _ (y 0).isLt (y 1).isLt)]

/-- A tile with a mask. -/
theorem isTile_tri {I : In} {p r0 c0 : ℕ} {T : FVec Ideal S128x128 .f32} {m : IVec S128x128 1}
    (hT : ∀ y : S128x128.Idx, T y = I.rawScore (r0 + (y 0).val) (256 * p + (c0 + (y 1).val)))
    (hm : ∀ y : S128x128.Idx, m y = 1#1 ↔ I.Vis (r0 + (y 0).val) (256 * p + (c0 + (y 1).val))) :
    IsTile I p r0 c0 (select m T (broadcast S128x128 (Scalar.ofBits (F := Ideal) .f32 0xFF800000#32))) := fun y => by
  have e : select m T (broadcast S128x128 (Scalar.ofBits (F := Ideal) .f32 0xFF800000#32)) y
      = if m y = 1#1 then T y else (Scalar.ofBits (F := Ideal) .f32 0xFF800000#32 : EReal) := rfl
  rw [e, negInf_eq, In.score]
  by_cases h : m y = 1#1
  · rw [if_pos h, if_pos ((hm y).1 h), hT]
  · rw [if_neg h, if_neg (fun h' => h ((hm y).2 h'))]

/-- A tile none of whose keys is visible. -/
theorem isTile_none {I : In} {p r0 c0 : ℕ} (hv : ∀ a b, a < 128 → b < 128 → ¬ I.Vis (r0 + a) (256 * p + (c0 + b))) :
    IsTile I p r0 c0 (broadcast S128x128 (Scalar.ofBits (F := Ideal) .f32 0xFF800000#32)) := fun y => by
  rw [In.score, if_neg (hv _ _ (y 0).isLt (y 1).isLt)]
  exact negInf_eq

/-- A stored tile: a piece of slot `s` of the scratch of scores holding `G`. -/
def Tile8 (s : ℕ) (G : ℕ → ℕ → EReal) (r0 c0 : ℕ) (q : View.Piece (Elt Ideal) S17x1024x256 .f32) : Prop :=
  q.1.off = ![s, r0, c0] ∧ q.1.size = ![1, 128, 128] ∧ (∀ a, q.1.stride a = 1) ∧
    ∀ x : q.1.shape.Idx, q.2 x = G (r0 + (x (1 : Fin 3)).val) (c0 + (x (2 : Fin 3)).val)

theorem tile8_of {I : In} {p r0 c0 s : ℕ} {T : FVec Ideal S128x128 .f32} (hT : IsTile I p r0 c0 T) (off : Fin 3 → ℕ) (hoff : off = ![s, r0, c0]) (inb) (h) :
    Tile8 s (fun r c => I.score r (256 * p + c)) r0 c0 ⟨Rect.unit off S1x128x128.size inb, shapeCast S1x128x128 T h⟩ := by
  refine ⟨hoff, rfl, fun _ => rfl, fun x => ?_⟩
  show shapeCast S1x128x128 T h x = _
  have e : shapeCast S1x128x128 T h x = T (ix2 (x (1 : Fin 3)) (x (2 : Fin 3))) := by pointwise
  rw [e, hT]; rfl

/-- What the stored tiles of one slot leave: the slot's scores; the other slots as they were. -/
theorem read_tiles {κ' : Kind} {sp : Space} (v : View sig κ' sp S17x1024x256 .f32) (f : v.ty.Contents (Elt Ideal)) (s : ℕ) (G : ℕ → ℕ → EReal)
    (L : List (View.Piece (Elt Ideal) S17x1024x256 .f32)) (hL : ∀ q ∈ L, ∃ r0 c0, Tile8 s G r0 c0 q)
    (hc : ∀ (a : Fin 8) (b : Fin 2), ∃ q ∈ L, Tile8 s G (128 * a.val) (128 * b.val) q) (y : S17x1024x256.Idx) :
    v.read (Elt Ideal) (v.writes (Elt Ideal) f L) y = if (y 0).val = s then G (y 1).val (y 2).val else v.read (Elt Ideal) f y := by
  split_ifs with h
  · refine View.read_writes_apply_of_pieces v f (fun y => G (y 1).val (y 2).val) L (fun q hq x => ?_) y ?_
    · obtain ⟨r0, c0, ho, _, hst, hw⟩ := hL q hq
      rw [hw]
      have e1 := emb_val q.1 x (1 : Fin 3)
      have e2 := emb_val q.1 x (2 : Fin 3)
      rw [ho, hst, one_mul] at e1 e2
      show _ = G (q.1.emb x (1 : Fin 3)).val (q.1.emb x (2 : Fin 3)).val
      rw [e1, e2]; rfl
    · have h1 : (y 1).val < 1024 := (y 1).isLt
      have h2 : (y 2).val < 256 := (y 2).isLt
      obtain ⟨q, hq, ho, hs, hst, _⟩ := hc ⟨(y 1).val / 128, by omega⟩ ⟨(y 2).val / 128, by omega⟩
      refine ⟨q, hq, ?_⟩
      have hlt : ∀ a : Fin 3, (y a).val - q.1.off a < q.1.size a := fun a => by
        rw [ho, hs]; fin_cases a
        · show (y 0).val - s < 1; omega
        · show (y 1).val - 128 * ((y 1).val / 128) < 128; omega
        · show (y 2).val - 128 * ((y 2).val / 128) < 128; omega
      have he : q.1.emb (fun a => ⟨(y a).val - q.1.off a, hlt a⟩) = y := q.1.emb_eq_of_coords _ _ fun a => by
        rw [hst, one_mul]
        show (y a).val = q.1.off a + ((y a).val - q.1.off a)
        have : q.1.off a ≤ (y a).val := by
          rw [ho]; fin_cases a
          · show s ≤ (y 0).val; omega
          · show 128 * ((y 1).val / 128) ≤ (y 1).val; omega
          · show 128 * ((y 2).val / 128) ≤ (y 2).val; omega
        omega
      rw [← he, ← Rect.map_emb_univ]
      exact Finset.mem_map_of_mem _ (Finset.mem_univ _)
  · refine View.read_writes_apply_of_forall_not_mem v f y L fun q hq => ?_
    obtain ⟨r0, c0, ho, hs, hst, _⟩ := hL q hq
    refine q.1.not_mem_set_of_axis y (0 : Fin 3) s 1 (by rw [ho]; rfl) (hst _) (by rw [hs]; rfl) ?_
    show (y 0).val < s ∨ s + 1 ≤ (y 0).val
    omega

/-- A chain of stores of 128 rows each: the rows below `n` hold `G`, the others are as they were (`old`). -/
structure Rows {κ' : Kind} {sp : Space} (v : View sig κ' sp S1024x128 .f32) (f : v.ty.Contents (Elt Ideal)) (G old : ℕ → ℕ → EReal)
    (n : ℕ) (L : List (View.Piece (Elt Ideal) S1024x128 .f32)) : Prop where
  done : ∀ y : S1024x128.Idx, (y 0).val < n → v.read (Elt Ideal) (v.writes (Elt Ideal) f L) y = G (y 0).val (y 1).val
  rest : ∀ y : S1024x128.Idx, n ≤ (y 0).val → v.read (Elt Ideal) (v.writes (Elt Ideal) f L) y = old (y 0).val (y 1).val

namespace Rows

variable {κ' : Kind} {sp : Space} {v : View sig κ' sp S1024x128 .f32} {f : v.ty.Contents (Elt Ideal)} {G old : ℕ → ℕ → EReal} {n : ℕ}
  {L : List (View.Piece (Elt Ideal) S1024x128 .f32)}

theorem nil (h : ∀ y : S1024x128.Idx, v.read (Elt Ideal) f y = old (y 0).val (y 1).val) : Rows v f G old 0 [] :=
  ⟨fun _ h => absurd h (Nat.not_lt_zero _), fun y _ => h y⟩

theorem step (H : Rows v f G old n L) (inb) (w : S128x128.Idx → EReal) (hw : ∀ x : S128x128.Idx, w x = G (n + (x 0).val) (x 1).val) :
    Rows v f G old (n + 128) (⟨Rect.unit ![n, 0] S128x128.size inb, w⟩ :: L) := by
  constructor
  · intro y hy
    have h1 : (y 1).val < 128 := (y 1).isLt
    by_cases h : n ≤ (y 0).val
    · have hx : ∀ a : Fin 2, (y a).val = (Rect.unit (s := S1024x128) ![n, 0] S128x128.size inb).off a + (Rect.unit (s := S1024x128) ![n, 0] S128x128.size inb).stride a
          * ((ix2 (⟨(y 0).val - n, by omega⟩ : Fin 128) (⟨(y 1).val, h1⟩ : Fin 128) : S128x128.Idx) a).val := fun a => by
        fin_cases a
        · show (y 0).val = n + 1 * ((y 0).val - n); omega
        · show (y 1).val = 0 + 1 * (y 1).val; omega
      rw [View.read_writes_cons_hit_of_coords v f _ w L _ y hx, hw]
      show G (n + ((y 0).val - n)) (y 1).val = _
      rw [Nat.add_sub_cancel' h]
    · rw [View.read_writes_cons_miss_of_axis v f _ L y (0 : Fin 2) n 128 rfl rfl rfl (Or.inl (by omega))]
      exact H.done y (by omega)
  · intro y hy
    rw [View.read_writes_cons_miss_of_axis v f _ L y (0 : Fin 2) n 128 rfl rfl rfl (Or.inr hy)]
    exact H.rest y (by omega)

/-- The rows about to be stored are read as they were. -/
theorem load (H : Rows v f G old n L) (inb) (x : S128x128.Idx) :
    v.read (Elt Ideal) (v.writes (Elt Ideal) f L) ((Rect.unit (s := S1024x128) ![n, 0] S128x128.size inb).emb x) = old (n + (x 0).val) (x 1).val := by
  have e0 := emb_val (Rect.unit (s := S1024x128) ![n, 0] S128x128.size inb) x (0 : Fin 2)
  have e1 := emb_val (Rect.unit (s := S1024x128) ![n, 0] S128x128.size inb) x (1 : Fin 2)
  have e0' : ((Rect.unit (s := S1024x128) ![n, 0] S128x128.size inb).emb x 0).val = n + (x 0).val := by rw [e0]; show n + 1 * _ = _; omega
  have e1' : ((Rect.unit (s := S1024x128) ![n, 0] S128x128.size inb).emb x 1).val = (x 1).val := by rw [e1]; show 0 + 1 * _ = _; omega
  rw [H.rest _ (by omega), e0', e1']

/-- Rows read of what holds `old`. -/
theorem load0 {f : v.ty.Contents (Elt Ideal)} (h : ∀ y : S1024x128.Idx, v.read (Elt Ideal) f y = old (y 0).val (y 1).val) (inb) (x : S128x128.Idx) :
    View.readAt (Elt Ideal) v (Rect.unit (s := S1024x128) ![n, 0] S128x128.size inb).toLoadRect f x = old (n + (x 0).val) (x 1).val := by
  have e0 := emb_val (Rect.unit (s := S1024x128) ![n, 0] S128x128.size inb) x (0 : Fin 2)
  have e1 := emb_val (Rect.unit (s := S1024x128) ![n, 0] S128x128.size inb) x (1 : Fin 2)
  have e0' : ((Rect.unit (s := S1024x128) ![n, 0] S128x128.size inb).emb x 0).val = n + (x 0).val := by rw [e0]; show n + 1 * _ = _; omega
  have e1' : ((Rect.unit (s := S1024x128) ![n, 0] S128x128.size inb).emb x 1).val = (x 1).val := by rw [e1]; show 0 + 1 * _ = _; omega
  rw [View.readAt_eq_ld]
  show v.read (Elt Ideal) f ((Rect.unit (s := S1024x128) ![n, 0] S128x128.size inb).emb x) = _
  rw [h, e0', e1']

theorem nil' (f : v.ty.Contents (Elt Ideal)) : Rows v f G (fun r l => v.read (Elt Ideal) f (ix2 (Fin.ofNat 1024 r) (Fin.ofNat 128 l))) 0 [] :=
  nil fun y => congrArg (v.read (Elt Ideal) f) (by
    funext a
    apply Fin.ext
    fin_cases a
    · exact (Nat.mod_eq_of_lt (y 0).isLt).symm
    · exact (Nat.mod_eq_of_lt (y 1).isLt).symm)

end Rows

/-- The same over any contents. -/
def RowsA {κ' : Kind} {sp : Space} (v : View sig κ' sp S1024x128 .f32) (G old : ℕ → ℕ → EReal) (n : ℕ) (L : List (View.Piece (Elt Ideal) S1024x128 .f32)) : Prop :=
  ∀ f, Rows v f G old n L

namespace RowsA

variable {κ' : Kind} {sp : Space} {v : View sig κ' sp S1024x128 .f32} {G old : ℕ → ℕ → EReal} {n : ℕ} {L : List (View.Piece (Elt Ideal) S1024x128 .f32)}

theorem whole (inb) (w : S1024x128.Idx → EReal) (hw : ∀ x : S1024x128.Idx, w x = old (x 0).val (x 1).val) :
    RowsA v G old 0 [⟨Rect.unit ![0, 0] S1024x128.size inb, w⟩] := fun f => by
  refine ⟨fun _ h => absurd h (Nat.not_lt_zero _), fun y _ => ?_⟩
  have hx : ∀ a : Fin 2, (y a).val = (Rect.unit (s := S1024x128) ![0, 0] S1024x128.size inb).off a + (Rect.unit (s := S1024x128) ![0, 0] S1024x128.size inb).stride a * (y a).val := fun a => by
    fin_cases a
    · show (y 0).val = 0 + 1 * (y 0).val; omega
    · show (y 1).val = 0 + 1 * (y 1).val; omega
  exact (View.read_writes_cons_hit_of_coords v f (Rect.unit (s := S1024x128) ![0, 0] S1024x128.size inb) w [] y y hx).trans (hw y)

theorem step (H : RowsA v G old n L) (inb) (w : S128x128.Idx → EReal) (hw : ∀ x : S128x128.Idx, w x = G (n + (x 0).val) (x 1).val) :
    RowsA v G old (n + 128) (⟨Rect.unit ![n, 0] S128x128.size inb, w⟩ :: L) := fun f => (H f).step inb w hw

theorem load (H : RowsA v G old n L) (inb) (x : S128x128.Idx) :
    v.readCov L (Rect.unit (s := S1024x128) ![n, 0] S128x128.size inb).toLoadRect x = old (n + (x 0).val) (x 1).val := (H v.junk).load inb x

end RowsA

/-- The running maxima raised by the tiles of pair `p`. -/
def raise (I : In) (p : ℕ) (old : ℕ → ℕ → EReal) (r l : ℕ) : EReal := max (max (old r l) (I.score r (256 * p + (0 + l)))) (I.score r (256 * p + (128 + l)))

/-- Two tiles raise the maxima. -/
theorem raise_both {I : In} {p n : ℕ} {old : ℕ → ℕ → EReal} {O T0 T1 : FVec Ideal S128x128 .f32} (hO : ∀ x : S128x128.Idx, O x = old (n + (x 0).val) (x 1).val)
    (h0 : IsTile I p n 0 T0) (h1 : IsTile I p n 128 T1) (h) (x : S128x128.Idx) :
    shapeCast S128x128 (maximumf (maximumf O T0) T1) h x = raise I p old (n + (x 0).val) (x 1).val := by
  have e : shapeCast S128x128 (maximumf (maximumf O T0) T1) h x = max (max (O x) (T0 x)) (T1 x) := by pointwise
  rw [e, hO, h0, h1]; rfl

/-- The first tile alone, where no key of the second is visible. -/
theorem raise_fst {I : In} {p n : ℕ} {old : ℕ → ℕ → EReal} {O T0 : FVec Ideal S128x128 .f32} (hO : ∀ x : S128x128.Idx, O x = old (n + (x 0).val) (x 1).val)
    (h0 : IsTile I p n 0 T0) (h1 : IsTile I p n 128 (broadcast S128x128 (Scalar.ofBits (F := Ideal) .f32 0xFF800000#32))) (h) (x : S128x128.Idx) :
    shapeCast S128x128 (maximumf O T0) h x = raise I p old (n + (x 0).val) (x 1).val := by
  have e : shapeCast S128x128 (maximumf O T0) h x = max (O x) (T0 x) := by pointwise
  have h1' : (⊥ : EReal) = I.score (n + (x 0).val) (256 * p + (128 + (x 1).val)) := negInf_eq.symm.trans (h1 x)
  rw [e, hO, h0, raise, ← h1', max_eq_left bot_le]

/-- The second tile alone, where no key of the first is visible. -/
theorem raise_snd {I : In} {p n : ℕ} {old : ℕ → ℕ → EReal} {O T1 : FVec Ideal S128x128 .f32} (hO : ∀ x : S128x128.Idx, O x = old (n + (x 0).val) (x 1).val)
    (h0 : IsTile I p n 0 (broadcast S128x128 (Scalar.ofBits (F := Ideal) .f32 0xFF800000#32))) (h1 : IsTile I p n 128 T1) (h) (x : S128x128.Idx) :
    shapeCast S128x128 (maximumf O T1) h x = raise I p old (n + (x 0).val) (x 1).val := by
  have e : shapeCast S128x128 (maximumf O T1) h x = max (O x) (T1 x) := by pointwise
  have h0' : (⊥ : EReal) = I.score (n + (x 0).val) (256 * p + (0 + (x 1).val)) := negInf_eq.symm.trans (h0 x)
  rw [e, hO, h1, raise, ← h0', max_eq_left (bot_le : ⊥ ≤ old _ _)]

end Cert.Proof.AttnIdeal

end
-- ==== Proof.MidValue.lean ====
/- One trip of the loop between the window's first pair and the diagonal one, and the loop: the scores it stores and the
   maxima it leaves. -/
module

public import proofs.«01_k».proof.Proof.Tiles

@[expose] public section

set_option maxRecDepth 65536
set_option maxHeartbeats 4000000

noncomputable section

namespace Cert.Proof.AttnIdeal

open Cert.AttnIdeal Cert.AttnIdeal.Gen
open Idealize.ShloMosaic Idealize.ShloMosaic.TcCoe Idealize.ShloMosaic.Tactic

/-- The inputs of a grid point's block, as the buffers hold them. -/
abbrev inOf (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) : In :=
  ⟨tt i, (i 2).val, arg3.view.read (Elt Ideal) X3, arg4.view.read (Elt Ideal) X4, arg5.view.read (Elt Ideal) X5, arg6.view.read (Elt Ideal) X6⟩

/-- The positions of a slot's sixteen tiles, last stored first. -/
abbrev idx16 : List (ℕ × ℕ) :=
  [(896, 128), (896, 0), (768, 128), (768, 0), (640, 128), (640, 0), (512, 128), (512, 0), (384, 128), (384, 0), (256, 128), (256, 0), (128, 128), (128, 0), (0, 128), (0, 0)]

/-- Sixteen tiles stored in one slot leave that slot's scores. -/
theorem read_tiles16 {κ' : Kind} {sp : Space} (v : View sig κ' sp S17x1024x256 .f32) (f : v.ty.Contents (Elt Ideal)) (s : ℕ) (G : ℕ → ℕ → EReal)
    (L : List (View.Piece (Elt Ideal) S17x1024x256 .f32)) (hL : List.Forall₂ (fun q rc => Tile8 s G rc.1 rc.2 q) L idx16) (y : S17x1024x256.Idx) :
    v.read (Elt Ideal) (v.writes (Elt Ideal) f L) y = if (y 0).val = s then G (y 1).val (y 2).val else v.read (Elt Ideal) f y := by
  have key : ∀ (idx : List (ℕ × ℕ)) (L : List (View.Piece (Elt Ideal) S17x1024x256 .f32)), List.Forall₂ (fun q rc => Tile8 s G rc.1 rc.2 q) L idx →
      (∀ q ∈ L, ∃ r0 c0, Tile8 s G r0 c0 q) ∧ ∀ rc ∈ idx, ∃ q ∈ L, Tile8 s G rc.1 rc.2 q := by
    intro idx L h
    induction h with
    | nil => exact ⟨fun q hq => absurd hq List.not_mem_nil, fun q hq => absurd hq List.not_mem_nil⟩
    | cons h _ ih =>
      refine ⟨List.forall_mem_cons.2 ⟨⟨_, _, h⟩, ih.1⟩, List.forall_mem_cons.2 ⟨⟨_, List.mem_cons_self, h⟩, fun rc hrc => ?_⟩⟩
      obtain ⟨q, hq, h'⟩ := ih.2 rc hrc
      exact ⟨q, List.mem_cons_of_mem _ hq, h'⟩
  have hidx : ∀ (a : Fin 8) (b : Fin 2), (128 * a.val, 128 * b.val) ∈ idx16 := by decide
  exact read_tiles v f s G L (key _ L hL).1 (fun a b => (key _ L hL).2 _ (hidx a b)) y

theorem off21_cl (i : grid0.Coords) (a b : ℕ) (ha : a < 2) (hb : b < 4) : k0_off21 i (BitVec.ofNat 32 a) (BitVec.ofNat 32 b) = ![0, 2 * tt i + a, 4 * (i 2).val + b] := by
  have h : ∀ (i : grid0.Coords) (a : Fin 2) (b : Fin 4), k0_off21 i (BitVec.ofNat 32 a.val) (BitVec.ofNat 32 b.val) = ![0, 2 * tt i + a.val, 4 * (i 2).val + b.val] := by decide +kernel
  exact h i ⟨a, ha⟩ ⟨b, hb⟩

theorem tt_lt (i : grid0.Coords) : tt i < 32 := (i 1).isLt
theorem gg_lt (i : grid0.Coords) : (i 2).val < 2 := (i 2).isLt

/-- The scale of a group of rows, as read. -/
theorem qs_read (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (r0 h qh : ℕ) (hr : r0 = 256 * h + 128 * qh) (hh : h < 4) (hq : qh < 2) (off : Fin 3 → ℕ)
    (hoff : off = ![0, 2 * tt i + qh, 4 * (i 2).val + h]) (inb) (hf) :
    View.readAt (Elt Ideal) arg3.view (Rect.unit (s := S1x64x16) off S1x1x1.size inb).toLoadRect X3 (Shape.Idx.first hf) = (inOf i arg3 arg4 arg5 arg6 X3 X4 X5 X6).qs r0 := by
  have h1 := tt_lt i
  have h2 := gg_lt i
  rw [scale_read arg3.view X3 off _ _ hoff inb hf (by omega) (by omega)]
  unfold In.qs
  congr 2 <;> (apply Fin.ext; simp only [Fin.val_ofNat]; omega)

/-- The scale of a block of keys, as read. -/
theorem ks_read (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (p c0 kb : ℕ) (hc : c0 = 128 * kb) (hk : kb < 2) (hp : p < 32) (off : Fin 3 → ℕ)
    (hoff : off = ![0, 2 * p + kb, 8]) (inb) (hf) :
    View.readAt (Elt Ideal) arg3.view (Rect.unit (s := S1x64x16) off S1x1x1.size inb).toLoadRect X3 (Shape.Idx.first hf) = (inOf i arg3 arg4 arg5 arg6 X3 X4 X5 X6).ks (256 * p + c0) := by
  rw [scale_read arg3.view X3 off _ _ hoff inb hf (by omega) (by omega)]
  unfold In.ks
  congr 2; apply Fin.ext; simp only [Fin.val_ofNat]; omega

/-- A trip's tile. -/
theorem midTile (r0 c0 h qh kb : ℕ) (hr : r0 = 256 * h + 128 * qh) (hc : c0 = 128 * kb) (hh : h < 4) (hq : qh < 2) (hk : kb < 2) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (k : Fin (k0_t1_loop i).trips) (i1 i2 i3) {hf} {hs} {T : FVec Ideal S128x128 .f32}
    (hT : T = tile (k0_pay47 (qmat (arg4.view.read (Elt Ideal) X4)) (View.ld (arg5.view.read (Elt Ideal) X5) (Rect.unit (s := S1x8192x256) (k0_off20 i k) S1x256x256.size i3)))
      (View.readAt (Elt Ideal) arg3.view (Rect.unit (s := S1x64x16) (k0_off21 i (BitVec.ofNat 32 qh) (BitVec.ofNat 32 h)) S1x1x1.size i1).toLoadRect X3 (Shape.Idx.first hf))
      (View.readAt (Elt Ideal) arg3.view (Rect.unit (s := S1x64x16) (k0_off22 i k (BitVec.ofNat 32 kb)) S1x1x1.size i2).toLoadRect X3 (Shape.Idx.first hf))
      ![r0, c0] hs) : IsTile (inOf i arg3 arg4 arg5 arg6 X3 X4 X5 X6) (tt i - 15 + k.val) r0 c0 T := by
  have hk' : k.val < tt i - (tt i - 15) := (t1_trips i) ▸ k.isLt
  have ht := tt_lt i
  subst hT
  refine isTile_all (fun y => tile_apply (inOf i arg3 arg4 arg5 arg6 X3 X4 X5 X6) _ r0 c0 (by omega) (by omega) (by omega) (by omega) (by omega) _ (k0_off20_cl i k) _ _ _ _
    (qs_read i arg3 arg4 arg5 arg6 X3 X4 X5 X6 r0 h qh hr hh hq _ (off21_cl i qh h hq hh) _ _)
    (ks_read i arg3 arg4 arg5 arg6 X3 X4 X5 X6 _ c0 kb hc hk (by omega) _ (k0_off22_cl i k ⟨kb, hk⟩) _ _) y) (fun a b ha hb => ?_)
  constructor <;> simp only <;> omega

section
variable (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (c : Dev nD) (harg3 : arg3.IsWhole) (harg4 : arg4.IsWhole) (harg5 : arg5.IsWhole) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole) (arg1 : BitVec 32) (arg2 : BitVec 32) (v1 : BitVec 32) (v22 : BitVec 32)

/-- A trip stores the sixteen tiles of its pair. -/
theorem midTrip_tiles (f9 : BufTy.Contents (Elt Ideal) arg9.view.ty) (k : Fin (k0_t1_loop i).trips) :
    List.Forall₂ (fun q rc => Tile8 (tt i - 15 + k.val - (tt i - 16)) (fun r c => (inOf i arg3 arg4 arg5 arg6 X3 X4 X5 X6).score r (256 * (tt i - 15 + k.val) + c)) rc.1 rc.2 q)
      (midTrip (F := Ideal) c i arg3 harg3 arg4 harg4 arg5 harg5 arg6 harg6 arg7 harg7 arg8 harg8 arg9 harg9 arg10 harg10 arg11 harg11 arg12 harg12 arg1 arg2 v1 (View.ld (arg4.view.read (Elt Ideal) X4) (Rect.unit ![0, 0, 0] S1x256x256.size inb_S1x256x1024_S1x256x256_0_0_0)) (View.ld (arg4.view.read (Elt Ideal) X4) (Rect.unit ![0, 0, 256] S1x256x256.size inb_S1x256x1024_S1x256x256_0_0_256)) (View.ld (arg4.view.read (Elt Ideal) X4) (Rect.unit ![0, 0, 512] S1x256x256.size inb_S1x256x1024_S1x256x256_0_0_512)) (View.ld (arg4.view.read (Elt Ideal) X4) (Rect.unit ![0, 0, 768] S1x256x256.size inb_S1x256x1024_S1x256x256_0_0_768)) v22 X3 X5 f9 k).1 idx16 := by
  unfold midTrip
  exact
    .cons (tile8_of (midTile 896 128 3 1 1 rfl rfl (by decide) (by decide) (by decide) i arg3 arg4 arg5 arg6 X3 X4 X5 X6 k _ _ _ rfl) _ (k0_off38_cl i k) _ _) <|
    .cons (tile8_of (midTile 896 0 3 1 0 rfl rfl (by decide) (by decide) (by decide) i arg3 arg4 arg5 arg6 X3 X4 X5 X6 k _ _ _ rfl) _ (k0_off37_cl i k) _ _) <|
    .cons (tile8_of (midTile 768 128 3 0 1 rfl rfl (by decide) (by decide) (by decide) i arg3 arg4 arg5 arg6 X3 X4 X5 X6 k _ _ _ rfl) _ (k0_off36_cl i k) _ _) <|
    .cons (tile8_of (midTile 768 0 3 0 0 rfl rfl (by decide) (by decide) (by decide) i arg3 arg4 arg5 arg6 X3 X4 X5 X6 k _ _ _ rfl) _ (k0_off35_cl i k) _ _) <|
    .cons (tile8_of (midTile 640 128 2 1 1 rfl rfl (by decide) (by decide) (by decide) i arg3 arg4 arg5 arg6 X3 X4 X5 X6 k _ _ _ rfl) _ (k0_off34_cl i k) _ _) <|
    .cons (tile8_of (midTile 640 0 2 1 0 rfl rfl (by decide) (by decide) (by decide) i arg3 arg4 arg5 arg6 X3 X4 X5 X6 k _ _ _ rfl) _ (k0_off33_cl i k) _ _) <|
    .cons (tile8_of (midTile 512 128 2 0 1 rfl rfl (by decide) (by decide) (by decide) i arg3 arg4 arg5 arg6 X3 X4 X5 X6 k _ _ _ rfl) _ (k0_off32_cl i k) _ _) <|
    .cons (tile8_of (midTile 512 0 2 0 0 rfl rfl (by decide) (by decide) (by decide) i arg3 arg4 arg5 arg6 X3 X4 X5 X6 k _ _ _ rfl) _ (k0_off31_cl i k) _ _) <|
    .cons (tile8_of (midTile 384 128 1 1 1 rfl rfl (by decide) (by decide) (by decide) i arg3 arg4 arg5 arg6 X3 X4 X5 X6 k _ _ _ rfl) _ (k0_off30_cl i k) _ _) <|
    .cons (tile8_of (midTile 384 0 1 1 0 rfl rfl (by decide) (by decide) (by decide) i arg3 arg4 arg5 arg6 X3 X4 X5 X6 k _ _ _ rfl) _ (k0_off29_cl i k) _ _) <|
    .cons (tile8_of (midTile 256 128 1 0 1 rfl rfl (by decide) (by decide) (by decide) i arg3 arg4 arg5 arg6 X3 X4 X5 X6 k _ _ _ rfl) _ (k0_off28_cl i k) _ _) <|
    .cons (tile8_of (midTile 256 0 1 0 0 rfl rfl (by decide) (by decide) (by decide) i arg3 arg4 arg5 arg6 X3 X4 X5 X6 k _ _ _ rfl) _ (k0_off27_cl i k) _ _) <|
    .cons (tile8_of (midTile 128 128 0 1 1 rfl rfl (by decide) (by decide) (by decide) i arg3 arg4 arg5 arg6 X3 X4 X5 X6 k _ _ _ rfl) _ (k0_off26_cl i k) _ _) <|
    .cons (tile8_of (midTile 128 0 0 1 0 rfl rfl (by decide) (by decide) (by decide) i arg3 arg4 arg5 arg6 X3 X4 X5 X6 k _ _ _ rfl) _ (k0_off25_cl i k) _ _) <|
    .cons (tile8_of (midTile 0 128 0 0 1 rfl rfl (by decide) (by decide) (by decide) i arg3 arg4 arg5 arg6 X3 X4 X5 X6 k _ _ _ rfl) _ (k0_off24_cl i k) _ _) <|
    .cons (tile8_of (midTile 0 0 0 0 0 rfl rfl (by decide) (by decide) (by decide) i arg3 arg4 arg5 arg6 X3 X4 X5 X6 k _ _ _ rfl) _ (k0_off23_cl i k) _ _) <|
    .nil

/-- A trip raises the maxima by the tiles of its pair. -/
theorem midTrip_rows (f9 : BufTy.Contents (Elt Ideal) arg9.view.ty) (k : Fin (k0_t1_loop i).trips) (old : ℕ → ℕ → EReal)
    (h9 : ∀ y : S1024x128.Idx, arg9.view.read (Elt Ideal) f9 y = old (y 0).val (y 1).val) :
    Rows arg9.view f9 (raise (inOf i arg3 arg4 arg5 arg6 X3 X4 X5 X6) (tt i - 15 + k.val) old) old 1024
      (midTrip (F := Ideal) c i arg3 harg3 arg4 harg4 arg5 harg5 arg6 harg6 arg7 harg7 arg8 harg8 arg9 harg9 arg10 harg10 arg11 harg11 arg12 harg12 arg1 arg2 v1 (View.ld (arg4.view.read (Elt Ideal) X4) (Rect.unit ![0, 0, 0] S1x256x256.size inb_S1x256x1024_S1x256x256_0_0_0)) (View.ld (arg4.view.read (Elt Ideal) X4) (Rect.unit ![0, 0, 256] S1x256x256.size inb_S1x256x1024_S1x256x256_0_0_256)) (View.ld (arg4.view.read (Elt Ideal) X4) (Rect.unit ![0, 0, 512] S1x256x256.size inb_S1x256x1024_S1x256x256_0_0_512)) (View.ld (arg4.view.read (Elt Ideal) X4) (Rect.unit ![0, 0, 768] S1x256x256.size inb_S1x256x1024_S1x256x256_0_0_768)) v22 X3 X5 f9 k).2.1 := by
  unfold midTrip
  refine Rows.step (n := 896) ?_ _ _ (raise_both (O := View.readAt (Elt Ideal) arg9.view (Rect.unit (s := S1024x128) ![896, 0] S128x128.size inb_S1024x128_S128x128_896_0).toLoadRect f9) (Rows.load0 h9 _) (midTile 896 0 3 1 0 rfl rfl (by decide) (by decide) (by decide) i arg3 arg4 arg5 arg6 X3 X4 X5 X6 k _ _ _ rfl) (midTile 896 128 3 1 1 rfl rfl (by decide) (by decide) (by decide) i arg3 arg4 arg5 arg6 X3 X4 X5 X6 k _ _ _ rfl) _)
  refine Rows.step (n := 768) ?_ _ _ (raise_both (O := View.readAt (Elt Ideal) arg9.view (Rect.unit (s := S1024x128) ![768, 0] S128x128.size inb_S1024x128_S128x128_768_0).toLoadRect f9) (Rows.load0 h9 _) (midTile 768 0 3 0 0 rfl rfl (by decide) (by decide) (by decide) i arg3 arg4 arg5 arg6 X3 X4 X5 X6 k _ _ _ rfl) (midTile 768 128 3 0 1 rfl rfl (by decide) (by decide) (by decide) i arg3 arg4 arg5 arg6 X3 X4 X5 X6 k _ _ _ rfl) _)
  refine Rows.step (n := 640) ?_ _ _ (raise_both (O := View.readAt (Elt Ideal) arg9.view (Rect.unit (s := S1024x128) ![640, 0] S128x128.size inb_S1024x128_S128x128_640_0).toLoadRect f9) (Rows.load0 h9 _) (midTile 640 0 2 1 0 rfl rfl (by decide) (by decide) (by decide) i arg3 arg4 arg5 arg6 X3 X4 X5 X6 k _ _ _ rfl) (midTile 640 128 2 1 1 rfl rfl (by decide) (by decide) (by decide) i arg3 arg4 arg5 arg6 X3 X4 X5 X6 k _ _ _ rfl) _)
  refine Rows.step (n := 512) ?_ _ _ (raise_both (O := View.readAt (Elt Ideal) arg9.view (Rect.unit (s := S1024x128) ![512, 0] S128x128.size inb_S1024x128_S128x128_512_0).toLoadRect f9) (Rows.load0 h9 _) (midTile 512 0 2 0 0 rfl rfl (by decide) (by decide) (by decide) i arg3 arg4 arg5 arg6 X3 X4 X5 X6 k _ _ _ rfl) (midTile 512 128 2 0 1 rfl rfl (by decide) (by decide) (by decide) i arg3 arg4 arg5 arg6 X3 X4 X5 X6 k _ _ _ rfl) _)
  refine Rows.step (n := 384) ?_ _ _ (raise_both (O := View.readAt (Elt Ideal) arg9.view (Rect.unit (s := S1024x128) ![384, 0] S128x128.size inb_S1024x128_S128x128_384_0).toLoadRect f9) (Rows.load0 h9 _) (midTile 384 0 1 1 0 rfl rfl (by decide) (by decide) (by decide) i arg3 arg4 arg5 arg6 X3 X4 X5 X6 k _ _ _ rfl) (midTile 384 128 1 1 1 rfl rfl (by decide) (by decide) (by decide) i arg3 arg4 arg5 arg6 X3 X4 X5 X6 k _ _ _ rfl) _)
  refine Rows.step (n := 256) ?_ _ _ (raise_both (O := View.readAt (Elt Ideal) arg9.view (Rect.unit (s := S1024x128) ![256, 0] S128x128.size inb_S1024x128_S128x128_256_0).toLoadRect f9) (Rows.load0 h9 _) (midTile 256 0 1 0 0 rfl rfl (by decide) (by decide) (by decide) i arg3 arg4 arg5 arg6 X3 X4 X5 X6 k _ _ _ rfl) (midTile 256 128 1 0 1 rfl rfl (by decide) (by decide) (by decide) i arg3 arg4 arg5 arg6 X3 X4 X5 X6 k _ _ _ rfl) _)
  refine Rows.step (n := 128) ?_ _ _ (raise_both (O := View.readAt (Elt Ideal) arg9.view (Rect.unit (s := S1024x128) ![128, 0] S128x128.size inb_S1024x128_S128x128_128_0).toLoadRect f9) (Rows.load0 h9 _) (midTile 128 0 0 1 0 rfl rfl (by decide) (by decide) (by decide) i arg3 arg4 arg5 arg6 X3 X4 X5 X6 k _ _ _ rfl) (midTile 128 128 0 1 1 rfl rfl (by decide) (by decide) (by decide) i arg3 arg4 arg5 arg6 X3 X4 X5 X6 k _ _ _ rfl) _)
  refine Rows.step (n := 0) ?_ _ _ (raise_both (O := View.readAt (Elt Ideal) arg9.view (Rect.unit (s := S1024x128) ![0, 0] S128x128.size inb_S1024x128_S128x128_0_0).toLoadRect f9) (Rows.load0 h9 _) (midTile 0 0 0 0 0 rfl rfl (by decide) (by decide) (by decide) i arg3 arg4 arg5 arg6 X3 X4 X5 X6 k _ _ _ rfl) (midTile 0 128 0 0 1 rfl rfl (by decide) (by decide) (by decide) i arg3 arg4 arg5 arg6 X3 X4 X5 X6 k _ _ _ rfl) _)
  exact Rows.nil h9

end

end Cert.Proof.AttnIdeal

end
-- ==== Proof.FarDiag.lean ====
/- The tiles of the window's first pair and of the diagonal one. -/
module

public import proofs.«01_k».proof.Proof.MidValue
public import proofs.«01_k».proof.Proof.AttnIdealBody

@[expose] public section

set_option maxRecDepth 65536
set_option maxHeartbeats 4000000

noncomputable section

namespace Cert.Proof.AttnIdeal

open Cert.AttnIdeal Cert.AttnIdeal.Gen
open Idealize.ShloMosaic Idealize.ShloMosaic.TcCoe Idealize.ShloMosaic.Tactic

theorem off2_cl (i : grid0.Coords) (a b : ℕ) (ha : a < 2) (hb : b < 4) (h16 : 16 ≤ tt i) : k0_off2 i (BitVec.ofNat 32 a) (BitVec.ofNat 32 b) = ![0, 2 * tt i + a, 4 * (i 2).val + b] := by
  have h : ∀ (i : grid0.Coords) (a : Fin 2) (b : Fin 4), 16 ≤ tt i → k0_off2 i (BitVec.ofNat 32 a.val) (BitVec.ofNat 32 b.val) = ![0, 2 * tt i + a.val, 4 * (i 2).val + b.val] := by decide +kernel
  exact h i ⟨a, ha⟩ ⟨b, hb⟩ h16

theorem off59_cl (i : grid0.Coords) (a b : ℕ) (ha : a < 2) (hb : b < 4) : k0_off59 i (BitVec.ofNat 32 a) (BitVec.ofNat 32 b) = ![0, 2 * tt i + a, 4 * (i 2).val + b] := by
  have h : ∀ (i : grid0.Coords) (a : Fin 2) (b : Fin 4), k0_off59 i (BitVec.ofNat 32 a.val) (BitVec.ofNat 32 b.val) = ![0, 2 * tt i + a.val, 4 * (i 2).val + b.val] := by decide +kernel
  exact h i ⟨a, ha⟩ ⟨b, hb⟩

theorem off60_cl (i : grid0.Coords) (a : ℕ) (ha : a < 2) : k0_off60 i (BitVec.ofNat 32 a) = ![0, 2 * tt i + a, 8] := by
  have h : ∀ (i : grid0.Coords) (a : Fin 2), k0_off60 i (BitVec.ofNat 32 a.val) = ![0, 2 * tt i + a.val, 8] := by decide +kernel
  exact h i ⟨a, ha⟩

theorem off58_cl : ∀ i : grid0.Coords, k0_off58 i = ![0, 256 * tt i, 0] := by decide +kernel

theorem cond16 : ∀ i : grid0.Coords, k0_cond1 i = 1#1 → 16 ≤ tt i := by decide +kernel
theorem not_cond16 : ∀ i : grid0.Coords, ¬ k0_cond1 i = 1#1 → tt i < 16 := by decide +kernel

theorem far_cl (i : grid0.Coords) (h : 16 ≤ tt i) {off : Fin 3 → ℕ} {a b : ℕ} (e : off = ![k0_off4 i 0, a, b]) : off = ![0, a, b] := by
  rw [e, farSlot_eq i h]

theorem mask_sgt (y : S128x128.Idx) : cmpi .sgt (iota Kind.tc S128x128 32 [1] iota_S128x128_d1_w32) (iota Kind.tc S128x128 32 [0] iota_S128x128_d0_w32) y = 1#1 ↔ (y 0).val < (y 1).val := by
  have h : ∀ a b : Fin 128, Scalar.cmpi .sgt (BitVec.ofNat 32 b.val) (BitVec.ofNat 32 a.val) = 1#1 ↔ a.val < b.val := by decide +kernel
  have e : cmpi .sgt (iota Kind.tc S128x128 32 [1] iota_S128x128_d1_w32) (iota Kind.tc S128x128 32 [0] iota_S128x128_d0_w32) y = Scalar.cmpi .sgt (BitVec.ofNat 32 (y 1).val) (BitVec.ofNat 32 (y 0).val) := by pointwise; rfl
  rw [e]; exact h (y 0) (y 1)

theorem mask_sle (y : S128x128.Idx) : cmpi .sle (iota Kind.tc S128x128 32 [1] iota_S128x128_d1_w32) (iota Kind.tc S128x128 32 [0] iota_S128x128_d0_w32) y = 1#1 ↔ (y 1).val ≤ (y 0).val := by
  have h : ∀ a b : Fin 128, Scalar.cmpi .sle (BitVec.ofNat 32 b.val) (BitVec.ofNat 32 a.val) = 1#1 ↔ b.val ≤ a.val := by decide +kernel
  have e : cmpi .sle (iota Kind.tc S128x128 32 [1] iota_S128x128_d1_w32) (iota Kind.tc S128x128 32 [0] iota_S128x128_d0_w32) y = Scalar.cmpi .sle (BitVec.ofNat 32 (y 1).val) (BitVec.ofNat 32 (y 0).val) := by pointwise; rfl
  rw [e]; exact h (y 0) (y 1)

/-- A tile of the window's first pair, before the mask. -/
theorem farTile_raw (r0 c0 h qh kb : ℕ) (hr : r0 = 256 * h + 128 * qh) (hc : c0 = 128 * kb) (hh : h < 4) (hq : qh < 2) (hk : kb < 2) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (h16 : 16 ≤ tt i) (i1 i2 i3) {hf} {hs} (y : S128x128.Idx) :
    (tile (k0_pay47 (qmat (arg4.view.read (Elt Ideal) X4)) (View.ld (arg5.view.read (Elt Ideal) X5) (Rect.unit (s := S1x8192x256) (k0_off1 i) S1x256x256.size i3)))
      (View.readAt (Elt Ideal) arg3.view (Rect.unit (s := S1x64x16) (k0_off2 i (BitVec.ofNat 32 qh) (BitVec.ofNat 32 h)) S1x1x1.size i1).toLoadRect X3 (Shape.Idx.first hf))
      (View.readAt (Elt Ideal) arg3.view (Rect.unit (s := S1x64x16) (k0_off3 i (BitVec.ofNat 32 kb)) S1x1x1.size i2).toLoadRect X3 (Shape.Idx.first hf))
      ![r0, c0] hs) y = (inOf i arg3 arg4 arg5 arg6 X3 X4 X5 X6).rawScore (r0 + (y 0).val) (256 * (tt i - 16) + (c0 + (y 1).val)) :=
  have ht := tt_lt i
  tile_apply (inOf i arg3 arg4 arg5 arg6 X3 X4 X5 X6) _ r0 c0 (by omega) (by omega) (by omega) (by omega) (by omega) _ (farPair_eq i h16) _ _ _ _
    (qs_read i arg3 arg4 arg5 arg6 X3 X4 X5 X6 r0 h qh hr hh hq _ (off2_cl i qh h hq hh h16) _ _) (ks_read i arg3 arg4 arg5 arg6 X3 X4 X5 X6 _ c0 kb hc hk (by omega) _ (farScale_eq i ⟨kb, hk⟩ h16) _ _) y

/-- All its keys visible. -/
theorem farTile_all (r0 c0 h qh kb : ℕ) (hr : r0 = 256 * h + 128 * qh) (hc : c0 = 128 * kb) (hh : h < 4) (hq : qh < 2) (hk : kb < 2) (hx : qh < kb) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (h16 : 16 ≤ tt i) (i1 i2 i3) {hf} {hs} {T : FVec Ideal S128x128 .f32}
    (hT : T = (tile (k0_pay47 (qmat (arg4.view.read (Elt Ideal) X4)) (View.ld (arg5.view.read (Elt Ideal) X5) (Rect.unit (s := S1x8192x256) (k0_off1 i) S1x256x256.size i3)))
      (View.readAt (Elt Ideal) arg3.view (Rect.unit (s := S1x64x16) (k0_off2 i (BitVec.ofNat 32 qh) (BitVec.ofNat 32 h)) S1x1x1.size i1).toLoadRect X3 (Shape.Idx.first hf))
      (View.readAt (Elt Ideal) arg3.view (Rect.unit (s := S1x64x16) (k0_off3 i (BitVec.ofNat 32 kb)) S1x1x1.size i2).toLoadRect X3 (Shape.Idx.first hf))
      ![r0, c0] hs)) : IsTile (inOf i arg3 arg4 arg5 arg6 X3 X4 X5 X6) (tt i - 16) r0 c0 T := by
  subst hT
  refine isTile_all (farTile_raw r0 c0 h qh kb hr hc hh hq hk i arg3 arg4 arg5 arg6 X3 X4 X5 X6 h16 i1 i2 i3) (fun a b ha hb => ?_)
  constructor <;> simp only <;> omega

/-- Masked at the window's edge. -/
theorem farTile_tri (r0 c0 h qh kb : ℕ) (hr : r0 = 256 * h + 128 * qh) (hc : c0 = 128 * kb) (hh : h < 4) (hq : qh < 2) (hk : kb < 2) (hx : kb = qh) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (h16 : 16 ≤ tt i) (i1 i2 i3) {hf} {hs} {T : FVec Ideal S128x128 .f32}
    (hT : T = select (cmpi .sgt (iota Kind.tc S128x128 32 [1] iota_S128x128_d1_w32) (iota Kind.tc S128x128 32 [0] iota_S128x128_d0_w32)) (tile (k0_pay47 (qmat (arg4.view.read (Elt Ideal) X4)) (View.ld (arg5.view.read (Elt Ideal) X5) (Rect.unit (s := S1x8192x256) (k0_off1 i) S1x256x256.size i3)))
      (View.readAt (Elt Ideal) arg3.view (Rect.unit (s := S1x64x16) (k0_off2 i (BitVec.ofNat 32 qh) (BitVec.ofNat 32 h)) S1x1x1.size i1).toLoadRect X3 (Shape.Idx.first hf))
      (View.readAt (Elt Ideal) arg3.view (Rect.unit (s := S1x64x16) (k0_off3 i (BitVec.ofNat 32 kb)) S1x1x1.size i2).toLoadRect X3 (Shape.Idx.first hf))
      ![r0, c0] hs) (broadcast S128x128 (Scalar.ofBits (F := Ideal) .f32 0xFF800000#32))) : IsTile (inOf i arg3 arg4 arg5 arg6 X3 X4 X5 X6) (tt i - 16) r0 c0 T := by
  subst hT
  refine isTile_tri (farTile_raw r0 c0 h qh kb hr hc hh hq hk i arg3 arg4 arg5 arg6 X3 X4 X5 X6 h16 i1 i2 i3) (fun y => ?_)
  rw [mask_sgt]
  have h0 : (y 0).val < 128 := (y 0).isLt
  have h1 : (y 1).val < 128 := (y 1).isLt
  show _ ↔ _ ∧ _
  simp only
  omega

/-- None of its keys visible. -/
theorem farTile_none (r0 c0 h qh kb : ℕ) (hr : r0 = 256 * h + 128 * qh) (hc : c0 = 128 * kb) (hh : h < 4) (hq : qh < 2) (hk : kb < 2) (hx : kb < qh) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (h16 : 16 ≤ tt i) {T : FVec Ideal S128x128 .f32}
    (hT : T = broadcast S128x128 (Scalar.ofBits (F := Ideal) .f32 0xFF800000#32)) : IsTile (inOf i arg3 arg4 arg5 arg6 X3 X4 X5 X6) (tt i - 16) r0 c0 T := by
  subst hT
  refine isTile_none (fun a b ha hb => ?_)
  show ¬ (_ ∧ _)
  simp only
  omega

/-- A tile of the diagonal pair, before the mask. -/
theorem diagTile_raw (r0 c0 h qh kb : ℕ) (hr : r0 = 256 * h + 128 * qh) (hc : c0 = 128 * kb) (hh : h < 4) (hq : qh < 2) (hk : kb < 2) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)  (i1 i2 i3) {hf} {hs} (y : S128x128.Idx) :
    (tile (k0_pay47 (qmat (arg4.view.read (Elt Ideal) X4)) (View.ld (arg5.view.read (Elt Ideal) X5) (Rect.unit (s := S1x8192x256) (k0_off58 i) S1x256x256.size i3)))
      (View.readAt (Elt Ideal) arg3.view (Rect.unit (s := S1x64x16) (k0_off59 i (BitVec.ofNat 32 qh) (BitVec.ofNat 32 h)) S1x1x1.size i1).toLoadRect X3 (Shape.Idx.first hf))
      (View.readAt (Elt Ideal) arg3.view (Rect.unit (s := S1x64x16) (k0_off60 i (BitVec.ofNat 32 kb)) S1x1x1.size i2).toLoadRect X3 (Shape.Idx.first hf))
      ![r0, c0] hs) y = (inOf i arg3 arg4 arg5 arg6 X3 X4 X5 X6).rawScore (r0 + (y 0).val) (256 * (tt i) + (c0 + (y 1).val)) :=
  have ht := tt_lt i
  tile_apply (inOf i arg3 arg4 arg5 arg6 X3 X4 X5 X6) _ r0 c0 (by omega) (by omega) (by omega) (by omega) (by omega) _ (off58_cl i) _ _ _ _
    (qs_read i arg3 arg4 arg5 arg6 X3 X4 X5 X6 r0 h qh hr hh hq _ (off59_cl i qh h hq hh) _ _) (ks_read i arg3 arg4 arg5 arg6 X3 X4 X5 X6 _ c0 kb hc hk (by omega) _ (off60_cl i kb hk) _ _) y

/-- All its keys visible. -/
theorem diagTile_all (r0 c0 h qh kb : ℕ) (hr : r0 = 256 * h + 128 * qh) (hc : c0 = 128 * kb) (hh : h < 4) (hq : qh < 2) (hk : kb < 2) (hx : kb < qh) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)  (i1 i2 i3) {hf} {hs} {T : FVec Ideal S128x128 .f32}
    (hT : T = (tile (k0_pay47 (qmat (arg4.view.read (Elt Ideal) X4)) (View.ld (arg5.view.read (Elt Ideal) X5) (Rect.unit (s := S1x8192x256) (k0_off58 i) S1x256x256.size i3)))
      (View.readAt (Elt Ideal) arg3.view (Rect.unit (s := S1x64x16) (k0_off59 i (BitVec.ofNat 32 qh) (BitVec.ofNat 32 h)) S1x1x1.size i1).toLoadRect X3 (Shape.Idx.first hf))
      (View.readAt (Elt Ideal) arg3.view (Rect.unit (s := S1x64x16) (k0_off60 i (BitVec.ofNat 32 kb)) S1x1x1.size i2).toLoadRect X3 (Shape.Idx.first hf))
      ![r0, c0] hs)) : IsTile (inOf i arg3 arg4 arg5 arg6 X3 X4 X5 X6) (tt i) r0 c0 T := by
  subst hT
  refine isTile_all (diagTile_raw r0 c0 h qh kb hr hc hh hq hk i arg3 arg4 arg5 arg6 X3 X4 X5 X6  i1 i2 i3) (fun a b ha hb => ?_)
  constructor <;> simp only <;> omega

/-- Masked at the window's edge. -/
theorem diagTile_tri (r0 c0 h qh kb : ℕ) (hr : r0 = 256 * h + 128 * qh) (hc : c0 = 128 * kb) (hh : h < 4) (hq : qh < 2) (hk : kb < 2) (hx : kb = qh) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)  (i1 i2 i3) {hf} {hs} {T : FVec Ideal S128x128 .f32}
    (hT : T = select (cmpi .sle (iota Kind.tc S128x128 32 [1] iota_S128x128_d1_w32) (iota Kind.tc S128x128 32 [0] iota_S128x128_d0_w32)) (tile (k0_pay47 (qmat (arg4.view.read (Elt Ideal) X4)) (View.ld (arg5.view.read (Elt Ideal) X5) (Rect.unit (s := S1x8192x256) (k0_off58 i) S1x256x256.size i3)))
      (View.readAt (Elt Ideal) arg3.view (Rect.unit (s := S1x64x16) (k0_off59 i (BitVec.ofNat 32 qh) (BitVec.ofNat 32 h)) S1x1x1.size i1).toLoadRect X3 (Shape.Idx.first hf))
      (View.readAt (Elt Ideal) arg3.view (Rect.unit (s := S1x64x16) (k0_off60 i (BitVec.ofNat 32 kb)) S1x1x1.size i2).toLoadRect X3 (Shape.Idx.first hf))
      ![r0, c0] hs) (broadcast S128x128 (Scalar.ofBits (F := Ideal) .f32 0xFF800000#32))) : IsTile (inOf i arg3 arg4 arg5 arg6 X3 X4 X5 X6) (tt i) r0 c0 T := by
  subst hT
  refine isTile_tri (diagTile_raw r0 c0 h qh kb hr hc hh hq hk i arg3 arg4 arg5 arg6 X3 X4 X5 X6  i1 i2 i3) (fun y => ?_)
  rw [mask_sle]
  have h0 : (y 0).val < 128 := (y 0).isLt
  have h1 : (y 1).val < 128 := (y 1).isLt
  show _ ↔ _ ∧ _
  simp only
  omega

/-- None of its keys visible. -/
theorem diagTile_none (r0 c0 h qh kb : ℕ) (hr : r0 = 256 * h + 128 * qh) (hc : c0 = 128 * kb) (hh : h < 4) (hq : qh < 2) (hk : kb < 2) (hx : qh < kb) (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)  {T : FVec Ideal S128x128 .f32}
    (hT : T = broadcast S128x128 (Scalar.ofBits (F := Ideal) .f32 0xFF800000#32)) : IsTile (inOf i arg3 arg4 arg5 arg6 X3 X4 X5 X6) (tt i) r0 c0 T := by
  subst hT
  refine isTile_none (fun a b ha hb => ?_)
  show ¬ (_ ∧ _)
  simp only
  omega

section
variable (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (c : Dev nD) (harg3 : arg3.IsWhole) (harg4 : arg4.IsWhole) (harg5 : arg5.IsWhole) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)

/-- The sixteen tiles of the window's first pair. -/
theorem far_tiles (hc : k0_cond1 i = 1#1) : List.Forall₂ (fun q rc => Tile8 0 (fun r c => (inOf i arg3 arg4 arg5 arg6 X3 X4 X5 X6).score r (256 * (tt i - 16) + c)) rc.1 rc.2 q)
    (⟨Rect.unit (k0_off19 i) S1x128x128.size (k0_off19_inb i hc), k0_pay167 (F := Ideal) (kernelRun.sl.r_2 i arg4 arg5 X4 X5 hc) (kernelRun.sl.r_21 i arg3 X3 hc) (kernelRun.sl.r_5 i arg3 X3 hc)⟩
      :: ⟨Rect.unit (k0_off18 i) S1x128x128.size (k0_off18_inb i hc), k0_pay165 (F := Ideal)⟩
      :: ⟨Rect.unit (k0_off17 i) S1x128x128.size (k0_off17_inb i hc), k0_pay45 (F := Ideal) (kernelRun.sl.r_2 i arg4 arg5 X4 X5 hc) (kernelRun.sl.r_20 i arg3 X3 hc) (kernelRun.sl.r_5 i arg3 X3 hc)⟩
      :: ⟨Rect.unit (k0_off16 i) S1x128x128.size (k0_off16_inb i hc), k0_pay43 (F := Ideal) kernelRun.sl.v11 kernelRun.sl.v12 (kernelRun.sl.r_2 i arg4 arg5 X4 X5 hc) (kernelRun.sl.r_20 i arg3 X3 hc) (kernelRun.sl.r_1 i arg3 X3 hc)⟩
      :: kernelRun.sl.H8_12 i arg3 arg4 arg5 X3 X4 X5 hc) idx16 :=
    .cons (tile8_of (farTile_tri 896 128 3 1 1 rfl rfl (by decide) (by decide) (by decide) (by decide) i arg3 arg4 arg5 arg6 X3 X4 X5 X6 (cond16 i hc) _ _ _ (hs := slices_S1024x256_o896_128_S128x128) rfl) _ (far_cl i (cond16 i hc) ClosedOff.eq) _ shapeCasts_S128x128_S1x128x128) <|
    .cons (tile8_of (farTile_none 896 0 3 1 0 rfl rfl (by decide) (by decide) (by decide) (by decide) i arg3 arg4 arg5 arg6 X3 X4 X5 X6 (cond16 i hc) rfl) _ (far_cl i (cond16 i hc) ClosedOff.eq) _ shapeCasts_S128x128_S1x128x128) <|
    .cons (tile8_of (farTile_all 768 128 3 0 1 rfl rfl (by decide) (by decide) (by decide) (by decide) i arg3 arg4 arg5 arg6 X3 X4 X5 X6 (cond16 i hc) _ _ _ (hs := slices_S1024x256_o768_128_S128x128) rfl) _ (far_cl i (cond16 i hc) ClosedOff.eq) _ shapeCasts_S128x128_S1x128x128) <|
    .cons (tile8_of (farTile_tri 768 0 3 0 0 rfl rfl (by decide) (by decide) (by decide) (by decide) i arg3 arg4 arg5 arg6 X3 X4 X5 X6 (cond16 i hc) _ _ _ (hs := slices_S1024x256_o768_0_S128x128) rfl) _ (far_cl i (cond16 i hc) ClosedOff.eq) _ shapeCasts_S128x128_S1x128x128) <|
    .cons (tile8_of (farTile_tri 640 128 2 1 1 rfl rfl (by decide) (by decide) (by decide) (by decide) i arg3 arg4 arg5 arg6 X3 X4 X5 X6 (cond16 i hc) _ _ _ (hs := slices_S1024x256_o640_128_S128x128) rfl) _ (far_cl i (cond16 i hc) ClosedOff.eq) _ shapeCasts_S128x128_S1x128x128) <|
    .cons (tile8_of (farTile_none 640 0 2 1 0 rfl rfl (by decide) (by decide) (by decide) (by decide) i arg3 arg4 arg5 arg6 X3 X4 X5 X6 (cond16 i hc) rfl) _ (far_cl i (cond16 i hc) ClosedOff.eq) _ shapeCasts_S128x128_S1x128x128) <|
    .cons (tile8_of (farTile_all 512 128 2 0 1 rfl rfl (by decide) (by decide) (by decide) (by decide) i arg3 arg4 arg5 arg6 X3 X4 X5 X6 (cond16 i hc) _ _ _ (hs := slices_S1024x256_o512_128_S128x128) rfl) _ (far_cl i (cond16 i hc) ClosedOff.eq) _ shapeCasts_S128x128_S1x128x128) <|
    .cons (tile8_of (farTile_tri 512 0 2 0 0 rfl rfl (by decide) (by decide) (by decide) (by decide) i arg3 arg4 arg5 arg6 X3 X4 X5 X6 (cond16 i hc) _ _ _ (hs := slices_S1024x256_o512_0_S128x128) rfl) _ (far_cl i (cond16 i hc) ClosedOff.eq) _ shapeCasts_S128x128_S1x128x128) <|
    .cons (tile8_of (farTile_tri 384 128 1 1 1 rfl rfl (by decide) (by decide) (by decide) (by decide) i arg3 arg4 arg5 arg6 X3 X4 X5 X6 (cond16 i hc) _ _ _ (hs := slices_S1024x256_o384_128_S128x128) rfl) _ (far_cl i (cond16 i hc) ClosedOff.eq) _ shapeCasts_S128x128_S1x128x128) <|
    .cons (tile8_of (farTile_none 384 0 1 1 0 rfl rfl (by decide) (by decide) (by decide) (by decide) i arg3 arg4 arg5 arg6 X3 X4 X5 X6 (cond16 i hc) rfl) _ (far_cl i (cond16 i hc) ClosedOff.eq) _ shapeCasts_S128x128_S1x128x128) <|
    .cons (tile8_of (farTile_all 256 128 1 0 1 rfl rfl (by decide) (by decide) (by decide) (by decide) i arg3 arg4 arg5 arg6 X3 X4 X5 X6 (cond16 i hc) _ _ _ (hs := slices_S1024x256_o256_128_S128x128) rfl) _ (far_cl i (cond16 i hc) ClosedOff.eq) _ shapeCasts_S128x128_S1x128x128) <|
    .cons (tile8_of (farTile_tri 256 0 1 0 0 rfl rfl (by decide) (by decide) (by decide) (by decide) i arg3 arg4 arg5 arg6 X3 X4 X5 X6 (cond16 i hc) _ _ _ (hs := slices_S1024x256_o256_0_S128x128) rfl) _ (far_cl i (cond16 i hc) ClosedOff.eq) _ shapeCasts_S128x128_S1x128x128) <|
    .cons (tile8_of (farTile_tri 128 128 0 1 1 rfl rfl (by decide) (by decide) (by decide) (by decide) i arg3 arg4 arg5 arg6 X3 X4 X5 X6 (cond16 i hc) _ _ _ (hs := slices_S1024x256_o128_128_S128x128) rfl) _ (far_cl i (cond16 i hc) ClosedOff.eq) _ shapeCasts_S128x128_S1x128x128) <|
    .cons (tile8_of (farTile_none 128 0 0 1 0 rfl rfl (by decide) (by decide) (by decide) (by decide) i arg3 arg4 arg5 arg6 X3 X4 X5 X6 (cond16 i hc) rfl) _ (far_cl i (cond16 i hc) ClosedOff.eq) _ shapeCasts_S128x128_S1x128x128) <|
    .cons (tile8_of (farTile_all 0 128 0 0 1 rfl rfl (by decide) (by decide) (by decide) (by decide) i arg3 arg4 arg5 arg6 X3 X4 X5 X6 (cond16 i hc) _ _ _ (hs := slices_S1024x256_o0_128_S128x128) rfl) _ (far_cl i (cond16 i hc) ClosedOff.eq) _ shapeCasts_S128x128_S1x128x128) <|
    .cons (tile8_of (farTile_tri 0 0 0 0 0 rfl rfl (by decide) (by decide) (by decide) (by decide) i arg3 arg4 arg5 arg6 X3 X4 X5 X6 (cond16 i hc) _ _ _ (hs := slices_S1024x256_o0_0_S128x128) rfl) _ (far_cl i (cond16 i hc) ClosedOff.eq) _ shapeCasts_S128x128_S1x128x128) <|
    .nil

/-- The sixteen tiles of the diagonal pair. -/
theorem diag_tiles : List.Forall₂ (fun q rc => Tile8 (tt i - (tt i - 16)) (fun r c => (inOf i arg3 arg4 arg5 arg6 X3 X4 X5 X6).score r (256 * tt i + c)) rc.1 rc.2 q)
    (kernelRun.sl.H8_16 (F := Ideal) i arg3 arg4 arg5 X3 X4 X5) idx16 :=
    .cons (tile8_of (diagTile_tri 896 128 3 1 1 rfl rfl (by decide) (by decide) (by decide) (by decide) i arg3 arg4 arg5 arg6 X3 X4 X5 X6 _ _ _ (hs := slices_S1024x256_o896_128_S128x128) rfl) _ (k0_off76_cl i) _ shapeCasts_S128x128_S1x128x128) <|
    .cons (tile8_of (diagTile_all 896 0 3 1 0 rfl rfl (by decide) (by decide) (by decide) (by decide) i arg3 arg4 arg5 arg6 X3 X4 X5 X6 _ _ _ (hs := slices_S1024x256_o896_0_S128x128) rfl) _ (k0_off75_cl i) _ shapeCasts_S128x128_S1x128x128) <|
    .cons (tile8_of (diagTile_none 768 128 3 0 1 rfl rfl (by decide) (by decide) (by decide) (by decide) i arg3 arg4 arg5 arg6 X3 X4 X5 X6 rfl) _ (k0_off74_cl i) _ shapeCasts_S128x128_S1x128x128) <|
    .cons (tile8_of (diagTile_tri 768 0 3 0 0 rfl rfl (by decide) (by decide) (by decide) (by decide) i arg3 arg4 arg5 arg6 X3 X4 X5 X6 _ _ _ (hs := slices_S1024x256_o768_0_S128x128) rfl) _ (k0_off73_cl i) _ shapeCasts_S128x128_S1x128x128) <|
    .cons (tile8_of (diagTile_tri 640 128 2 1 1 rfl rfl (by decide) (by decide) (by decide) (by decide) i arg3 arg4 arg5 arg6 X3 X4 X5 X6 _ _ _ (hs := slices_S1024x256_o640_128_S128x128) rfl) _ (k0_off72_cl i) _ shapeCasts_S128x128_S1x128x128) <|
    .cons (tile8_of (diagTile_all 640 0 2 1 0 rfl rfl (by decide) (by decide) (by decide) (by decide) i arg3 arg4 arg5 arg6 X3 X4 X5 X6 _ _ _ (hs := slices_S1024x256_o640_0_S128x128) rfl) _ (k0_off71_cl i) _ shapeCasts_S128x128_S1x128x128) <|
    .cons (tile8_of (diagTile_none 512 128 2 0 1 rfl rfl (by decide) (by decide) (by decide) (by decide) i arg3 arg4 arg5 arg6 X3 X4 X5 X6 rfl) _ (k0_off70_cl i) _ shapeCasts_S128x128_S1x128x128) <|
    .cons (tile8_of (diagTile_tri 512 0 2 0 0 rfl rfl (by decide) (by decide) (by decide) (by decide) i arg3 arg4 arg5 arg6 X3 X4 X5 X6 _ _ _ (hs := slices_S1024x256_o512_0_S128x128) rfl) _ (k0_off69_cl i) _ shapeCasts_S128x128_S1x128x128) <|
    .cons (tile8_of (diagTile_tri 384 128 1 1 1 rfl rfl (by decide) (by decide) (by decide) (by decide) i arg3 arg4 arg5 arg6 X3 X4 X5 X6 _ _ _ (hs := slices_S1024x256_o384_128_S128x128) rfl) _ (k0_off68_cl i) _ shapeCasts_S128x128_S1x128x128) <|
    .cons (tile8_of (diagTile_all 384 0 1 1 0 rfl rfl (by decide) (by decide) (by decide) (by decide) i arg3 arg4 arg5 arg6 X3 X4 X5 X6 _ _ _ (hs := slices_S1024x256_o384_0_S128x128) rfl) _ (k0_off67_cl i) _ shapeCasts_S128x128_S1x128x128) <|
    .cons (tile8_of (diagTile_none 256 128 1 0 1 rfl rfl (by decide) (by decide) (by decide) (by decide) i arg3 arg4 arg5 arg6 X3 X4 X5 X6 rfl) _ (k0_off66_cl i) _ shapeCasts_S128x128_S1x128x128) <|
    .cons (tile8_of (diagTile_tri 256 0 1 0 0 rfl rfl (by decide) (by decide) (by decide) (by decide) i arg3 arg4 arg5 arg6 X3 X4 X5 X6 _ _ _ (hs := slices_S1024x256_o256_0_S128x128) rfl) _ (k0_off65_cl i) _ shapeCasts_S128x128_S1x128x128) <|
    .cons (tile8_of (diagTile_tri 128 128 0 1 1 rfl rfl (by decide) (by decide) (by decide) (by decide) i arg3 arg4 arg5 arg6 X3 X4 X5 X6 _ _ _ (hs := slices_S1024x256_o128_128_S128x128) rfl) _ (k0_off64_cl i) _ shapeCasts_S128x128_S1x128x128) <|
    .cons (tile8_of (diagTile_all 128 0 0 1 0 rfl rfl (by decide) (by decide) (by decide) (by decide) i arg3 arg4 arg5 arg6 X3 X4 X5 X6 _ _ _ (hs := slices_S1024x256_o128_0_S128x128) rfl) _ (k0_off63_cl i) _ shapeCasts_S128x128_S1x128x128) <|
    .cons (tile8_of (diagTile_none 0 128 0 0 1 rfl rfl (by decide) (by decide) (by decide) (by decide) i arg3 arg4 arg5 arg6 X3 X4 X5 X6 rfl) _ (k0_off62_cl i) _ shapeCasts_S128x128_S1x128x128) <|
    .cons (tile8_of (diagTile_tri 0 0 0 0 0 rfl rfl (by decide) (by decide) (by decide) (by decide) i arg3 arg4 arg5 arg6 X3 X4 X5 X6 _ _ _ (hs := slices_S1024x256_o0_0_S128x128) rfl) _ (k0_off61_cl i) _ shapeCasts_S128x128_S1x128x128) <|
    .nil

/-- The maxima the diagonal pair leaves. -/
theorem diag_rows (f8 : BufTy.Contents (Elt Ideal) arg8.view.ty) (f9 : BufTy.Contents (Elt Ideal) arg9.view.ty) (old : ℕ → ℕ → EReal) (M9 : BufTy.Contents (Elt Ideal) arg9.view.ty)
    (h9 : ∀ y : S1024x128.Idx, arg9.view.read (Elt Ideal) M9 y = old (y 0).val (y 1).val)
    (e0 : kernelRun.sl.v43 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![0, 0] S128x128.size inb_S1024x128_S128x128_0_0).toLoadRect M9) (e1 : kernelRun.sl.v77 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![128, 0] S128x128.size inb_S1024x128_S128x128_128_0).toLoadRect M9) (e2 : kernelRun.sl.v120 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![256, 0] S128x128.size inb_S1024x128_S128x128_256_0).toLoadRect M9) (e3 : kernelRun.sl.v154 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![384, 0] S128x128.size inb_S1024x128_S128x128_384_0).toLoadRect M9) (e4 : kernelRun.sl.v197 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![512, 0] S128x128.size inb_S1024x128_S128x128_512_0).toLoadRect M9) (e5 : kernelRun.sl.v231 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![640, 0] S128x128.size inb_S1024x128_S128x128_640_0).toLoadRect M9) (e6 : kernelRun.sl.v274 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![768, 0] S128x128.size inb_S1024x128_S128x128_768_0).toLoadRect M9) (e7 : kernelRun.sl.v308 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![896, 0] S128x128.size inb_S1024x128_S128x128_896_0).toLoadRect M9) :
    ∀ f (y : S1024x128.Idx), arg9.view.read (Elt Ideal) (arg9.view.writes (Elt Ideal) f (kernelRun.sl.H9_8_1 (F := Ideal) c i arg3 harg3 arg4 harg4 arg5 harg5 arg6 harg6 arg7 harg7 arg8 harg8 arg9 harg9 arg10 harg10 arg11 harg11 arg12 harg12 X3 X4 X5 f8 f9)) y = (raise (inOf i arg3 arg4 arg5 arg6 X3 X4 X5 X6) (tt i) old) (y 0).val (y 1).val := by
  have H0 : ∀ f, Rows arg9.view f (raise (inOf i arg3 arg4 arg5 arg6 X3 X4 X5 X6) (tt i) old) (fun r l => arg9.view.read (Elt Ideal) f (ix2 (Fin.ofNat 1024 r) (Fin.ofNat 128 l))) 0 [] := Rows.nil'
  have H1 : ∀ f, Rows arg9.view f (raise (inOf i arg3 arg4 arg5 arg6 X3 X4 X5 X6) (tt i) old) (fun r l => arg9.view.read (Elt Ideal) f (ix2 (Fin.ofNat 1024 r) (Fin.ofNat 128 l))) 128 (kernelRun.sl.H9_1_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 0) (H0 f) _ _ (raise_fst (O := kernelRun.sl.v43 (F := Ideal) c i arg3 harg3 arg4 harg4 arg5 harg5 arg6 harg6 arg7 harg7 arg8 harg8 arg9 harg9 arg10 harg10 arg11 harg11 arg12 harg12 X3 X4 X5 f8 f9) (fun x => (congrFun e0 x).trans (Rows.load0 h9 _ x)) (diagTile_tri 0 0 0 0 0 rfl rfl (by decide) (by decide) (by decide) (by decide) i arg3 arg4 arg5 arg6 X3 X4 X5 X6 _ _ _ (hs := slices_S1024x256_o0_0_S128x128) rfl) (diagTile_none 0 128 0 0 1 rfl rfl (by decide) (by decide) (by decide) (by decide) i arg3 arg4 arg5 arg6 X3 X4 X5 X6 rfl) _)
  have H2 : ∀ f, Rows arg9.view f (raise (inOf i arg3 arg4 arg5 arg6 X3 X4 X5 X6) (tt i) old) (fun r l => arg9.view.read (Elt Ideal) f (ix2 (Fin.ofNat 1024 r) (Fin.ofNat 128 l))) 256 (kernelRun.sl.H9_2_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 128) (H1 f) _ _ (raise_both (O := kernelRun.sl.v77 (F := Ideal) c i arg3 harg3 arg4 harg4 arg5 harg5 arg6 harg6 arg7 harg7 arg8 harg8 arg9 harg9 arg10 harg10 arg11 harg11 arg12 harg12 X3 X4 X5 f8 f9) (fun x => (congrFun e1 x).trans (Rows.load0 h9 _ x)) (diagTile_all 128 0 0 1 0 rfl rfl (by decide) (by decide) (by decide) (by decide) i arg3 arg4 arg5 arg6 X3 X4 X5 X6 _ _ _ (hs := slices_S1024x256_o128_0_S128x128) rfl) (diagTile_tri 128 128 0 1 1 rfl rfl (by decide) (by decide) (by decide) (by decide) i arg3 arg4 arg5 arg6 X3 X4 X5 X6 _ _ _ (hs := slices_S1024x256_o128_128_S128x128) rfl) _)
  have H3 : ∀ f, Rows arg9.view f (raise (inOf i arg3 arg4 arg5 arg6 X3 X4 X5 X6) (tt i) old) (fun r l => arg9.view.read (Elt Ideal) f (ix2 (Fin.ofNat 1024 r) (Fin.ofNat 128 l))) 384 (kernelRun.sl.H9_3_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 256) (H2 f) _ _ (raise_fst (O := kernelRun.sl.v120 (F := Ideal) c i arg3 harg3 arg4 harg4 arg5 harg5 arg6 harg6 arg7 harg7 arg8 harg8 arg9 harg9 arg10 harg10 arg11 harg11 arg12 harg12 X3 X4 X5 f8 f9) (fun x => (congrFun e2 x).trans (Rows.load0 h9 _ x)) (diagTile_tri 256 0 1 0 0 rfl rfl (by decide) (by decide) (by decide) (by decide) i arg3 arg4 arg5 arg6 X3 X4 X5 X6 _ _ _ (hs := slices_S1024x256_o256_0_S128x128) rfl) (diagTile_none 256 128 1 0 1 rfl rfl (by decide) (by decide) (by decide) (by decide) i arg3 arg4 arg5 arg6 X3 X4 X5 X6 rfl) _)
  have H4 : ∀ f, Rows arg9.view f (raise (inOf i arg3 arg4 arg5 arg6 X3 X4 X5 X6) (tt i) old) (fun r l => arg9.view.read (Elt Ideal) f (ix2 (Fin.ofNat 1024 r) (Fin.ofNat 128 l))) 512 (kernelRun.sl.H9_4_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 384) (H3 f) _ _ (raise_both (O := kernelRun.sl.v154 (F := Ideal) c i arg3 harg3 arg4 harg4 arg5 harg5 arg6 harg6 arg7 harg7 arg8 harg8 arg9 harg9 arg10 harg10 arg11 harg11 arg12 harg12 X3 X4 X5 f8 f9) (fun x => (congrFun e3 x).trans (Rows.load0 h9 _ x)) (diagTile_all 384 0 1 1 0 rfl rfl (by decide) (by decide) (by decide) (by decide) i arg3 arg4 arg5 arg6 X3 X4 X5 X6 _ _ _ (hs := slices_S1024x256_o384_0_S128x128) rfl) (diagTile_tri 384 128 1 1 1 rfl rfl (by decide) (by decide) (by decide) (by decide) i arg3 arg4 arg5 arg6 X3 X4 X5 X6 _ _ _ (hs := slices_S1024x256_o384_128_S128x128) rfl) _)
  have H5 : ∀ f, Rows arg9.view f (raise (inOf i arg3 arg4 arg5 arg6 X3 X4 X5 X6) (tt i) old) (fun r l => arg9.view.read (Elt Ideal) f (ix2 (Fin.ofNat 1024 r) (Fin.ofNat 128 l))) 640 (kernelRun.sl.H9_5_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 512) (H4 f) _ _ (raise_fst (O := kernelRun.sl.v197 (F := Ideal) c i arg3 harg3 arg4 harg4 arg5 harg5 arg6 harg6 arg7 harg7 arg8 harg8 arg9 harg9 arg10 harg10 arg11 harg11 arg12 harg12 X3 X4 X5 f8 f9) (fun x => (congrFun e4 x).trans (Rows.load0 h9 _ x)) (diagTile_tri 512 0 2 0 0 rfl rfl (by decide) (by decide) (by decide) (by decide) i arg3 arg4 arg5 arg6 X3 X4 X5 X6 _ _ _ (hs := slices_S1024x256_o512_0_S128x128) rfl) (diagTile_none 512 128 2 0 1 rfl rfl (by decide) (by decide) (by decide) (by decide) i arg3 arg4 arg5 arg6 X3 X4 X5 X6 rfl) _)
  have H6 : ∀ f, Rows arg9.view f (raise (inOf i arg3 arg4 arg5 arg6 X3 X4 X5 X6) (tt i) old) (fun r l => arg9.view.read (Elt Ideal) f (ix2 (Fin.ofNat 1024 r) (Fin.ofNat 128 l))) 768 (kernelRun.sl.H9_6_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 640) (H5 f) _ _ (raise_both (O := kernelRun.sl.v231 (F := Ideal) c i arg3 harg3 arg4 harg4 arg5 harg5 arg6 harg6 arg7 harg7 arg8 harg8 arg9 harg9 arg10 harg10 arg11 harg11 arg12 harg12 X3 X4 X5 f8 f9) (fun x => (congrFun e5 x).trans (Rows.load0 h9 _ x)) (diagTile_all 640 0 2 1 0 rfl rfl (by decide) (by decide) (by decide) (by decide) i arg3 arg4 arg5 arg6 X3 X4 X5 X6 _ _ _ (hs := slices_S1024x256_o640_0_S128x128) rfl) (diagTile_tri 640 128 2 1 1 rfl rfl (by decide) (by decide) (by decide) (by decide) i arg3 arg4 arg5 arg6 X3 X4 X5 X6 _ _ _ (hs := slices_S1024x256_o640_128_S128x128) rfl) _)
  have H7 : ∀ f, Rows arg9.view f (raise (inOf i arg3 arg4 arg5 arg6 X3 X4 X5 X6) (tt i) old) (fun r l => arg9.view.read (Elt Ideal) f (ix2 (Fin.ofNat 1024 r) (Fin.ofNat 128 l))) 896 (kernelRun.sl.H9_7_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 768) (H6 f) _ _ (raise_fst (O := kernelRun.sl.v274 (F := Ideal) c i arg3 harg3 arg4 harg4 arg5 harg5 arg6 harg6 arg7 harg7 arg8 harg8 arg9 harg9 arg10 harg10 arg11 harg11 arg12 harg12 X3 X4 X5 f8 f9) (fun x => (congrFun e6 x).trans (Rows.load0 h9 _ x)) (diagTile_tri 768 0 3 0 0 rfl rfl (by decide) (by decide) (by decide) (by decide) i arg3 arg4 arg5 arg6 X3 X4 X5 X6 _ _ _ (hs := slices_S1024x256_o768_0_S128x128) rfl) (diagTile_none 768 128 3 0 1 rfl rfl (by decide) (by decide) (by decide) (by decide) i arg3 arg4 arg5 arg6 X3 X4 X5 X6 rfl) _)
  have H8 : ∀ f, Rows arg9.view f (raise (inOf i arg3 arg4 arg5 arg6 X3 X4 X5 X6) (tt i) old) (fun r l => arg9.view.read (Elt Ideal) f (ix2 (Fin.ofNat 1024 r) (Fin.ofNat 128 l))) 1024 (kernelRun.sl.H9_8_1 (F := Ideal) c i arg3 harg3 arg4 harg4 arg5 harg5 arg6 harg6 arg7 harg7 arg8 harg8 arg9 harg9 arg10 harg10 arg11 harg11 arg12 harg12 X3 X4 X5 f8 f9) :=
    fun f => Rows.step (n := 896) (H7 f) _ _ (raise_both (O := kernelRun.sl.v308 (F := Ideal) c i arg3 harg3 arg4 harg4 arg5 harg5 arg6 harg6 arg7 harg7 arg8 harg8 arg9 harg9 arg10 harg10 arg11 harg11 arg12 harg12 X3 X4 X5 f8 f9) (fun x => (congrFun e7 x).trans (Rows.load0 h9 _ x)) (diagTile_all 896 0 3 1 0 rfl rfl (by decide) (by decide) (by decide) (by decide) i arg3 arg4 arg5 arg6 X3 X4 X5 X6 _ _ _ (hs := slices_S1024x256_o896_0_S128x128) rfl) (diagTile_tri 896 128 3 1 1 rfl rfl (by decide) (by decide) (by decide) (by decide) i arg3 arg4 arg5 arg6 X3 X4 X5 X6 _ _ _ (hs := slices_S1024x256_o896_128_S128x128) rfl) _)
  exact fun f y => (H8 f).done y (y 0).isLt

/-- The maxima the window's first pair leaves. -/
theorem far_rows (hc : k0_cond1 i = 1#1) : RowsA arg9.view (raise (inOf i arg3 arg4 arg5 arg6 X3 X4 X5 X6) (tt i - 16) (fun _ _ => ⊥)) (fun _ _ => ⊥) 1024
    (⟨Rect.unit ![896, 0] S128x128.size inb_S1024x128_S128x128_896_0, k0_pay168 (F := Ideal) (kernelRun.sl.r_2 i arg4 arg5 X4 X5 hc) (kernelRun.sl.r_21 i arg3 X3 hc) (kernelRun.sl.v687 i arg3 arg4 arg5 arg9 X3 X4 X5 hc) (kernelRun.sl.r_5 i arg3 X3 hc)⟩
      :: kernelRun.sl.H9_8 i arg3 arg4 arg5 arg9 X3 X4 X5 hc) := by
  have H1 : RowsA arg9.view (raise (inOf i arg3 arg4 arg5 arg6 X3 X4 X5 X6) (tt i - 16) (fun _ _ => ⊥)) (fun _ _ => ⊥) 0 (kernelRun.sl.H9_1 (F := Ideal)) := RowsA.whole _ _ (fun x => negInf_eq)
  have H2 : RowsA arg9.view (raise (inOf i arg3 arg4 arg5 arg6 X3 X4 X5 X6) (tt i - 16) (fun _ _ => ⊥)) (fun _ _ => ⊥) 128 (kernelRun.sl.H9_2 (F := Ideal) i arg3 arg4 arg5 arg9 X3 X4 X5 hc) :=
    RowsA.step (n := 0) H1 _ _ (raise_both (n := 0) (old := fun _ _ => ⊥) (O := kernelRun.sl.v413 (F := Ideal) arg9) (RowsA.load (n := 0) H1 _) (farTile_tri 0 0 0 0 0 rfl rfl (by decide) (by decide) (by decide) (by decide) i arg3 arg4 arg5 arg6 X3 X4 X5 X6 (cond16 i hc) _ _ _ (hs := slices_S1024x256_o0_0_S128x128) rfl) (farTile_all 0 128 0 0 1 rfl rfl (by decide) (by decide) (by decide) (by decide) i arg3 arg4 arg5 arg6 X3 X4 X5 X6 (cond16 i hc) _ _ _ (hs := slices_S1024x256_o0_128_S128x128) rfl) _)
  have H3 : RowsA arg9.view (raise (inOf i arg3 arg4 arg5 arg6 X3 X4 X5 X6) (tt i - 16) (fun _ _ => ⊥)) (fun _ _ => ⊥) 256 (kernelRun.sl.H9_3 (F := Ideal) i arg3 arg4 arg5 arg9 X3 X4 X5 hc) :=
    RowsA.step (n := 128) H2 _ _ (raise_snd (n := 128) (old := fun _ _ => ⊥) (O := kernelRun.sl.v456 (F := Ideal) i arg3 arg4 arg5 arg9 X3 X4 X5 hc) (RowsA.load (n := 128) H2 _) (farTile_none 128 0 0 1 0 rfl rfl (by decide) (by decide) (by decide) (by decide) i arg3 arg4 arg5 arg6 X3 X4 X5 X6 (cond16 i hc) rfl) (farTile_tri 128 128 0 1 1 rfl rfl (by decide) (by decide) (by decide) (by decide) i arg3 arg4 arg5 arg6 X3 X4 X5 X6 (cond16 i hc) _ _ _ (hs := slices_S1024x256_o128_128_S128x128) rfl) _)
  have H4 : RowsA arg9.view (raise (inOf i arg3 arg4 arg5 arg6 X3 X4 X5 X6) (tt i - 16) (fun _ _ => ⊥)) (fun _ _ => ⊥) 384 (kernelRun.sl.H9_4 (F := Ideal) i arg3 arg4 arg5 arg9 X3 X4 X5 hc) :=
    RowsA.step (n := 256) H3 _ _ (raise_both (n := 256) (old := fun _ _ => ⊥) (O := kernelRun.sl.v490 (F := Ideal) i arg3 arg4 arg5 arg9 X3 X4 X5 hc) (RowsA.load (n := 256) H3 _) (farTile_tri 256 0 1 0 0 rfl rfl (by decide) (by decide) (by decide) (by decide) i arg3 arg4 arg5 arg6 X3 X4 X5 X6 (cond16 i hc) _ _ _ (hs := slices_S1024x256_o256_0_S128x128) rfl) (farTile_all 256 128 1 0 1 rfl rfl (by decide) (by decide) (by decide) (by decide) i arg3 arg4 arg5 arg6 X3 X4 X5 X6 (cond16 i hc) _ _ _ (hs := slices_S1024x256_o256_128_S128x128) rfl) _)
  have H5 : RowsA arg9.view (raise (inOf i arg3 arg4 arg5 arg6 X3 X4 X5 X6) (tt i - 16) (fun _ _ => ⊥)) (fun _ _ => ⊥) 512 (kernelRun.sl.H9_5 (F := Ideal) i arg3 arg4 arg5 arg9 X3 X4 X5 hc) :=
    RowsA.step (n := 384) H4 _ _ (raise_snd (n := 384) (old := fun _ _ => ⊥) (O := kernelRun.sl.v533 (F := Ideal) i arg3 arg4 arg5 arg9 X3 X4 X5 hc) (RowsA.load (n := 384) H4 _) (farTile_none 384 0 1 1 0 rfl rfl (by decide) (by decide) (by decide) (by decide) i arg3 arg4 arg5 arg6 X3 X4 X5 X6 (cond16 i hc) rfl) (farTile_tri 384 128 1 1 1 rfl rfl (by decide) (by decide) (by decide) (by decide) i arg3 arg4 arg5 arg6 X3 X4 X5 X6 (cond16 i hc) _ _ _ (hs := slices_S1024x256_o384_128_S128x128) rfl) _)
  have H6 : RowsA arg9.view (raise (inOf i arg3 arg4 arg5 arg6 X3 X4 X5 X6) (tt i - 16) (fun _ _ => ⊥)) (fun _ _ => ⊥) 640 (kernelRun.sl.H9_6 (F := Ideal) i arg3 arg4 arg5 arg9 X3 X4 X5 hc) :=
    RowsA.step (n := 512) H5 _ _ (raise_both (n := 512) (old := fun _ _ => ⊥) (O := kernelRun.sl.v567 (F := Ideal) i arg3 arg4 arg5 arg9 X3 X4 X5 hc) (RowsA.load (n := 512) H5 _) (farTile_tri 512 0 2 0 0 rfl rfl (by decide) (by decide) (by decide) (by decide) i arg3 arg4 arg5 arg6 X3 X4 X5 X6 (cond16 i hc) _ _ _ (hs := slices_S1024x256_o512_0_S128x128) rfl) (farTile_all 512 128 2 0 1 rfl rfl (by decide) (by decide) (by decide) (by decide) i arg3 arg4 arg5 arg6 X3 X4 X5 X6 (cond16 i hc) _ _ _ (hs := slices_S1024x256_o512_128_S128x128) rfl) _)
  have H7 : RowsA arg9.view (raise (inOf i arg3 arg4 arg5 arg6 X3 X4 X5 X6) (tt i - 16) (fun _ _ => ⊥)) (fun _ _ => ⊥) 768 (kernelRun.sl.H9_7 (F := Ideal) i arg3 arg4 arg5 arg9 X3 X4 X5 hc) :=
    RowsA.step (n := 640) H6 _ _ (raise_snd (n := 640) (old := fun _ _ => ⊥) (O := kernelRun.sl.v610 (F := Ideal) i arg3 arg4 arg5 arg9 X3 X4 X5 hc) (RowsA.load (n := 640) H6 _) (farTile_none 640 0 2 1 0 rfl rfl (by decide) (by decide) (by decide) (by decide) i arg3 arg4 arg5 arg6 X3 X4 X5 X6 (cond16 i hc) rfl) (farTile_tri 640 128 2 1 1 rfl rfl (by decide) (by decide) (by decide) (by decide) i arg3 arg4 arg5 arg6 X3 X4 X5 X6 (cond16 i hc) _ _ _ (hs := slices_S1024x256_o640_128_S128x128) rfl) _)
  have H8 : RowsA arg9.view (raise (inOf i arg3 arg4 arg5 arg6 X3 X4 X5 X6) (tt i - 16) (fun _ _ => ⊥)) (fun _ _ => ⊥) 896 (kernelRun.sl.H9_8 (F := Ideal) i arg3 arg4 arg5 arg9 X3 X4 X5 hc) :=
    RowsA.step (n := 768) H7 _ _ (raise_both (n := 768) (old := fun _ _ => ⊥) (O := kernelRun.sl.v644 (F := Ideal) i arg3 arg4 arg5 arg9 X3 X4 X5 hc) (RowsA.load (n := 768) H7 _) (farTile_tri 768 0 3 0 0 rfl rfl (by decide) (by decide) (by decide) (by decide) i arg3 arg4 arg5 arg6 X3 X4 X5 X6 (cond16 i hc) _ _ _ (hs := slices_S1024x256_o768_0_S128x128) rfl) (farTile_all 768 128 3 0 1 rfl rfl (by decide) (by decide) (by decide) (by decide) i arg3 arg4 arg5 arg6 X3 X4 X5 X6 (cond16 i hc) _ _ _ (hs := slices_S1024x256_o768_128_S128x128) rfl) _)
  exact RowsA.step (n := 896) H8 _ _ (raise_snd (n := 896) (old := fun _ _ => ⊥) (O := kernelRun.sl.v687 (F := Ideal) i arg3 arg4 arg5 arg9 X3 X4 X5 hc) (RowsA.load (n := 896) H8 _) (farTile_none 896 0 3 1 0 rfl rfl (by decide) (by decide) (by decide) (by decide) i arg3 arg4 arg5 arg6 X3 X4 X5 X6 (cond16 i hc) rfl) (farTile_tri 896 128 3 1 1 rfl rfl (by decide) (by decide) (by decide) (by decide) i arg3 arg4 arg5 arg6 X3 X4 X5 X6 (cond16 i hc) _ _ _ (hs := slices_S1024x256_o896_128_S128x128) rfl) _)

end

end Cert.Proof.AttnIdeal

end
-- ==== Proof.ScoresValue.lean ====
/- The window's scores and their maxima once every pair has been through. -/
module

public import proofs.«01_k».proof.Proof.FarDiag

@[expose] public section

set_option maxRecDepth 65536
set_option maxHeartbeats 4000000

noncomputable section

namespace Cert.Proof.AttnIdeal

open Cert.AttnIdeal Cert.AttnIdeal.Gen
open Idealize.ShloMosaic Idealize.ShloMosaic.TcCoe Idealize.ShloMosaic.Tactic

/-- The greatest score of row `r` in lane `l` of the pairs from `lo` below `hi`. -/
def In.maxes (I : In) (lo hi r l : ℕ) : EReal := (Finset.Ico lo hi).sup fun p => max (I.score r (256 * p + l)) (I.score r (256 * p + (128 + l)))

theorem maxes_empty (I : In) (lo hi : ℕ) (h : hi ≤ lo) (r l : ℕ) : I.maxes lo hi r l = ⊥ := by
  unfold In.maxes; rw [Finset.Ico_eq_empty (by omega), Finset.sup_empty]

theorem raise_maxes (I : In) (lo hi : ℕ) (h : lo ≤ hi) (r l : ℕ) : raise I hi (I.maxes lo hi) r l = I.maxes lo (hi + 1) r l := by
  unfold raise In.maxes
  have e : Finset.Ico lo (hi + 1) = insert hi (Finset.Ico lo hi) := by
    ext a; simp only [Finset.mem_Ico, Finset.mem_insert]; omega
  rw [e, Finset.sup_insert, Nat.zero_add, max_assoc]
  exact max_comm _ _

/-- The pairs from `lo` below `hi` have been through: their scores stored, their maxima taken. -/
structure Scored (I : In) (lo hi : ℕ) (R8 : S17x1024x256.Idx → EReal) (R9 : S1024x128.Idx → EReal) : Prop where
  sc : ∀ p, lo ≤ p → p < hi → ∀ y : S17x1024x256.Idx, (y 0).val = p - lo → R8 y = I.score (y 1).val (256 * p + (y 2).val)
  mx : ∀ y : S1024x128.Idx, R9 y = I.maxes lo hi (y 0).val (y 1).val

/-- One more pair. -/
theorem Scored.next {I : In} {lo hi : ℕ} {κ' : Kind} {sp : Space} (v : View sig κ' sp S17x1024x256 .f32) (f : v.ty.Contents (Elt Ideal))
    {L : List (View.Piece (Elt Ideal) S17x1024x256 .f32)} {R9 R9' : S1024x128.Idx → EReal} (h : Scored I lo hi (v.read (Elt Ideal) f) R9) (hlo : lo ≤ hi)
    (h8 : List.Forall₂ (fun q rc => Tile8 (hi - lo) (fun r c => I.score r (256 * hi + c)) rc.1 rc.2 q) L idx16)
    (h9 : ∀ y : S1024x128.Idx, R9' y = raise I hi (I.maxes lo hi) (y 0).val (y 1).val) :
    Scored I lo (hi + 1) (v.read (Elt Ideal) (v.writes (Elt Ideal) f L)) R9' := by
  constructor
  · intro p hp hp' y hy
    rw [read_tiles16 v f _ _ L h8]
    by_cases e : p = hi
    · subst e; rw [if_pos hy]
    · rw [if_neg (by omega), h.sc p hp (by omega) y hy]
  · intro y; rw [h9, raise_maxes I lo hi hlo]

/-- The contents after a case split, whichever way it goes. -/
theorem start_scored {I : In} {lo hi : ℕ} {κ8 κ9 : Kind} {s8 s9 : Space} (v8 : View sig κ8 s8 S17x1024x256 .f32) (v9 : View sig κ9 s9 S1024x128 .f32)
    {c : Prop} (d : Decidable c) {A8 : ¬ c → v8.ty.Contents (Elt Ideal)} {B8 : c → v8.ty.Contents (Elt Ideal)} {A9 : ¬ c → v9.ty.Contents (Elt Ideal)} {B9 : c → v9.ty.Contents (Elt Ideal)}
    (hA : ∀ h, Scored I lo hi (v8.read (Elt Ideal) (A8 h)) (v9.read (Elt Ideal) (A9 h))) (hB : ∀ h, Scored I lo hi (v8.read (Elt Ideal) (B8 h)) (v9.read (Elt Ideal) (B9 h))) :
    Scored I lo hi (v8.read (Elt Ideal) (Decidable.rec (motive := fun _ => v8.ty.Contents (Elt Ideal)) A8 B8 d)) (v9.read (Elt Ideal) (Decidable.rec (motive := fun _ => v9.ty.Contents (Elt Ideal)) A9 B9 d)) := by
  cases d with
  | isFalse h => exact hA h
  | isTrue h => exact hB h

section
variable (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (c : Dev nD) (harg3 : arg3.IsWhole) (harg4 : arg4.IsWhole) (harg5 : arg5.IsWhole) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)

/-- Before the loop: the window's first pair has been through, if there is one. -/
theorem first_scored (f8 : BufTy.Contents (Elt Ideal) arg8.view.ty) (f9 : BufTy.Contents (Elt Ideal) arg9.view.ty) {A8 B8 A9 B9}
    (eA8 : ∀ h, A8 h = f8) (eA9 : ∀ h, A9 h = arg9.view.writes (Elt Ideal) f9 (kernelRun.sl.H9_1 (F := Ideal)))
    (eB8 : ∀ hc, B8 hc = arg8.view.writes (Elt Ideal) f8 (⟨Rect.unit (k0_off19 i) S1x128x128.size (k0_off19_inb i hc), k0_pay167 (F := Ideal) (kernelRun.sl.r_2 i arg4 arg5 X4 X5 hc) (kernelRun.sl.r_21 i arg3 X3 hc) (kernelRun.sl.r_5 i arg3 X3 hc)⟩
      :: ⟨Rect.unit (k0_off18 i) S1x128x128.size (k0_off18_inb i hc), k0_pay165 (F := Ideal)⟩
      :: ⟨Rect.unit (k0_off17 i) S1x128x128.size (k0_off17_inb i hc), k0_pay45 (F := Ideal) (kernelRun.sl.r_2 i arg4 arg5 X4 X5 hc) (kernelRun.sl.r_20 i arg3 X3 hc) (kernelRun.sl.r_5 i arg3 X3 hc)⟩
      :: ⟨Rect.unit (k0_off16 i) S1x128x128.size (k0_off16_inb i hc), k0_pay43 (F := Ideal) kernelRun.sl.v11 kernelRun.sl.v12 (kernelRun.sl.r_2 i arg4 arg5 X4 X5 hc) (kernelRun.sl.r_20 i arg3 X3 hc) (kernelRun.sl.r_1 i arg3 X3 hc)⟩
      :: kernelRun.sl.H8_12 i arg3 arg4 arg5 X3 X4 X5 hc))
    (eB9 : ∀ hc, B9 hc = arg9.view.writes (Elt Ideal) f9 (⟨Rect.unit ![896, 0] S128x128.size inb_S1024x128_S128x128_896_0, k0_pay168 (F := Ideal) (kernelRun.sl.r_2 i arg4 arg5 X4 X5 hc) (kernelRun.sl.r_21 i arg3 X3 hc) (kernelRun.sl.v687 i arg3 arg4 arg5 arg9 X3 X4 X5 hc) (kernelRun.sl.r_5 i arg3 X3 hc)⟩
      :: kernelRun.sl.H9_8 i arg3 arg4 arg5 arg9 X3 X4 X5 hc)) :
    Scored (inOf i arg3 arg4 arg5 arg6 X3 X4 X5 X6) (tt i - 16) (tt i - 15)
      (arg8.view.read (Elt Ideal) (Decidable.rec (motive := fun _ => BufTy.Contents (Elt Ideal) arg8.view.ty) A8 B8 (instDecidableEqBitVec (k0_cond1 i) 1#1)))
      (arg9.view.read (Elt Ideal) (Decidable.rec (motive := fun _ => BufTy.Contents (Elt Ideal) arg9.view.ty) A9 B9 (instDecidableEqBitVec (k0_cond1 i) 1#1))) := by
  refine start_scored _ _ _ (fun h => ?_) (fun hc => ?_)
  · have h16 := not_cond16 i h
    rw [eA8, eA9]
    refine ⟨fun p hp hp' => absurd hp' (by omega), fun y => ?_⟩
    rw [maxes_empty _ _ _ (by omega)]
    exact ((RowsA.whole (G := fun _ _ => ⊥) (old := fun _ _ => ⊥) _ _ (fun x => negInf_eq) : RowsA arg9.view _ _ 0 (kernelRun.sl.H9_1 (F := Ideal))) f9).rest y (Nat.zero_le _)
  · have h16 := cond16 i hc
    rw [eB8, eB9]
    have e15 : tt i - 15 = tt i - 16 + 1 := by omega
    rw [e15]
    refine Scored.next arg8.view f8 (R9 := fun _ => ⊥) ⟨fun p hp hp' => absurd hp' (by omega), fun y => (maxes_empty _ _ _ le_rfl _ _).symm⟩ le_rfl ?_ (fun y => ?_)
    · rw [Nat.sub_self]
      exact far_tiles i arg3 arg4 arg5 arg6 X3 X4 X5 X6 hc
    · rw [show (inOf i arg3 arg4 arg5 arg6 X3 X4 X5 X6).maxes (tt i - 16) (tt i - 16) = fun _ _ => ⊥ from funext fun r => funext fun l => maxes_empty _ _ _ le_rfl r l]
      exact (far_rows i arg3 arg4 arg5 arg6 X3 X4 X5 X6 arg9 hc f9).done y (y 0).isLt

/-- The loop over the pairs between. -/
theorem mid_scored (arg1 : BitVec 32) (arg2 : BitVec 32) (v1 : BitVec 32) (v22 : BitVec 32) (G8 : BufTy.Contents (Elt Ideal) arg8.view.ty) (G9 : BufTy.Contents (Elt Ideal) arg9.view.ty)
    (hG : Scored (inOf i arg3 arg4 arg5 arg6 X3 X4 X5 X6) (tt i - 16) (tt i - 15) (arg8.view.read (Elt Ideal) G8) (arg9.view.read (Elt Ideal) G9)) (n : ℕ) (hn : n ≤ (k0_t1_loop i).trips) :
    Scored (inOf i arg3 arg4 arg5 arg6 X3 X4 X5 X6) (tt i - 16) (tt i - 15 + n)
      (arg8.view.read (Elt Ideal) (midAt (F := Ideal) c i arg3 harg3 arg4 harg4 arg5 harg5 arg6 harg6 arg7 harg7 arg8 harg8 arg9 harg9 arg10 harg10 arg11 harg11 arg12 harg12 arg1 arg2 v1 (View.ld (arg4.view.read (Elt Ideal) X4) (Rect.unit ![0, 0, 0] S1x256x256.size inb_S1x256x1024_S1x256x256_0_0_0)) (View.ld (arg4.view.read (Elt Ideal) X4) (Rect.unit ![0, 0, 256] S1x256x256.size inb_S1x256x1024_S1x256x256_0_0_256)) (View.ld (arg4.view.read (Elt Ideal) X4) (Rect.unit ![0, 0, 512] S1x256x256.size inb_S1x256x1024_S1x256x256_0_0_512)) (View.ld (arg4.view.read (Elt Ideal) X4) (Rect.unit ![0, 0, 768] S1x256x256.size inb_S1x256x1024_S1x256x256_0_0_768)) v22 X3 X5 G8 G9 n).1)
      (arg9.view.read (Elt Ideal) (midAt (F := Ideal) c i arg3 harg3 arg4 harg4 arg5 harg5 arg6 harg6 arg7 harg7 arg8 harg8 arg9 harg9 arg10 harg10 arg11 harg11 arg12 harg12 arg1 arg2 v1 (View.ld (arg4.view.read (Elt Ideal) X4) (Rect.unit ![0, 0, 0] S1x256x256.size inb_S1x256x1024_S1x256x256_0_0_0)) (View.ld (arg4.view.read (Elt Ideal) X4) (Rect.unit ![0, 0, 256] S1x256x256.size inb_S1x256x1024_S1x256x256_0_0_256)) (View.ld (arg4.view.read (Elt Ideal) X4) (Rect.unit ![0, 0, 512] S1x256x256.size inb_S1x256x1024_S1x256x256_0_0_512)) (View.ld (arg4.view.read (Elt Ideal) X4) (Rect.unit ![0, 0, 768] S1x256x256.size inb_S1x256x1024_S1x256x256_0_0_768)) v22 X3 X5 G8 G9 n).2) := by
  induction n with
  | zero => exact hG
  | succ n ih =>
    have e := midAt_succ (F := Ideal) c i arg3 harg3 arg4 harg4 arg5 harg5 arg6 harg6 arg7 harg7 arg8 harg8 arg9 harg9 arg10 harg10 arg11 harg11 arg12 harg12 arg1 arg2 v1 (View.ld (arg4.view.read (Elt Ideal) X4) (Rect.unit ![0, 0, 0] S1x256x256.size inb_S1x256x1024_S1x256x256_0_0_0)) (View.ld (arg4.view.read (Elt Ideal) X4) (Rect.unit ![0, 0, 256] S1x256x256.size inb_S1x256x1024_S1x256x256_0_0_256)) (View.ld (arg4.view.read (Elt Ideal) X4) (Rect.unit ![0, 0, 512] S1x256x256.size inb_S1x256x1024_S1x256x256_0_0_512)) (View.ld (arg4.view.read (Elt Ideal) X4) (Rect.unit ![0, 0, 768] S1x256x256.size inb_S1x256x1024_S1x256x256_0_0_768)) v22 X3 X5 G8 G9 ⟨n, hn⟩
    rw [e]
    have ih' := ih (Nat.le_of_succ_le hn)
    rw [← Nat.add_assoc]
    refine Scored.next arg8.view _ ih' (by omega) ?_ (fun y => ?_)
    · exact midTrip_tiles i arg3 arg4 arg5 arg6 X3 X4 X5 X6 c harg3 harg4 harg5 harg6 arg7 harg7 arg8 harg8 arg9 harg9 arg10 harg10 arg11 harg11 arg12 harg12 arg1 arg2 v1 v22 _ ⟨n, hn⟩
    · exact (midTrip_rows i arg3 arg4 arg5 arg6 X3 X4 X5 X6 c harg3 harg4 harg5 harg6 arg7 harg7 arg8 harg8 arg9 harg9 arg10 harg10 arg11 harg11 arg12 harg12 arg1 arg2 v1 v22 _ ⟨n, hn⟩ _ ih'.mx).done y (y 0).isLt

end

end Cert.Proof.AttnIdeal

end
-- ==== Proof.ProbsValue.lean ====
/- One trip of the loop over the window's pairs: what it adds to the sums of probabilities and to the weighted values. -/
module

public import proofs.«01_k».proof.Proof.MidValue
public import proofs.«01_k».proof.Proof.AttnIdealProbs

@[expose] public section

set_option maxRecDepth 65536
set_option maxHeartbeats 4000000

noncomputable section

namespace Cert.Proof.AttnIdeal

open Cert.AttnIdeal Cert.AttnIdeal.Gen
open Idealize.ShloMosaic Idealize.ShloMosaic.TcCoe Idealize.ShloMosaic.Tactic

/-- A probability's code: the probability clipped to the codes' range. -/
def clip (x : EReal) : EReal := min (Ideal.ofBits .f32 0x43E00000#32) (max (Ideal.ofBits .f32 0xC3E00000#32) x)

namespace In
variable (I : In)

/-- Key `j`'s probability, relative to `mo r`. -/
def prob (mo : ℕ → EReal) (r j : ℕ) : EReal := Ideal.exp2 (I.score r j - mo r)
/-- The values' code. -/
def val (j d : ℕ) : EReal := I.v (ix3 (0 : Fin 1) (Fin.ofNat 8192 j) (Fin.ofNat 256 d))
/-- The codes of the probabilities of 128 keys from `j`, times the values' codes. -/
def pv (mo : ℕ → EReal) (r j d : ℕ) : EReal := ∑ x : Fin 128, clip (I.prob mo r (j + x.val)) * I.val (j + x.val) d
/-- What pair `p` adds to lane `l` of the sums. -/
def ladd (mo : ℕ → EReal) (p r l : ℕ) : EReal := I.prob mo r (256 * p + l) + I.prob mo r (256 * p + (128 + l))
/-- What pair `p` adds to the weighted values. -/
def oadd (mo : ℕ → EReal) (p r d : ℕ) : EReal := I.pv mo r (256 * p) d * I.vs (256 * p) + I.pv mo r (256 * p + 128) d * I.vs (256 * p + 128)
end In

theorem read_whole128 {κ' : Kind} {sp : Space} (v : View sig κ' sp S1024x128 .f32) (f : v.ty.Contents (Elt Ideal)) (inb) (w : S1024x128.Idx → EReal) (y : S1024x128.Idx) :
    v.read (Elt Ideal) (v.writes (Elt Ideal) f [⟨Rect.unit ![0, 0] S1024x128.size inb, w⟩]) y = w y := by
  have hx : ∀ a : Fin 2, (y a).val = (Rect.unit (s := S1024x128) ![0, 0] S1024x128.size inb).off a + (Rect.unit (s := S1024x128) ![0, 0] S1024x128.size inb).stride a * (y a).val := fun a => by
    fin_cases a
    · show (y 0).val = 0 + 1 * (y 0).val; omega
    · show (y 1).val = 0 + 1 * (y 1).val; omega
  exact View.read_writes_cons_hit_of_coords v f (Rect.unit (s := S1024x128) ![0, 0] S1024x128.size inb) w [] y y hx

theorem read_whole256 {κ' : Kind} {sp : Space} (v : View sig κ' sp S1024x256 .f32) (f : v.ty.Contents (Elt Ideal)) (inb) (w : S1024x256.Idx → EReal) (y : S1024x256.Idx) :
    v.read (Elt Ideal) (v.writes (Elt Ideal) f [⟨Rect.unit ![0, 0] S1024x256.size inb, w⟩]) y = w y := by
  have hx : ∀ a : Fin 2, (y a).val = (Rect.unit (s := S1024x256) ![0, 0] S1024x256.size inb).off a + (Rect.unit (s := S1024x256) ![0, 0] S1024x256.size inb).stride a * (y a).val := fun a => by
    fin_cases a
    · show (y 0).val = 0 + 1 * (y 0).val; omega
    · show (y 1).val = 0 + 1 * (y 1).val; omega
  exact View.read_writes_cons_hit_of_coords v f (Rect.unit (s := S1024x256) ![0, 0] S1024x256.size inb) w [] y y hx

theorem readAt_whole128 {κ' : Kind} {sp : Space} (v : View sig κ' sp S1024x128 .f32) (f : v.ty.Contents (Elt Ideal)) (inb) (y : S1024x128.Idx) :
    View.readAt (Elt Ideal) v (Rect.unit (s := S1024x128) ![0, 0] S1024x128.size inb).toLoadRect f y = v.read (Elt Ideal) f y := by
  rw [View.readAt_eq_ld]
  show v.read (Elt Ideal) f _ = _
  congr 1; funext a; apply Fin.ext
  fin_cases a
  · show 0 + 1 * (y 0).val = (y 0).val; omega
  · show 0 + 1 * (y 1).val = (y 1).val; omega

theorem readAt_whole256 {κ' : Kind} {sp : Space} (v : View sig κ' sp S1024x256 .f32) (f : v.ty.Contents (Elt Ideal)) (inb) (y : S1024x256.Idx) :
    View.readAt (Elt Ideal) v (Rect.unit (s := S1024x256) ![0, 0] S1024x256.size inb).toLoadRect f y = v.read (Elt Ideal) f y := by
  rw [View.readAt_eq_ld]
  show v.read (Elt Ideal) f _ = _
  congr 1; funext a; apply Fin.ext
  fin_cases a
  · show 0 + 1 * (y 0).val = (y 0).val; omega
  · show 0 + 1 * (y 1).val = (y 1).val; omega

/-- Half a slot of the scores, as read. -/
theorem scores_read {κ' : Kind} {sp : Space} (v : View sig κ' sp S17x1024x256 .f32) (f : v.ty.Contents (Elt Ideal)) (s c0 : ℕ) (G : ℕ → ℕ → EReal)
    (h : ∀ y : S17x1024x256.Idx, (y 0).val = s → v.read (Elt Ideal) f y = G (y 1).val (y 2).val) (off : Fin 3 → ℕ) (hoff : off = ![s, 0, c0]) (inb) (hs) (y : S1024x128.Idx) :
    shapeCast S1024x128 (View.readAt (Elt Ideal) v (Rect.unit (s := S17x1024x256) off S1x1024x128.size inb).toLoadRect f) hs y = G (y 0).val (c0 + (y 1).val) := by
  subst hoff
  have e : ∀ w : S1x1024x128.Idx → EReal, shapeCast S1024x128 w hs y = w (ix3 (0 : Fin 1) (y 0) (y 1)) := fun w => by pointwise
  rw [View.readAt_eq_ld]
  refine (e _).trans ((h _ ?_).trans ?_)
  · show s + 1 * 0 = s; omega
  · show G (0 + 1 * (y 0).val) (c0 + 1 * (y 1).val) = _
    rw [Nat.zero_add, Nat.one_mul, Nat.one_mul]

/-- The scale of a block of values, as read. -/
theorem vs_read (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (j p b : ℕ) (hj : j = 256 * p + 128 * b) (hb : b < 2) (hp : p < 32) (off : Fin 3 → ℕ)
    (hoff : off = ![0, 2 * p + b, 9]) (inb) (hf) :
    View.readAt (Elt Ideal) arg3.view (Rect.unit (s := S1x64x16) off S1x1x1.size inb).toLoadRect X3 (Shape.Idx.first hf) = (inOf i arg3 arg4 arg5 arg6 X3 X4 X5 X6).vs j := by
  rw [scale_read arg3.view X3 off _ _ hoff inb hf (by omega) (by omega)]
  unfold In.vs
  congr 2; apply Fin.ext; simp only [Fin.val_ofNat]; omega

theorem cmp_oeq (a b : EReal) : Scalar.cmpi .ne (Scalar.extui (Scalar.cmpf (F := Ideal) (φ := .f32) .oeq a b) : BitVec 32) 0#32 = 1#1 ↔ a = b := by
  have e : Scalar.cmpf (F := Ideal) (φ := .f32) .oeq a b = BitVec.ofBool (decide (a = b)) := rfl
  rw [e]
  by_cases h : a = b
  · simp only [h, decide_true, true_iff, iff_true]; rfl
  · simp only [h, decide_false, iff_false]; decide

theorem cmp_one (a b : EReal) : Scalar.cmpi .ne (Scalar.extui (Scalar.cmpf (F := Ideal) (φ := .f32) .one a b) : BitVec 32) 0#32 = 1#1 ↔ a ≠ b := by
  have e : Scalar.cmpf (F := Ideal) (φ := .f32) .one a b = BitVec.ofBool (decide (a ≠ b)) := rfl
  rw [e]
  by_cases h : a = b
  · simp only [h, ne_eq, not_true_eq_false, decide_false, iff_false]; decide
  · simp only [ne_eq, h, not_false_eq_true, decide_true, iff_true]; rfl

theorem pay224_apply (c0 c1 : FVec Ideal S1024x128 .fp8e4m3) (s : Elt Ideal .f32) (w : Vec Ideal S1x256x256 .fp8e4m3) (o : Vec Ideal S1024x256 .f32) (y : S1024x256.Idx) :
    k0_pay224 c0 c1 s w o y = o y + ((∑ x : Fin 128, (c0 (ix2 (y 0) x) : EReal) * w (ix3 (0 : Fin 1) (Fin.castLE (by decide) x : Fin 256) (y 1)))
      + (∑ x : Fin 128, (c1 (ix2 (y 0) x) : EReal) * w (ix3 (0 : Fin 1) (Fin.natAdd 128 x : Fin 256) (y 1)))) * s := by
  pointwise [k0_pay224]
  rfl

theorem pay225_apply (c0 c1 : FVec Ideal S1024x128 .fp8e4m3) (s0 s1 : Elt Ideal .f32) (w0 w1 : Vec Ideal S1x128x256 .fp8e4m3) (o : Vec Ideal S1024x256 .f32) (y : S1024x256.Idx) :
    k0_pay225 c0 c1 s0 s1 w0 w1 o y = o y + ((∑ x : Fin 128, (c0 (ix2 (y 0) x) : EReal) * w0 (ix3 (0 : Fin 1) x (y 1))) * s0
      + (∑ x : Fin 128, (c1 (ix2 (y 0) x) : EReal) * w1 (ix3 (0 : Fin 1) x (y 1))) * s1) := by
  pointwise [k0_pay225]

/-- A block of the values' codes, as read. -/
theorem val_read (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (n j : ℕ) (hj : j + n ≤ 8192) (off : Fin 3 → ℕ) (hoff : off = ![0, j, 0]) (inb) (x : Fin n) (d : Fin 256) :
    View.readAt (Elt Ideal) arg6.view (Rect.unit (s := S1x8192x256) off ![1, n, 256] inb).toLoadRect X6 (ix3 (0 : Fin 1) x d) = (inOf i arg3 arg4 arg5 arg6 X3 X4 X5 X6).val (j + x.val) d.val := by
  subst hoff
  have hx := x.isLt
  rw [View.readAt_eq_ld]
  show arg6.view.read (Elt Ideal) X6 _ = arg6.view.read (Elt Ideal) X6 _
  congr 1; funext a; apply Fin.ext
  fin_cases a
  · rfl
  · show j + 1 * x.val = (j + x.val) % 8192; rw [Nat.mod_eq_of_lt (by omega)]; omega
  · show 0 + 1 * d.val = d.val % 256; rw [Nat.mod_eq_of_lt d.isLt]; omega

section
variable (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (c : Dev nD) (harg3 : arg3.IsWhole) (harg4 : arg4.IsWhole) (harg5 : arg5.IsWhole) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)  (v1 : BitVec 32) (arg1 : BitVec 32) (v349 : FVec Ideal S1024x128 .f32) (X8 : BufTy.Contents (Elt Ideal) arg8.view.ty) (X10 : BufTy.Contents (Elt Ideal) arg10.view.ty)
  (k : Fin (k0_t3_loop i).trips) (mo : ℕ → EReal)
  (h8 : ∀ y : S17x1024x256.Idx, (y 0).val = k.val → arg8.view.read (Elt Ideal) X8 y = (inOf i arg3 arg4 arg5 arg6 X3 X4 X5 X6).score (y 1).val (256 * (tt i - 16 + k.val) + (y 2).val))
  (h10 : ∀ y : S1024x128.Idx, arg10.view.read (Elt Ideal) X10 y = mo (y 0).val)

include h8 h10

theorem v403_apply (y : S1024x128.Idx) : probsTrip.sl.v403 (F := Ideal) i arg8 arg10 X8 X10 k y = (inOf i arg3 arg4 arg5 arg6 X3 X4 X5 X6).prob mo (y 0).val (256 * (tt i - 16 + k.val) + (y 1).val) := by
  show Ideal.exp2 (probsTrip.sl.v401 (F := Ideal) i arg8 X8 k y - View.readAt (Elt Ideal) arg10.view (Rect.unit (s := S1024x128) ![0, 0] S1024x128.size _).toLoadRect X10 y) = _
  rw [readAt_whole128, h10]
  unfold probsTrip.sl.v401
  rw [scores_read arg8.view X8 k.val 0 (fun r c => (inOf i arg3 arg4 arg5 arg6 X3 X4 X5 X6).score r (256 * (tt i - 16 + k.val) + c)) h8 _ (k0_off77_cl i k), Nat.zero_add]
  rfl

theorem v408_apply (y : S1024x128.Idx) : probsTrip.sl.v408 (F := Ideal) i arg8 arg10 X8 X10 k y = (inOf i arg3 arg4 arg5 arg6 X3 X4 X5 X6).prob mo (y 0).val (256 * (tt i - 16 + k.val) + (128 + (y 1).val)) := by
  show Ideal.exp2 (probsTrip.sl.v406 (F := Ideal) i arg8 X8 k y - View.readAt (Elt Ideal) arg10.view (Rect.unit (s := S1024x128) ![0, 0] S1024x128.size _).toLoadRect X10 y) = _
  rw [readAt_whole128, h10]
  unfold probsTrip.sl.v406
  rw [scores_read arg8.view X8 k.val 128 (fun r c => (inOf i arg3 arg4 arg5 arg6 X3 X4 X5 X6).score r (256 * (tt i - 16 + k.val) + c)) h8 _ (k0_off78_cl i k)]
  rfl

theorem v419_apply (y : S1024x128.Idx) : probsTrip.sl.v419 (F := Ideal) i arg8 arg10 X8 X10 k y = clip ((inOf i arg3 arg4 arg5 arg6 X3 X4 X5 X6).prob mo (y 0).val ((256 * (tt i - 16 + k.val)) + (y 1).val)) := by
  have e : probsTrip.sl.v419 (F := Ideal) i arg8 arg10 X8 X10 k y = clip (probsTrip.sl.v403 (F := Ideal) i arg8 arg10 X8 X10 k y) := rfl
  rw [e, v403_apply i arg3 arg4 arg5 arg6 X3 X4 X5 X6 arg8 arg10 X8 X10 k mo h8 h10]

theorem v424_apply (y : S1024x128.Idx) : probsTrip.sl.v424 (F := Ideal) i arg8 arg10 X8 X10 k y = clip ((inOf i arg3 arg4 arg5 arg6 X3 X4 X5 X6).prob mo (y 0).val ((256 * (tt i - 16 + k.val)) + (128 + (y 1).val))) := by
  have e : probsTrip.sl.v424 (F := Ideal) i arg8 arg10 X8 X10 k y = clip (probsTrip.sl.v408 (F := Ideal) i arg8 arg10 X8 X10 k y) := rfl
  rw [e, v408_apply i arg3 arg4 arg5 arg6 X3 X4 X5 X6 arg8 arg10 X8 X10 k mo h8 h10]

/-- What a trip adds to the sums of probabilities. -/
theorem probsTrip_sum (f11 : BufTy.Contents (Elt Ideal) arg11.view.ty) (f12 : BufTy.Contents (Elt Ideal) arg12.view.ty) (y : S1024x128.Idx) :
    arg11.view.read (Elt Ideal) (probsTrip (F := Ideal) c i arg3 harg3 arg4 harg4 arg5 harg5 arg6 harg6 arg7 harg7 arg8 harg8 arg9 harg9 arg10 harg10 arg11 harg11 arg12 harg12 arg1 v1 v349 X3 X6 X8 X10 f11 f12 k).1 y
      = arg11.view.read (Elt Ideal) f11 y + (inOf i arg3 arg4 arg5 arg6 X3 X4 X5 X6).ladd mo (tt i - 16 + k.val) (y 0).val (y 1).val := by
  unfold probsTrip
  show arg11.view.read (Elt Ideal) (arg11.view.writes (Elt Ideal) f11 (probsTrip.sl.H11_1 (F := Ideal) i arg8 arg10 arg11 X8 X10 f11 k)) y = _
  unfold probsTrip.sl.H11_1
  rw [read_whole128]
  have e : probsTrip.sl.v414 (F := Ideal) i arg8 arg10 arg11 X8 X10 f11 k y
      = View.readAt (Elt Ideal) arg11.view (Rect.unit (s := S1024x128) ![0, 0] S1024x128.size inb_S1024x128_S1024x128_0_0).toLoadRect f11 y
        + (probsTrip.sl.v403 (F := Ideal) i arg8 arg10 X8 X10 k y + probsTrip.sl.v408 (F := Ideal) i arg8 arg10 X8 X10 k y) := by
    have e' : ∀ w : FVec Ideal S1024x128 .f32, shapeCast S1024x128 w shapeCasts_S1024x128_S1024x128 y = w y := fun w => by pointwise
    exact e' _
  rw [e, readAt_whole128, v403_apply i arg3 arg4 arg5 arg6 X3 X4 X5 X6 arg8 arg10 X8 X10 k mo h8 h10, v408_apply i arg3 arg4 arg5 arg6 X3 X4 X5 X6 arg8 arg10 X8 X10 k mo h8 h10]
  rfl

/-- What a trip adds to the weighted values. -/
theorem probsTrip_out (hvs : ∀ j, 0 ≤ (inOf i arg3 arg4 arg5 arg6 X3 X4 X5 X6).vs j ∧ (inOf i arg3 arg4 arg5 arg6 X3 X4 X5 X6).vs j ≠ ⊤) (f11 : BufTy.Contents (Elt Ideal) arg11.view.ty) (f12 : BufTy.Contents (Elt Ideal) arg12.view.ty) (y : S1024x256.Idx) :
    arg12.view.read (Elt Ideal) (probsTrip (F := Ideal) c i arg3 harg3 arg4 harg4 arg5 harg5 arg6 harg6 arg7 harg7 arg8 harg8 arg9 harg9 arg10 harg10 arg11 harg11 arg12 harg12 arg1 v1 v349 X3 X6 X8 X10 f11 f12 k).2.1 y
      = arg12.view.read (Elt Ideal) f12 y + (inOf i arg3 arg4 arg5 arg6 X3 X4 X5 X6).oadd mo (tt i - 16 + k.val) (y 0).val (y 1).val := by
  have hk : k.val < tt i + 1 - (tt i - 16) := (t3_trips i) ▸ k.isLt
  have ht := tt_lt i
  have hr : probsTrip.sl.r (F := Ideal) i arg3 X3 k = (inOf i arg3 arg4 arg5 arg6 X3 X4 X5 X6).vs (256 * (tt i - 16 + k.val)) :=
    vs_read i arg3 arg4 arg5 arg6 X3 X4 X5 X6 _ (tt i - 16 + k.val) 0 (by omega) (by omega) (by omega) _ (k0_off79_cl i k) _ _
  have hr1 : probsTrip.sl.r_1 (F := Ideal) i arg3 X3 k = (inOf i arg3 arg4 arg5 arg6 X3 X4 X5 X6).vs ((256 * (tt i - 16 + k.val)) + 128) :=
    vs_read i arg3 arg4 arg5 arg6 X3 X4 X5 X6 _ (tt i - 16 + k.val) 1 (by omega) (by omega) (by omega) _ (k0_off80_cl i k) _ _
  have c1 : probsTrip.sl.v436 (F := Ideal) i arg3 X3 k = 1#1 ↔ (inOf i arg3 arg4 arg5 arg6 X3 X4 X5 X6).vs (256 * (tt i - 16 + k.val)) = (inOf i arg3 arg4 arg5 arg6 X3 X4 X5 X6).vs ((256 * (tt i - 16 + k.val)) + 128) := by
    rw [← hr, ← hr1]; exact cmp_oeq _ _
  have c2 : probsTrip.sl.v439 (F := Ideal) i arg3 X3 k = 1#1 ↔ (inOf i arg3 arg4 arg5 arg6 X3 X4 X5 X6).vs (256 * (tt i - 16 + k.val)) ≠ (inOf i arg3 arg4 arg5 arg6 X3 X4 X5 X6).vs ((256 * (tt i - 16 + k.val)) + 128) := by
    rw [← hr, ← hr1]; exact cmp_one _ _
  have hy : ∀ (n : ℕ) (x : Fin n), (y 1) = (⟨(y 1).val, (y 1).isLt⟩ : Fin 256) := fun _ _ => rfl
  unfold probsTrip
  by_cases h : (inOf i arg3 arg4 arg5 arg6 X3 X4 X5 X6).vs (256 * (tt i - 16 + k.val)) = (inOf i arg3 arg4 arg5 arg6 X3 X4 X5 X6).vs ((256 * (tt i - 16 + k.val)) + 128)
  · simp only [dif_neg (fun h' => (c2.1 h') h), dif_pos (c1.2 h)]
    rw [read_whole256, pay224_apply, readAt_whole256, hr]
    congr 1
    unfold In.oadd
    rw [← h, ← EReal.right_distrib_of_nonneg_of_ne_top (hvs _).1 (hvs _).2]
    congr 1
    congr 1
    · refine Finset.sum_congr rfl fun x _ => ?_
      rw [v419_apply i arg3 arg4 arg5 arg6 X3 X4 X5 X6 arg8 arg10 X8 X10 k mo h8 h10]
      exact congrArg₂ _ rfl (val_read i arg3 arg4 arg5 arg6 X3 X4 X5 X6 256 (256 * (tt i - 16 + k.val)) (by omega) _ (k0_off81_cl i k) _ (Fin.castLE (by decide) x : Fin 256) (y 1))
    · refine Finset.sum_congr rfl fun x _ => ?_
      rw [v424_apply i arg3 arg4 arg5 arg6 X3 X4 X5 X6 arg8 arg10 X8 X10 k mo h8 h10, Nat.add_assoc]
      exact congrArg₂ _ rfl (val_read i arg3 arg4 arg5 arg6 X3 X4 X5 X6 256 (256 * (tt i - 16 + k.val)) (by omega) _ (k0_off81_cl i k) _ (Fin.natAdd 128 x : Fin 256) (y 1))
  · simp only [dif_pos (c2.2 h)]
    rw [read_whole256, pay225_apply, hr, hr1]
    unfold probsTrip.sl.v449
    rw [readAt_whole256]
    simp only [dif_neg (fun h' => h (c1.1 h'))]
    congr 1
    unfold In.oadd
    congr 1
    · congr 1
      refine Finset.sum_congr rfl fun x _ => ?_
      rw [v419_apply i arg3 arg4 arg5 arg6 X3 X4 X5 X6 arg8 arg10 X8 X10 k mo h8 h10]
      exact congrArg₂ _ rfl (val_read i arg3 arg4 arg5 arg6 X3 X4 X5 X6 128 (256 * (tt i - 16 + k.val)) (by omega) _ (k0_off82_cl i k) _ x (y 1))
    · congr 1
      refine Finset.sum_congr rfl fun x _ => ?_
      rw [v424_apply i arg3 arg4 arg5 arg6 X3 X4 X5 X6 arg8 arg10 X8 X10 k mo h8 h10, Nat.add_assoc]
      exact congrArg₂ _ rfl ((val_read i arg3 arg4 arg5 arg6 X3 X4 X5 X6 128 ((256 * (tt i - 16 + k.val)) + 128) (by omega) _ (k0_off83_cl i k) _ x (y 1)).trans (by rw [Nat.add_assoc]))

end

end Cert.Proof.AttnIdeal

end
-- ==== Proof.BodyValue.lean ====
/- What one step of the grid leaves in its block of the output. -/
module

public import proofs.«01_k».proof.Proof.ScoresValue
public import proofs.«01_k».proof.Proof.ProbsValue

@[expose] public section

set_option maxRecDepth 65536
set_option maxHeartbeats 4000000

noncomputable section

namespace Cert.Proof.AttnIdeal

open Cert.AttnIdeal Cert.AttnIdeal.Gen
open Idealize.ShloMosaic Idealize.ShloMosaic.TcCoe Idealize.ShloMosaic.Tactic

namespace In
variable (I : In)

/-- Row `r`'s greatest score. -/
def mx (r : ℕ) : EReal := Finset.univ.fold max (Ideal.ofBits .f32 0xFF800000#32) fun l : Fin 128 => I.maxes (I.t - 16) (I.t + 1) r l.val
/-- What the scores of a row are taken relative to: its greatest less 8. -/
def mo (r : ℕ) : EReal := I.mx r - Ideal.ofBits .f32 0x41000000#32
/-- Lane `l` of the sum of the probabilities of row `r`, of the pairs from `lo` below `hi`. -/
def lsum (lo hi r l : ℕ) : EReal := ∑ p ∈ Finset.Ico lo hi, I.ladd I.mo p r l
/-- The weighted values of row `r`, of the pairs from `lo` below `hi`. -/
def osum (lo hi r d : ℕ) : EReal := ∑ p ∈ Finset.Ico lo hi, I.oadd I.mo p r d
/-- The step's result in row `r` and dimension `d`. -/
def out (r d : ℕ) : EReal :=
  Ideal.div (I.osum (I.t - 16) (I.t + 1) r d * Ideal.ofBits .f32 0x3B800000#32) ((∑ l : Fin 128, I.lsum (I.t - 16) (I.t + 1) r l.val) * Ideal.ofBits .f32 0x3B800000#32)
end In

theorem pay220_apply (v : Vec Ideal S1024x128 .f32) (y : S1024x128.Idx) :
    k0_pay220 (F := Ideal) v y = Finset.univ.fold max (Ideal.ofBits .f32 0xFF800000#32) (fun x : Fin 128 => (v (ix2 (y 0) x) : EReal)) - Ideal.ofBits .f32 0x41000000#32 := by
  pointwise [k0_pay220]

theorem pay222_apply (y : S1024x128.Idx) : k0_pay222 (F := Ideal) y = (0 : EReal) := by
  pointwise [k0_pay222]

theorem pay223_apply (y : S1024x256.Idx) : k0_pay223 (F := Ideal) y = (0 : EReal) := by
  pointwise [k0_pay223]

theorem pay228_apply (v : Vec Ideal S1024x128 .f32) (o : Vec Ideal S1024x256 .f32) (y : S1024x256.Idx) :
    k0_pay228 (F := Ideal) v o y = Ideal.div ((o y : EReal) * Ideal.ofBits .f32 0x3B800000#32) ((∑ x : Fin 128, (v (ix2 (y 0) x) : EReal)) * Ideal.ofBits .f32 0x3B800000#32) := by
  pointwise [k0_pay228]

/-- Four heads' pieces make up the block. -/
theorem read_heads {κ' : Kind} {sp : Space} (v : View sig κ' sp S1x256x1024 .bf16) (f : v.ty.Contents (Elt Ideal)) (w3 w2 w1 w0 : S1x256x256.Idx → EReal) (O : ℕ → ℕ → EReal)
    (h3 : ∀ x : S1x256x256.Idx, w3 x = O (768 + (x 1).val) (x 2).val) (h2 : ∀ x : S1x256x256.Idx, w2 x = O (512 + (x 1).val) (x 2).val)
    (h1 : ∀ x : S1x256x256.Idx, w1 x = O (256 + (x 1).val) (x 2).val) (h0 : ∀ x : S1x256x256.Idx, w0 x = O (0 + (x 1).val) (x 2).val) (y : S1x256x1024.Idx) :
    v.read (Elt Ideal) (v.writes (Elt Ideal) f [⟨Rect.unit ![0, 0, 768] ![1, 256, 256] inb_S1x256x1024_S1x256x256_0_0_768, w3⟩, ⟨Rect.unit ![0, 0, 512] ![1, 256, 256] inb_S1x256x1024_S1x256x256_0_0_512, w2⟩,
      ⟨Rect.unit ![0, 0, 256] ![1, 256, 256] inb_S1x256x1024_S1x256x256_0_0_256, w1⟩, ⟨Rect.unit ![0, 0, 0] S1x256x256.size inb_S1x256x1024_S1x256x256_0_0_0, w0⟩]) y
      = O (256 * ((y 2).val / 256) + (y 1).val) ((y 2).val % 256) := by
  have piece : ∀ (g : v.ty.Contents (Elt Ideal)) (b : ℕ) (hb : b < 4) (off : Fin 3 → ℕ) (ho : off = ![0, 0, 256 * b]) (inb) (w : S1x256x256.Idx → EReal) (hw : ∀ x : S1x256x256.Idx, w x = O (256 * b + (x 1).val) (x 2).val) (L : List (View.Piece (Elt Ideal) S1x256x1024 .bf16)),
      v.read (Elt Ideal) (v.writes (Elt Ideal) g (⟨Rect.unit off ![1, 256, 256] inb, w⟩ :: L)) y
        = if (y 2).val / 256 = b then O (256 * ((y 2).val / 256) + (y 1).val) ((y 2).val % 256) else v.read (Elt Ideal) (v.writes (Elt Ideal) g L) y := fun g b hb off ho inb w hw L => by
    subst ho
    have hy0 : (y 0).val = 0 := by have h : (y 0).val < 1 := (y 0).isLt; omega
    have hm : (y 2).val % 256 < 256 := Nat.mod_lt _ (by decide)
    by_cases h : (y 2).val / 256 = b
    · rw [if_pos h]
      have hx : ∀ a : Fin 3, (y a).val = (Rect.unit (s := S1x256x1024) ![0, 0, 256 * b] ![1, 256, 256] inb).off a + (Rect.unit (s := S1x256x1024) ![0, 0, 256 * b] ![1, 256, 256] inb).stride a * ((ix3 (0 : Fin 1) (y 1) (⟨(y 2).val % 256, hm⟩ : Fin 256) : S1x256x256.Idx) a).val := fun a => by
        fin_cases a
        · show (y 0).val = 0 + 1 * 0; omega
        · show (y 1).val = 0 + 1 * (y 1).val; omega
        · show (y 2).val = 256 * b + 1 * ((y 2).val % 256); omega
      rw [View.read_writes_cons_hit_of_coords v g (Rect.unit (s := S1x256x1024) ![0, 0, 256 * b] ![1, 256, 256] inb) w L _ y hx, hw, h]
      rfl
    · rw [if_neg h]
      exact View.read_writes_cons_miss_of_axis v g _ L y (2 : Fin 3) (256 * b) 256 rfl rfl rfl (by omega)
  rw [piece f 3 (by omega) _ rfl _ w3 h3, piece f 2 (by omega) _ rfl _ w2 h2, piece f 1 (by omega) _ rfl _ w1 h1, piece f 0 (by omega) _ rfl _ w0 h0]
  have : (y 2).val < 1024 := (y 2).isLt
  split; · rfl
  split; · rfl
  split; · rfl
  rw [if_pos (by omega)]

section
variable (i : grid0.Coords) (arg3 : Memref sig .tc .smem S1x64x16 .f32) (arg4 : Memref sig .tc .vmem S1x256x1024 .fp8e4m3) (arg5 : Memref sig .tc .vmem S1x8192x256 .fp8e4m3) (arg6 : Memref sig .tc .vmem S1x8192x256 .fp8e4m3) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (c : Dev nD) (harg3 : arg3.IsWhole) (harg4 : arg4.IsWhole) (harg5 : arg5.IsWhole) (harg6 : arg6.IsWhole) (arg7 : Memref sig .tc .vmem S1x256x1024 .bf16) (harg7 : arg7.IsWhole) (arg8 : Memref sig .tc .vmem S17x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x256 .f32) (harg12 : arg12.IsWhole)

/-- The contents the body ends with, by the contents of its two big scratches before the diagonal pair. -/
theorem run_parts (f8 : BufTy.Contents (Elt Ideal) arg8.view.ty) (f9 : BufTy.Contents (Elt Ideal) arg9.view.ty) :
    ∃ (M8 : BufTy.Contents (Elt Ideal) arg8.view.ty) (M9 : BufTy.Contents (Elt Ideal) arg9.view.ty),
    Scored (inOf i arg3 arg4 arg5 arg6 X3 X4 X5 X6) (tt i - 16) (tt i) (arg8.view.read (Elt Ideal) M8) (arg9.view.read (Elt Ideal) M9) ∧
    (kernelRun.sl.v43 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![0, 0] S128x128.size inb_S1024x128_S128x128_0_0).toLoadRect M9 ∧
    kernelRun.sl.v77 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![128, 0] S128x128.size inb_S1024x128_S128x128_128_0).toLoadRect M9 ∧
    kernelRun.sl.v120 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![256, 0] S128x128.size inb_S1024x128_S128x128_256_0).toLoadRect M9 ∧
    kernelRun.sl.v154 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![384, 0] S128x128.size inb_S1024x128_S128x128_384_0).toLoadRect M9 ∧
    kernelRun.sl.v197 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![512, 0] S128x128.size inb_S1024x128_S128x128_512_0).toLoadRect M9 ∧
    kernelRun.sl.v231 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![640, 0] S128x128.size inb_S1024x128_S128x128_640_0).toLoadRect M9 ∧
    kernelRun.sl.v274 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![768, 0] S128x128.size inb_S1024x128_S128x128_768_0).toLoadRect M9 ∧
    kernelRun.sl.v308 (F := Ideal) c i arg3 harg3 arg4 harg4 arg5 harg5 arg6 harg6 arg7 harg7 arg8 harg8 arg9 harg9 arg10 harg10 arg11 harg11 arg12 harg12 X3 X4 X5 f8 f9 = View.readAt (Elt Ideal) arg9.view (Rect.unit (s := S1024x128) ![896, 0] S128x128.size inb_S1024x128_S128x128_896_0).toLoadRect M9) ∧
    (kernelRun.sl.v367 (F := Ideal) c i arg3 harg3 arg4 harg4 arg5 harg5 arg6 harg6 arg7 harg7 arg8 harg8 arg9 harg9 arg10 harg10 arg11 harg11 arg12 harg12 X3 X4 X5 X6 f8 f9 = View.readAt (Elt Ideal) arg11.view (Rect.unit ![0, 0] S1024x128.size inb_S1024x128_S1024x128_0_0).toLoadRect (probs11 (F := Ideal) c i arg3 harg3 arg4 harg4 arg5 harg5 arg6 harg6 arg7 harg7 arg8 harg8 arg9 harg9 arg10 harg10 arg11 harg11 arg12 harg12 (BitVec.ofNat 32 ↑(i 1)) (kernelRun.sl.v1 i) (kernelRun.sl.r_46 (F := Ideal) c i arg3 harg3 arg4 harg4 arg5 harg5 arg6 harg6 arg7 harg7 arg8 harg8 arg9 harg9 arg10 harg10 arg11 harg11 arg12 harg12 X3 X4 X5 f8 f9) X3 X6
      (arg8.view.writes (Elt Ideal) M8 (kernelRun.sl.H8_16 (F := Ideal) i arg3 arg4 arg5 X3 X4 X5)) (arg10.view.writes (Elt Ideal) arg10.view.junk (kernelRun.sl.H10_1 (F := Ideal) c i arg3 harg3 arg4 harg4 arg5 harg5 arg6 harg6 arg7 harg7 arg8 harg8 arg9 harg9 arg10 harg10 arg11 harg11 arg12 harg12 X3 X4 X5 f8 f9))
      (arg11.view.writes (Elt Ideal) arg11.view.junk [⟨Rect.unit ![0, 0] S1024x128.size inb_S1024x128_S1024x128_0_0, k0_pay222 (F := Ideal)⟩]) (arg12.view.writes (Elt Ideal) arg12.view.junk [⟨Rect.unit ![0, 0] S1024x256.size inb_S1024x256_S1024x256_0_0, k0_pay223 (F := Ideal)⟩]) (k0_t3_loop i).trips)) ∧
    (kernelRun.sl.v372 (F := Ideal) c i arg3 harg3 arg4 harg4 arg5 harg5 arg6 harg6 arg7 harg7 arg8 harg8 arg9 harg9 arg10 harg10 arg11 harg11 arg12 harg12 X3 X4 X5 X6 f8 f9 = View.readAt (Elt Ideal) arg12.view (Rect.unit ![0, 0] S1024x256.size inb_S1024x256_S1024x256_0_0).toLoadRect (probs12 (F := Ideal) c i arg3 harg3 arg4 harg4 arg5 harg5 arg6 harg6 arg7 harg7 arg8 harg8 arg9 harg9 arg10 harg10 arg11 harg11 arg12 harg12 (BitVec.ofNat 32 ↑(i 1)) (kernelRun.sl.v1 i) (kernelRun.sl.r_46 (F := Ideal) c i arg3 harg3 arg4 harg4 arg5 harg5 arg6 harg6 arg7 harg7 arg8 harg8 arg9 harg9 arg10 harg10 arg11 harg11 arg12 harg12 X3 X4 X5 f8 f9) X3 X6
      (arg8.view.writes (Elt Ideal) M8 (kernelRun.sl.H8_16 (F := Ideal) i arg3 arg4 arg5 X3 X4 X5)) (arg10.view.writes (Elt Ideal) arg10.view.junk (kernelRun.sl.H10_1 (F := Ideal) c i arg3 harg3 arg4 harg4 arg5 harg5 arg6 harg6 arg7 harg7 arg8 harg8 arg9 harg9 arg10 harg10 arg11 harg11 arg12 harg12 X3 X4 X5 f8 f9))
      (arg11.view.writes (Elt Ideal) arg11.view.junk [⟨Rect.unit ![0, 0] S1024x128.size inb_S1024x128_S1024x128_0_0, k0_pay222 (F := Ideal)⟩]) (arg12.view.writes (Elt Ideal) arg12.view.junk [⟨Rect.unit ![0, 0] S1024x256.size inb_S1024x256_S1024x256_0_0, k0_pay223 (F := Ideal)⟩]) (k0_t3_loop i).trips)) := by
  refine ⟨_, _, ?_, ⟨rfl, rfl, rfl, rfl, rfl, rfl, rfl, rfl⟩, rfl, rfl⟩
  have e : tt i = tt i - 15 + (k0_t1_loop i).trips := by rw [t1_trips]; omega
  have h := mid_scored i arg3 arg4 arg5 arg6 X3 X4 X5 X6 c harg3 harg4 harg5 harg6 arg7 harg7 arg8 harg8 arg9 harg9 arg10 harg10 arg11 harg11 arg12 harg12 (BitVec.ofNat 32 ↑(i 1)) (BitVec.ofNat 32 ↑(i 2)) (kernelRun.sl.v1 i) (kernelRun.sl.v22 i) _ _
    (first_scored i arg3 arg4 arg5 arg6 X3 X4 X5 X6 arg8 arg9 f8 f9 (fun _ => rfl) (fun _ => rfl) (fun _ => rfl) (fun _ => rfl)) _ le_rfl
  rw [← e] at h
  exact h

/-- The two sums after `n` trips. -/
theorem probs_sums (arg1 : BitVec 32) (v1 : BitVec 32) (v349 : FVec Ideal S1024x128 .f32) (X8 : BufTy.Contents (Elt Ideal) arg8.view.ty) (X10 : BufTy.Contents (Elt Ideal) arg10.view.ty)
    (h8 : ∀ k, k < (k0_t3_loop i).trips → ∀ y : S17x1024x256.Idx, (y 0).val = k → arg8.view.read (Elt Ideal) X8 y = (inOf i arg3 arg4 arg5 arg6 X3 X4 X5 X6).score (y 1).val (256 * (tt i - 16 + k) + (y 2).val))
    (h10 : ∀ y : S1024x128.Idx, arg10.view.read (Elt Ideal) X10 y = (inOf i arg3 arg4 arg5 arg6 X3 X4 X5 X6).mo (y 0).val)
    (hvs : ∀ j, 0 ≤ (inOf i arg3 arg4 arg5 arg6 X3 X4 X5 X6).vs j ∧ (inOf i arg3 arg4 arg5 arg6 X3 X4 X5 X6).vs j ≠ ⊤)
    (G11 : BufTy.Contents (Elt Ideal) arg11.view.ty) (G12 : BufTy.Contents (Elt Ideal) arg12.view.ty) (h11 : ∀ y, arg11.view.read (Elt Ideal) G11 y = (0 : EReal)) (h12 : ∀ y, arg12.view.read (Elt Ideal) G12 y = (0 : EReal))
    (n : ℕ) (hn : n ≤ (k0_t3_loop i).trips) :
    (∀ y : S1024x128.Idx, arg11.view.read (Elt Ideal) (probsAt (F := Ideal) c i arg3 harg3 arg4 harg4 arg5 harg5 arg6 harg6 arg7 harg7 arg8 harg8 arg9 harg9 arg10 harg10 arg11 harg11 arg12 harg12 arg1 v1 v349 X3 X6 X8 X10 G11 G12 n).1 y = (inOf i arg3 arg4 arg5 arg6 X3 X4 X5 X6).lsum (tt i - 16) (tt i - 16 + n) (y 0).val (y 1).val) ∧
    (∀ y : S1024x256.Idx, arg12.view.read (Elt Ideal) (probsAt (F := Ideal) c i arg3 harg3 arg4 harg4 arg5 harg5 arg6 harg6 arg7 harg7 arg8 harg8 arg9 harg9 arg10 harg10 arg11 harg11 arg12 harg12 arg1 v1 v349 X3 X6 X8 X10 G11 G12 n).2 y = (inOf i arg3 arg4 arg5 arg6 X3 X4 X5 X6).osum (tt i - 16) (tt i - 16 + n) (y 0).val (y 1).val) := by
  induction n with
  | zero =>
    refine ⟨fun y => (h11 y).trans ?_, fun y => (h12 y).trans ?_⟩
    · unfold In.lsum; rw [Nat.add_zero, Finset.Ico_self, Finset.sum_empty]
    · unfold In.osum; rw [Nat.add_zero, Finset.Ico_self, Finset.sum_empty]
  | succ n ih =>
    have ih' := ih (Nat.le_of_succ_le hn)
    rw [probsAt_succ (F := Ideal) c i arg3 harg3 arg4 harg4 arg5 harg5 arg6 harg6 arg7 harg7 arg8 harg8 arg9 harg9 arg10 harg10 arg11 harg11 arg12 harg12 arg1 v1 v349 X3 X6 X8 X10 G11 G12 ⟨n, hn⟩]
    refine ⟨fun y => ?_, fun y => ?_⟩
    · refine (probsTrip_sum i arg3 arg4 arg5 arg6 X3 X4 X5 X6 c harg3 harg4 harg5 harg6 arg7 harg7 arg8 harg8 arg9 harg9 arg10 harg10 arg11 harg11 arg12 harg12 v1 arg1 v349 X8 X10 ⟨n, hn⟩ (inOf i arg3 arg4 arg5 arg6 X3 X4 X5 X6).mo (h8 n hn) h10 _ _ y).trans ?_
      rw [ih'.1 y]
      unfold In.lsum
      rw [← Nat.add_assoc, Finset.sum_Ico_succ_top (by omega)]
    · refine (probsTrip_out i arg3 arg4 arg5 arg6 X3 X4 X5 X6 c harg3 harg4 harg5 harg6 arg7 harg7 arg8 harg8 arg9 harg9 arg10 harg10 arg11 harg11 arg12 harg12 v1 arg1 v349 X8 X10 ⟨n, hn⟩ (inOf i arg3 arg4 arg5 arg6 X3 X4 X5 X6).mo (h8 n hn) h10 hvs _ _ y).trans ?_
      rw [ih'.2 y]
      unfold In.osum
      rw [← Nat.add_assoc, Finset.sum_Ico_succ_top (by omega)]

/-- The row's quotient, by the body's two sums. -/
theorem quotient_apply (hvs : ∀ j, 0 ≤ (inOf i arg3 arg4 arg5 arg6 X3 X4 X5 X6).vs j ∧ (inOf i arg3 arg4 arg5 arg6 X3 X4 X5 X6).vs j ≠ ⊤) (f8 : BufTy.Contents (Elt Ideal) arg8.view.ty) (f9 : BufTy.Contents (Elt Ideal) arg9.view.ty) (y : S1024x256.Idx) :
    k0_pay228 (F := Ideal) (kernelRun.sl.v367 (F := Ideal) c i arg3 harg3 arg4 harg4 arg5 harg5 arg6 harg6 arg7 harg7 arg8 harg8 arg9 harg9 arg10 harg10 arg11 harg11 arg12 harg12 X3 X4 X5 X6 f8 f9) (kernelRun.sl.v372 (F := Ideal) c i arg3 harg3 arg4 harg4 arg5 harg5 arg6 harg6 arg7 harg7 arg8 harg8 arg9 harg9 arg10 harg10 arg11 harg11 arg12 harg12 X3 X4 X5 X6 f8 f9) y = (inOf i arg3 arg4 arg5 arg6 X3 X4 X5 X6).out (y 0).val (y 1).val := by
  obtain ⟨M8, M9, hM, ⟨e0, e1, e2, e3, e4, e5, e6, e7⟩, e367, e372⟩ := run_parts i arg3 arg4 arg5 arg6 X3 X4 X5 X6 c harg3 harg4 harg5 harg6 arg7 harg7 arg8 harg8 arg9 harg9 arg10 harg10 arg11 harg11 arg12 harg12 f8 f9
  have h9 := diag_rows i arg3 arg4 arg5 arg6 X3 X4 X5 X6 c harg3 harg4 harg5 harg6 arg7 harg7 arg8 harg8 arg9 harg9 arg10 harg10 arg11 harg11 arg12 harg12 f8 f9 _ M9 hM.mx e0 e1 e2 e3 e4 e5 e6 e7
  have hD : Scored (inOf i arg3 arg4 arg5 arg6 X3 X4 X5 X6) (tt i - 16) (tt i + 1) (arg8.view.read (Elt Ideal) (arg8.view.writes (Elt Ideal) M8 (kernelRun.sl.H8_16 (F := Ideal) i arg3 arg4 arg5 X3 X4 X5)))
      (arg9.view.read (Elt Ideal) (arg9.view.writes (Elt Ideal) arg9.view.junk (kernelRun.sl.H9_8_1 (F := Ideal) c i arg3 harg3 arg4 harg4 arg5 harg5 arg6 harg6 arg7 harg7 arg8 harg8 arg9 harg9 arg10 harg10 arg11 harg11 arg12 harg12 X3 X4 X5 f8 f9))) :=
    Scored.next arg8.view M8 hM (by omega) (diag_tiles i arg3 arg4 arg5 arg6 X3 X4 X5 X6) (h9 _)
  have h343 : ∀ y : S1024x128.Idx, kernelRun.sl.v343 (F := Ideal) c i arg3 harg3 arg4 harg4 arg5 harg5 arg6 harg6 arg7 harg7 arg8 harg8 arg9 harg9 arg10 harg10 arg11 harg11 arg12 harg12 X3 X4 X5 f8 f9 y = (inOf i arg3 arg4 arg5 arg6 X3 X4 X5 X6).maxes (tt i - 16) (tt i + 1) (y 0).val (y 1).val := fun y => by
    rw [← hD.mx y]
    exact readAt_whole128 arg9.view (arg9.view.writes (Elt Ideal) arg9.view.junk (kernelRun.sl.H9_8_1 (F := Ideal) c i arg3 harg3 arg4 harg4 arg5 harg5 arg6 harg6 arg7 harg7 arg8 harg8 arg9 harg9 arg10 harg10 arg11 harg11 arg12 harg12 X3 X4 X5 f8 f9)) _ y
  have h46 : ∀ y : S1024x128.Idx, kernelRun.sl.r_46 (F := Ideal) c i arg3 harg3 arg4 harg4 arg5 harg5 arg6 harg6 arg7 harg7 arg8 harg8 arg9 harg9 arg10 harg10 arg11 harg11 arg12 harg12 X3 X4 X5 f8 f9 y = (inOf i arg3 arg4 arg5 arg6 X3 X4 X5 X6).mo (y 0).val := fun y => by
    unfold kernelRun.sl.r_46
    rw [pay220_apply]
    simp only [h343]
    rfl
  have h10 : ∀ y : S1024x128.Idx, arg10.view.read (Elt Ideal) (arg10.view.writes (Elt Ideal) arg10.view.junk (kernelRun.sl.H10_1 (F := Ideal) c i arg3 harg3 arg4 harg4 arg5 harg5 arg6 harg6 arg7 harg7 arg8 harg8 arg9 harg9 arg10 harg10 arg11 harg11 arg12 harg12 X3 X4 X5 f8 f9)) y = (inOf i arg3 arg4 arg5 arg6 X3 X4 X5 X6).mo (y 0).val := fun y => by
    unfold kernelRun.sl.H10_1
    rw [read_whole128, ← h46 y]
    have e' : ∀ w : FVec Ideal S1024x128 .f32, k0_pay221 w y = w y := fun w => by pointwise [k0_pay221]
    exact e' _
  have hs := probs_sums i arg3 arg4 arg5 arg6 X3 X4 X5 X6 c harg3 harg4 harg5 harg6 arg7 harg7 arg8 harg8 arg9 harg9 arg10 harg10 arg11 harg11 arg12 harg12 (BitVec.ofNat 32 ↑(i 1)) (kernelRun.sl.v1 i) (kernelRun.sl.r_46 (F := Ideal) c i arg3 harg3 arg4 harg4 arg5 harg5 arg6 harg6 arg7 harg7 arg8 harg8 arg9 harg9 arg10 harg10 arg11 harg11 arg12 harg12 X3 X4 X5 f8 f9) _ _
    (fun k hk y hy => hD.sc (tt i - 16 + k) (by omega) (by rw [t3_trips] at hk; omega) y (by omega)) h10 hvs
    (arg11.view.writes (Elt Ideal) arg11.view.junk [⟨Rect.unit ![0, 0] S1024x128.size inb_S1024x128_S1024x128_0_0, k0_pay222 (F := Ideal)⟩]) (arg12.view.writes (Elt Ideal) arg12.view.junk [⟨Rect.unit ![0, 0] S1024x256.size inb_S1024x256_S1024x256_0_0, k0_pay223 (F := Ideal)⟩])
    (fun y => (read_whole128 _ _ _ _ y).trans (pay222_apply y)) (fun y => (read_whole256 _ _ _ _ y).trans (pay223_apply y)) _ le_rfl
  have et : tt i - 16 + (k0_t3_loop i).trips = tt i + 1 := by rw [t3_trips]; omega
  rw [et] at hs
  rw [pay228_apply, e367, e372, readAt_whole256, probs12_eq, hs.2]
  unfold In.out
  congr 2
  refine Finset.sum_congr rfl fun x _ => ?_
  rw [readAt_whole128, probs11_eq, hs.1]
  rfl

/-- The block of the output the body leaves. -/
theorem block_apply (hvs : ∀ j, 0 ≤ (inOf i arg3 arg4 arg5 arg6 X3 X4 X5 X6).vs j ∧ (inOf i arg3 arg4 arg5 arg6 X3 X4 X5 X6).vs j ≠ ⊤) (f7 : BufTy.Contents (Elt Ideal) arg7.view.ty) (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) (f12 : BufTy.Contents (Elt Ideal) arg12.view.ty) (y : S1x256x1024.Idx) :
    arg7.view.read (Elt Ideal) (kernelRun (F := Ideal) c i arg3 harg3 arg4 harg4 arg5 harg5 arg6 harg6 arg7 harg7 arg8 harg8 arg9 harg9 arg10 harg10 arg11 harg11 arg12 harg12 X3 X4 X5 X6 f7 f8 f9 f10 f11 f12).1 y = (inOf i arg3 arg4 arg5 arg6 X3 X4 X5 X6).out (256 * ((y 2).val / 256) + (y 1).val) ((y 2).val % 256) := by
  have hq := quotient_apply i arg3 arg4 arg5 arg6 X3 X4 X5 X6 c harg3 harg4 harg5 harg6 arg7 harg7 arg8 harg8 arg9 harg9 arg10 harg10 arg11 harg11 arg12 harg12 hvs f8 f9
  have hy0 : (y 0).val = 0 := by have h : (y 0).val < 1 := (y 0).isLt; omega
  have hy1 : (y 1).val < 256 := (y 1).isLt
  have hy2 : (y 2).val < 1024 := (y 2).isLt
  have e47 : kernelRun.sl.r_47 (F := Ideal) c i arg3 harg3 arg4 harg4 arg5 harg5 arg6 harg6 arg7 harg7 arg8 harg8 arg9 harg9 arg10 harg10 arg11 harg11 arg12 harg12 X3 X4 X5 X6 f8 f9 = k0_pay228 (F := Ideal) (kernelRun.sl.v367 (F := Ideal) c i arg3 harg3 arg4 harg4 arg5 harg5 arg6 harg6 arg7 harg7 arg8 harg8 arg9 harg9 arg10 harg10 arg11 harg11 arg12 harg12 X3 X4 X5 X6 f8 f9) (kernelRun.sl.v372 (F := Ideal) c i arg3 harg3 arg4 harg4 arg5 harg5 arg6 harg6 arg7 harg7 arg8 harg8 arg9 harg9 arg10 harg10 arg11 harg11 arg12 harg12 X3 X4 X5 X6 f8 f9) := rfl
  have p0 : ∀ (v : Vec Ideal S1024x128 .f32) (o : Vec Ideal S1024x256 .f32) (x : S1x256x256.Idx), k0_pay229 (F := Ideal) v o x = k0_pay228 (F := Ideal) v o (ix2 ⟨(x 1).val, Nat.lt_of_lt_of_le (x 1).isLt (by decide)⟩ (x 2)) := fun v o x => by
    unfold k0_pay229; generalize k0_pay228 (F := Ideal) v o = w; pointwise
  have p1 : ∀ (o : FVec Ideal S1024x256 .f32) (x : S1x256x256.Idx), k0_pay1 (F := Ideal) o x = o (ix2 ⟨256 + (x 1).val, Nat.lt_of_lt_of_le (Nat.add_lt_add_left (x 1).isLt 256) (by decide)⟩ (x 2)) := fun o x => by pointwise [k0_pay1]
  have p2 : ∀ (o : FVec Ideal S1024x256 .f32) (x : S1x256x256.Idx), k0_pay2 (F := Ideal) o x = o (ix2 ⟨512 + (x 1).val, Nat.lt_of_lt_of_le (Nat.add_lt_add_left (x 1).isLt 512) (by decide)⟩ (x 2)) := fun o x => by pointwise [k0_pay2]
  have p3 : ∀ (o : FVec Ideal S1024x256 .f32) (x : S1x256x256.Idx), k0_pay3 (F := Ideal) o x = o (ix2 ⟨768 + (x 1).val, Nat.lt_of_lt_of_le (Nat.add_lt_add_left (x 1).isLt 768) (by decide)⟩ (x 2)) := fun o x => by pointwise [k0_pay3]
  unfold kernelRun
  refine (read_heads arg7.view f7 _ _ _ _ (fun r d => (inOf i arg3 arg4 arg5 arg6 X3 X4 X5 X6).out r d) (fun x => ?_) (fun x => ?_) (fun x => ?_) (fun x => ?_) y).trans rfl
  · rw [p3, e47]; exact hq _
  · rw [p2, e47]; exact hq _
  · rw [p1, e47]; exact hq _
  · rw [p0]; exact (hq _).trans (by rw [Nat.zero_add]; rfl)

end

end Cert.Proof.AttnIdeal

end
-- ==== Proof.Value.lean ====
/- `AttnIdeal`: every execution of the whole program terminates, leaves the argument arrays as they were and the output array at
   one function of them. -/
module

public import proofs.«01_k».proof.Proof.AttnIdealKernel
public import proofs.«01_k».proof.Proof.BodyValue
public import proofs.«01_k».proof.Proof.Gen.AttnIdeal.Points
public import Idealize.ShloMosaic.Lib.Pipeline.ValueKit

@[expose] public section

set_option maxRecDepth 65536
set_option maxHeartbeats 8000000

noncomputable section

namespace Cert.Proof.AttnIdeal.Value

open Idealize.ShloMosaic.Pipeline (Dat Cfg Window BodyObligation cellOf)
open Cert.Proof.AttnIdeal Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the frame: points-tos alone. -/
local notation "𝕄" => MT nD τ sig Unit (Elt Ideal) ℕ (UR sig nD τ) ℕ

/-- The scale of block `j` of the values. -/
def vscale (a0 : Vec Ideal S8x64x16 .f32) (b : Fin 8) (j : Fin 64) : EReal := a0 (ix3 b j (9 : Fin 16))
/-- What the step of batch `b`, tile `t` and group `g` computes with, by the arguments. -/
def argIn (a0 : Vec Ideal S8x64x16 .f32) (a1 : Vec Ideal S8x8192x2048 .fp8e4m3) (a2 a3 : Vec Ideal S8x8192x256 .fp8e4m3) (b : Fin 8) (t g : ℕ) : In :=
  ⟨t, g, fun x => a0 (ix3 b (x 1) (x 2)), fun x => a1 (ix3 b (Fin.ofNat 8192 (256 * t + (x 1).val)) (Fin.ofNat 2048 (1024 * g + (x 2).val))), fun x => a2 (ix3 b (x 1) (x 2)), fun x => a3 (ix3 b (x 1) (x 2))⟩
/-- The output as one function of the arguments: each element by the grid step that computes it. -/
def GY (a0 : Vec Ideal S8x64x16 .f32) (a1 : Vec Ideal S8x8192x2048 .fp8e4m3) (a2 a3 : Vec Ideal S8x8192x256 .fp8e4m3) : Vec Ideal S8x8192x2048 .bf16 :=
  fun x => (argIn a0 a1 a2 a3 (x 0) ((x 1).val / 256) ((x 2).val / 1024)).out (256 * ((x 2).val % 1024 / 256) + (x 1).val % 256) ((x 2).val % 1024 % 256)

variable (m : (ℓ : Loc nD τ sig) → Buf (Elt Ideal) ℓ) (ρ : Dev nD → PrngReg)

/-- The step's blocks at point `t`. -/
abbrev inAt (c : Dev nD) (t : Fin cfg0.N) : In := ⟨tt (grid0.coords t), (grid0.coords t 2).val, iblk m c 0 t, iblk m c 1 t, iblk m c 2 t, iblk m c 3 t⟩
/-- What the body leaves in its block of the output at point `t`. -/
def out4 (c : Dev nD) (t : Fin cfg0.N) : Vec Ideal S1x256x1024 .bf16 := fun y => (inAt m c t).out (256 * ((y 2).val / 256) + (y 1).val) ((y 2).val % 256)

/-- The proof data on core `c`: the arrays as the region finds them; each input's block left as it is found; the output's block as `out4` says;
    the scratch held at something. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body leaves `out4`. -/
theorem leaves (hvs : ∀ c t j, 0 ≤ (inAt m c t).vs j ∧ (inAt m c t).vs j ≠ ⊤) (c : Dev nD) (t : Fin cfg0.N) arg3 harg3 arg4 harg4 arg5 harg5 arg6 harg6 arg7 harg7 arg8 harg8 arg9 harg9 arg10 harg10 arg11 harg11 arg12 harg12 :
    Leaves (F := Ideal) c (grid0.coords t) arg3 harg3 arg4 harg4 arg5 harg5 arg6 harg6 arg7 harg7 arg8 harg8 arg9 harg9 arg10 harg10 arg11 harg11 arg12 harg12 (iblk m c 0 t) (iblk m c 1 t) (iblk m c 2 t) (iblk m c 3 t) (fun d => d = out4 m c t) :=
  fun X3 X4 X5 X6 f7 f8 f9 f10 f11 f12 e3 e4 e5 e6 => funext fun y => by
    have e : inOf (grid0.coords t) arg3 arg4 arg5 arg6 X3 X4 X5 X6 = inAt m c t := by
      show In.mk _ _ _ _ _ _ = In.mk _ _ _ _ _ _
      rw [e3, e4, e5, e6]
    refine (block_apply (grid0.coords t) arg3 arg4 arg5 arg6 X3 X4 X5 X6 c harg3 harg4 harg5 harg6 arg7 harg7 arg8 harg8 arg9 harg9 arg10 harg10 arg11 harg11 arg12 harg12 (fun j => by rw [e]; exact hvs c t j) f7 f8 f9 f10 f11 f12 y).trans ?_
    rw [e]; rfl

theorem sound_body (hvs : ∀ c t j, 0 ≤ (inAt m c t).vs j ∧ (inAt m c t).vs j ≠ ⊤) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4]
  unfold Pipeline.ΦA
  rw [scopedRest0_eq]
  simp only [← owns_whole]
  iintro ⟨⟨⟨H8, H9, H10, H11, H12⟩, Hr⟩, Ho, ⟨%d0, H0⟩, ⟨%d1, H1⟩, ⟨%d2, H2⟩, ⟨%d3, H3⟩, ⟨%d4, H4⟩⟩
  iapply (sound_kernel c _ _ _ _ _ _ _ _ _ _ _ _ _ _ _ _ _ _ _ _ _ (iblk m c 0 t) (iblk m c 1 t) (iblk m c 2 t) (iblk m c 3 t) (fun d => d = out4 m c t) (leaves m hvs c t _ _ _ _ _ _ _ _ _ _ _ _ _ _ _ _ _ _ _ _) _)
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  isplitl [H10]; · iexact H10
  isplitl [H11]; · iexact H11
  isplitl [H12]; · iexact H12
  iintro ⟨H0, H1, H2, H3, ⟨%d5, %e5, H4⟩, H8, H9, H10, H11, H12⟩
  isplitl [H8 H9 H10 H11 H12 Hr]
  · isplitl [H8 H9 H10 H11 H12]
    · isplitl [H8]; · iexact H8
      isplitl [H9]; · iexact H9
      isplitl [H10]; · iexact H10
      isplitl [H11]; · iexact H11
      iexact H12
    iexact Hr
  isplitl [Ho]; · iexact Ho
  isplitl [H0]; · iexact H0
  isplitl [H1]; · iexact H1
  isplitl [H2]; · iexact H2
  isplitl [H3]; · iexact H3
  subst e5; iexact H4

theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (hvs : ∀ c t j, 0 ≤ (inAt m c t).vs j ∧ (inAt m c t).vs j ≠ ⊤) (c : Dev nD) : BodyObligation (dats m 0 c) (defs₀ (F := Ideal)) Variants.none () Set.univ := fun t => by
  rw [bigSep_W0, bigSep_W0, defs₀_row]
  exact triple_restated (sound_body m hvs c t) rfl .rfl fun _ => .rfl

set_option backward.isDefEq.respectTransparency.types false in
theorem run_main (hvs : ∀ c t j, 0 ≤ (inAt m c t).vs j ∧ (inAt m c t).vs j ≠ ⊤) : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hvs c).loose) (hshare := fun c => (dats m 0 c).share_full fun _ => rfl)
    (howed := fun _ _ => rfl) (V := V m) (hmain := hmain m Variants.none) (hA := A_eq m) (hΦ := fun _ _ => rfl)

theorem idx0 : ∀ t : Fin cfg0.N, win0_0.index t = ![(grid0.coords t 0).val, 0, 0] := (by decide +kernel : ∀ t : Fin grid0.N, _)
theorem idx1 : ∀ t : Fin cfg0.N, win0_1.index t = ![(grid0.coords t 0).val, (grid0.coords t 1).val, (grid0.coords t 2).val] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, (grid0.coords t 1).val, (grid0.coords t 2).val] := (by decide +kernel : ∀ t : Fin grid0.N, _)

/-- The step's blocks are the arguments' elements. -/
theorem inAt_eq (c : Dev nD) (t : Fin cfg0.N) :
    inAt m c t = argIn (V m c main_arg0) (V m c main_arg1) (V m c main_arg2) (V m c main_arg3) (grid0.coords t 0) (grid0.coords t 1).val (grid0.coords t 2).val := by
  have e0 := idx0 t
  have e1 := idx1 t
  have e2 := idx2 t
  have e3 := idx3 t
  have h1 : (grid0.coords t 1).val < 32 := (grid0.coords t 1).isLt
  have h2 : (grid0.coords t 2).val < 2 := (grid0.coords t 2).isLt
  unfold argIn inAt
  congr 1
  · funext y
    idx_bounds y
    blk_simp [iblk, e0]
    congr 1
    blk_ext [e0]
  · funext y
    idx_bounds y
    blk_simp [iblk, e1]
    congr 1
    blk_ext [e1] <;> simp only [Fin.val_ofNat] <;> omega
  · funext y
    idx_bounds y
    blk_simp [iblk, e2]
    congr 1
    blk_ext [e2]
  · funext y
    idx_bounds y
    blk_simp [iblk, e3]
    congr 1
    blk_ext [e3]

/-- The output array after the run. -/
theorem final4 (c : Dev nD) : (dats m 0 c).arrAt 4 cfg0.N = GY (V m c main_arg0) (V m c main_arg1) (V m c main_arg2) (V m c main_arg3) := by
  refine (dats m 0 c).arrAt_eq_of_covers 4 _ (by decide +kernel) fun t hf y => ?_
  have e4 := idx4 t
  idx_bounds y
  blk_simp
  rw [after0_4]
  unfold out4 GY
  rw [inAt_eq]
  blk_simp [e4]
  have h0 : (win0_4.blk t).view.emb y 0 = grid0.coords t 0 := Fin.ext (by blk_simp [e4])
  rw [h0, show ((grid0.coords t 1).val * 256 + (y 1).val) / 256 = (grid0.coords t 1).val by omega, show ((grid0.coords t 2).val * 1024 + (y 2).val) / 1024 = (grid0.coords t 2).val by omega,
    show ((grid0.coords t 2).val * 1024 + (y 2).val) % 1024 = (y 2).val by omega, show ((grid0.coords t 1).val * 256 + (y 1).val) % 256 = (y 1).val by omega]

/-- The run: the output array at its function of the arguments, the arguments unchanged. -/
theorem run (hvs : ∀ (c : Dev nD) (b : Fin 8) (j : Fin 64), 0 ≤ vscale (m ((c.tc : Thread nD τ).loc main_arg0)) b j ∧ vscale (m ((c.tc : Thread nD τ).loc main_arg0)) b j ≠ ⊤) :
    θ_run defs (onTc (τ := τ) (main (F := Ideal))) ⟨m, fun _ => 0, ρ⟩ (fun r => ∀ c : Dev nD,
      r.2.mem ((c.tc : Thread nD τ).loc main_v0) = GY (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans ((final4 m c).trans (by rw [V_main_arg0, V_main_arg1, V_main_arg2, V_main_arg3])),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩)
    (run_main m ρ fun c t j => by rw [inAt_eq, V_main_arg0]; exact hvs c _ _)

end Cert.Proof.AttnIdeal.Value

end
-- ==== Proof.RefValue.lean ====
/- The reference at an element of its output: the scores of the element's row over all keys, their largest, the exponentials of
   their distances from it, and the weighted sum of the values divided by the sum of the weights. -/
module

public import proofs.«01_k».proof.Proof.Value
public import proofs.«01_k».proof.Proof.Gen.ReferenceIdeal.Value

@[expose] public section

set_option maxRecDepth 65536
set_option maxHeartbeats 1000000

noncomputable section

namespace Cert.Proof.AttnIdeal

open Idealize.ShloMosaic Idealize.ShloMosaic.Tactic

namespace In

variable (I : In)

/-- The reference's score of row `r` and key `j`: natural, `⊥` where the key is not visible. -/
def sel (r j : ℕ) : EReal := if I.Vis r j then I.acc r j * (I.qs r * sm) * I.ks j else ⊥
/-- The largest score of row `r`. -/
def top (r : ℕ) : EReal := (Finset.range 8192).sup (I.sel r)
/-- The weight of key `j` in row `r`. -/
def wt (r j : ℕ) : EReal := Ideal.exp (I.sel r j - I.top r)
/-- The reference's output at row `r` and column `d`. -/
def refOut (r : ℕ) (d : Fin 256) : EReal :=
  Ideal.div ((∑ n : Fin 64, (∑ c : Fin 128, I.val (128 * n.val + c.val) d.val * clip (I.wt r (128 * n.val + c.val) * Ideal.ofBits .f32 0x43800000#32)) * I.vs (128 * n.val)) * Ideal.ofBits .f32 0x3B800000#32)
    (∑ n : Fin 64, ∑ c : Fin 128, I.wt r (128 * n.val + c.val))

end In

end Cert.Proof.AttnIdeal

namespace Cert.Proof.Reference

open Cert.ReferenceIdeal Cert.ReferenceIdeal.Gen Cert.Proof.AttnIdeal
open Idealize.ShloMosaic Idealize.ShloMosaic.Tactic

theorem drop_iff (i : S8x8x8192x64x128.Idx) (a b : Fin 8) (q : Fin 8192) :
    reduces_S8x8x8192x64x128_S8x8x8192.drop i = ix3 a b q ↔ i 0 = a ∧ i 1 = b ∧ i 2 = q := by
  have h := reduces_S8x8x8192x64x128_S8x8x8192
  have e0 := h.drop_apply_val_of_eq i 0 0
  have e1 := h.drop_apply_val_of_eq i 1 1
  have e2 := h.drop_apply_val_of_eq i 2 2
  constructor
  · intro H
    rw [H] at e0 e1 e2
    exact ⟨Fin.ext e0.symm, Fin.ext e1.symm, Fin.ext e2.symm⟩
  · rintro ⟨rfl, rfl, rfl⟩
    funext x
    fin_cases x
    · exact Fin.ext e0
    · exact Fin.ext e1
    · exact Fin.ext e2

/-- An index is its five coordinates. -/
theorem eq_ix5 (i : S8x8x8192x64x128.Idx) : i = ix5 (i 0) (i 1) (i 2) (i 3) (i 4) := by
  funext a; fin_cases a <;> rfl

theorem sum_drop (f : S8x8x8192x64x128.Idx → EReal) (a b : Fin 8) (q : Fin 8192) :
    Ideal.reduceAdd reduces_S8x8x8192x64x128_S8x8x8192 f (ix3 a b q) = ∑ n : Fin 64, ∑ c : Fin 128, f (ix5 a b q n c) := by
  rw [← Finset.sum_product']
  unfold Ideal.reduceAdd
  refine Finset.sum_nbij' (fun i => (i 3, i 4)) (fun p => ix5 a b q p.1 p.2) ?_ ?_ ?_ ?_ ?_
  · intro i _; simp
  · intro p _; exact Finset.mem_filter.2 ⟨Finset.mem_univ _, (drop_iff _ _ _ _).2 ⟨rfl, rfl, rfl⟩⟩
  · intro i hi
    obtain ⟨rfl, rfl, rfl⟩ := (drop_iff i a b q).1 (Finset.mem_filter.1 hi).2
    exact (eq_ix5 i).symm
  · intro p _; rfl
  · intro i hi
    obtain ⟨rfl, rfl, rfl⟩ := (drop_iff i a b q).1 (Finset.mem_filter.1 hi).2
    exact congrArg f (eq_ix5 i)

theorem fold_drop (f : S8x8x8192x64x128.Idx → EReal) (a b : Fin 8) (q : Fin 8192) (g : ℕ → EReal)
    (h : ∀ (n : Fin 64) (c : Fin 128), f (ix5 a b q n c) = g (128 * n.val + c.val)) :
    Finset.fold max (Ideal.ofBits .f32 0xFF800000#32) f {i | reduces_S8x8x8192x64x128_S8x8x8192.drop i = ix3 a b q} = (Finset.range 8192).sup g := by
  refine eq_of_forall_ge_iff fun x => ?_
  rw [Finset.fold_max_le, Finset.sup_le_iff]
  constructor
  · rintro ⟨-, H⟩ j hj
    have hj := Finset.mem_range.1 hj
    have := H (ix5 a b q ⟨j / 128, by omega⟩ ⟨j % 128, by omega⟩) (Finset.mem_filter.2 ⟨Finset.mem_univ _, (drop_iff _ _ _ _).2 ⟨rfl, rfl, rfl⟩⟩)
    rw [h] at this
    rwa [show 128 * (j / 128) + j % 128 = j by omega] at this
  · intro H
    refine ⟨negInf_eq.trans_le bot_le, fun i hi => ?_⟩
    obtain ⟨rfl, rfl, rfl⟩ := (drop_iff i a b q).1 (Finset.mem_filter.1 hi).2
    have h3 : (i 3).val < 64 := (i 3).isLt
    have h4 : (i 4).val < 128 := (i 4).isLt
    exact ((congrArg f (eq_ix5 i)).trans (h (i 3) (i 4))).trans_le (H _ (Finset.mem_range.2 (by omega)))

variable (a0 : Vec Ideal S8x64x16 .f32) (a1 : Vec Ideal S8x8192x2048 .fp8e4m3) (a2 a3 : Vec Ideal S8x8192x256 .fp8e4m3)

/-- The block of inputs that an element of batch `b`, head `h` and query `q` is computed from. -/
abbrev blk (b h : Fin 8) (q : Fin 8192) : In := AttnIdeal.Value.argIn a0 a1 a2 a3 b (q.val / 256) (h.val / 4)
/-- Its row. -/
abbrev row (h : Fin 8) (q : Fin 8192) : ℕ := 256 * (h.val % 4) + q.val % 256

theorem score_apply (b h : Fin 8) (q : Fin 8192) (n : Fin 64) (c : Fin 128) :
    k0_pay4 (F := Ideal) a0 a1 a2 (ix5 b h q n c) = (blk a0 a1 a2 a3 b h q).acc (row h q) (128 * n.val + c.val) * ((blk a0 a1 a2 a3 b h q).qs (row h q) * sm) * (blk a0 a1 a2 a3 b h q).ks (128 * n.val + c.val) := by
  pointwise [k0_pay4]
  unfold In.acc In.qs In.ks In.qrow
  dsimp only [blk, row, AttnIdeal.Value.argIn]
  have hh := h.isLt
  have hq := q.isLt
  have hn := n.isLt
  have hc := c.isLt
  refine congrArg₂ (· * ·) (congrArg₂ (· * ·) (Finset.sum_congr rfl fun x _ => ?_) (congrArg (· * sm) (congrArg a0 ?_))) (congrArg a0 ?_)
  · rw [mul_comm]
    have hx := x.isLt
    refine congrArg₂ (· * ·) (congrArg a1 (congrArg₂ (ix3 b) (Fin.ext ?_) (Fin.ext ?_))) (congrArg a2 (congrArg₂ (ix3 b) (Fin.ext ?_) rfl))
    · show q.val = (256 * (q.val / 256) + (256 * (h.val % 4) + q.val % 256) % 256 % 256) % 8192
      omega
    · show h.val * 256 + x.val = (1024 * (h.val / 4) + (256 * ((256 * (h.val % 4) + q.val % 256) / 256) + x.val) % 1024) % 2048
      omega
    · show n.val * 128 + c.val = (128 * n.val + c.val) % 8192
      omega
  · refine congrArg₂ (ix3 b) (Fin.ext ?_) (Fin.ext ?_)
    · show q.val / 128 = (2 * (q.val / 256) + (256 * (h.val % 4) + q.val % 256) % 256 / 128) % 64
      omega
    · show h.val = (4 * (h.val / 4) + (256 * (h.val % 4) + q.val % 256) / 256) % 16
      omega
  · refine congrArg₂ (ix3 b) (Fin.ext ?_) rfl
    show n.val = ((128 * n.val + c.val) / 128) % 64
    omega

/-- A number below `2 ^ 31` as a word, read back signed. -/
theorem toInt_small (a : ℕ) (h : a < 2 ^ 31) : (BitVec.ofNat 32 a).toInt = a := by
  rw [BitVec.toInt_eq_toNat_cond, BitVec.toNat_ofNat]; omega

theorem vis_apply (b h : Fin 8) (q : Fin 8192) (n : Fin 64) (c : Fin 128) :
    k0_pay5 (ix5 b h q n c) = 1#1 ↔ (blk a0 a1 a2 a3 b h q).Vis (row h q) (128 * n.val + c.val) := by
  pointwise [k0_pay5]
  unfold In.Vis
  dsimp only [blk, row, AttnIdeal.Value.argIn]
  have hq := q.isLt
  have hn := n.isLt
  have hc := c.isLt
  have e : IntOp.addi (IntOp.muli (BitVec.ofNat 32 n.val) 128#32) (BitVec.ofNat 32 c.val) = BitVec.ofNat 32 (128 * n.val + c.val) := by
    apply BitVec.eq_of_toNat_eq; simp [IntOp.addi, IntOp.muli]; omega
  have e1 := toInt_small (128 * n.val + c.val) (by omega)
  have e2 := toInt_small q.val (by omega)
  have e3 : (BitVec.ofNat 32 q.val - BitVec.ofNat 32 (128 * n.val + c.val)).toInt = (q.val : ℤ) - ((128 * n.val + c.val : ℕ) : ℤ) := by
    rw [BitVec.toInt_sub, e1, e2]; exact Int.bmod_eq_of_le (by omega) (by omega)
  have hand : ∀ x y : Bool, IntOp.andi (BitVec.ofBool x) (BitVec.ofBool y) = 1#1 ↔ x = true ∧ y = true := by decide
  rw [e]
  simp only [IntOp.cmpi, IntOp.subi]
  rw [hand, BitVec.sle_iff_toInt_le, BitVec.slt_iff_toInt_lt, e1, e2, e3, show (4096#32).toInt = 4096 from rfl]
  omega

/-- The masked score. -/
theorem sel_apply (b h : Fin 8) (q : Fin 8192) (n : Fin 64) (c : Fin 128) :
    Scalar.select (k0_pay5 (ix5 b h q n c)) (k0_pay4 (F := Ideal) a0 a1 a2 (ix5 b h q n c)) (Ideal.ofBits .f32 0xFF800000#32) = (blk a0 a1 a2 a3 b h q).sel (row h q) (128 * n.val + c.val) := by
  unfold In.sel
  by_cases hv : (blk a0 a1 a2 a3 b h q).Vis (row h q) (128 * n.val + c.val)
  · rw [if_pos hv, (vis_apply a0 a1 a2 a3 b h q n c).2 hv, ← score_apply]; rfl
  · rw [if_neg hv, ← negInf_eq]
    have := mt (vis_apply a0 a1 a2 a3 b h q n c).1 hv
    exact if_neg this

theorem out_apply (I : In) (r : ℕ) (v9 v18 v29 v42) (b : Fin 8) (q : Fin 8192) (e : Fin 2048) (h : Fin 8) (he : h.val = e.val / 256) (d : Fin 256) (hd : d.val = e.val % 256)
    (hsel : ∀ (n : Fin 64) (c : Fin 128), Scalar.select (v42 (ix5 b h q n c)) (v29 (ix5 b h q n c)) (Ideal.ofBits .f32 0xFF800000#32) = I.sel r (128 * n.val + c.val))
    (h9 : ∀ (n : Fin 64) (c : Fin 128), v9 (ix4 b n c d) = I.val (128 * n.val + c.val) d.val) (h18 : ∀ n : Fin 64, v18 (ix2 b n) = I.vs (128 * n.val)) :
    k0_pay1 (F := Ideal) v9 v18 v29 (Scalar.ofBits .f32 0xFF800000#32) v42 (ix3 b q e) = I.refOut r d := by
  have e1 : (⟨e.val / 256, by have := e.isLt; omega⟩ : Fin 8) = h := Fin.ext he.symm
  have e2 : (⟨e.val % 256, by have := e.isLt; omega⟩ : Fin 256) = d := Fin.ext hd.symm
  have hm := fold_drop (fun x => Scalar.select (v42 x) (v29 x) (Ideal.ofBits FTy.f32 0xFF800000#32)) b h q (I.sel r) hsel
  pointwise [k0_pay1]
  rw [sum_drop]
  pointwise
  unfold In.refOut In.wt In.top clip
  simp only [e1, e2, hm, hsel, h9, h18]

/-- The reference at an element. -/
theorem ref_apply (b : Fin 8) (q : Fin 8192) (e : Fin 2048) :
    Cert.ReferenceIdeal.Value.G4 a0 a1 a2 a3 (ix3 b q e) = (AttnIdeal.Value.argIn a0 a1 a2 a3 b (q.val / 256) (e.val / 1024)).refOut (256 * (e.val % 1024 / 256) + q.val % 256) (Fin.ofNat 256 (e.val % 1024 % 256)) := by
  have he := e.isLt
  have := out_apply (blk a0 a1 a2 a3 b ⟨e.val / 256, by omega⟩ q) (row ⟨e.val / 256, by omega⟩ q) (k0_pay2 a3) (k0_pay3 a0) (k0_pay4 a0 a1 a2) k0_pay5 b q e ⟨e.val / 256, by omega⟩ rfl
    (Fin.ofNat 256 (e.val % 1024 % 256)) (by simp only [Fin.val_ofNat]; omega) (sel_apply a0 a1 a2 a3 b _ q)
    (fun n c => by
      have hn := n.isLt
      have hc := c.isLt
      pointwise [k0_pay2]
      refine congrArg a3 (congrArg₂ (ix3 b) (Fin.ext ?_) (Fin.ext ?_))
      · show n.val * 128 + c.val = (128 * n.val + c.val) % 8192
        omega
      · show e.val % 1024 % 256 % 256 = e.val % 1024 % 256 % 256 % 256
        omega)
    (fun n => by
      have hn := n.isLt
      pointwise [k0_pay3]
      refine congrArg a0 (congrArg₂ (ix3 b) (Fin.ext ?_) rfl)
      show n.val = (128 * n.val / 128) % 64
      omega)
  rw [show e.val / 1024 = (e.val / 256) / 4 by omega, show e.val % 1024 / 256 = e.val / 256 % 4 by omega]
  exact this

end Cert.Proof.Reference

end
-- ==== Proof.Equal.lean ====
/- The kernel's output and the reference's are the same number: the kernel's scores are the reference's times `log2 e`, its powers
   of two therefore the reference's exponentials times 256, and the keys it does not visit weigh nothing. -/
module

public import proofs.«01_k».proof.Proof.RefValue

@[expose] public section

set_option maxRecDepth 65536
set_option maxHeartbeats 1000000

noncomputable section

namespace Cert.Proof.AttnIdeal

open Cert.AttnIdeal Cert.AttnIdeal.Gen
open Idealize.ShloMosaic Idealize.ShloMosaic.Tactic

/-- `log2 e` as a real. -/
abbrev lam : ℝ := (Real.log 2)⁻¹

theorem lam_pos : 0 < lam := inv_pos.2 (Real.log_pos (by norm_num))

theorem l2e_eq : l2e = ((lam : ℝ) : EReal) := rfl

theorem ofBits_8 : Ideal.ofBits .f32 0x41000000#32 = ((8 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = (((1 / 256 : ℝ)) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul]; norm_num
theorem ofBits_448 : Ideal.ofBits .f32 0x43E00000#32 = ((448 : ℝ) : EReal) := by
  simp [Ideal.ofBits, Ideal.ieee, -EReal.coe_mul]; norm_num

/-- Zero is within the bounds it is clipped to. -/
theorem clip_zero : clip 0 = 0 := by
  unfold clip
  rw [ofBits_neg448, ofBits_448, max_eq_right, min_eq_right]
  · exact_mod_cast (by norm_num : (0 : ℝ) ≤ 448)
  · exact_mod_cast (by norm_num : (-448 : ℝ) ≤ 0)

theorem exp_nonneg (x : EReal) : 0 ≤ Ideal.exp x := by
  induction x with
  | bot => exact le_rfl
  | top => exact le_top
  | coe x => exact EReal.coe_nonneg.2 (Real.exp_pos x).le

/-- Powers of two of scores in base two, 8 above the distance from the largest, are exponentials of the distance times 256. -/
theorem exp2_eq (s m : EReal) (h : s ≤ m) : Ideal.exp2 (s * (lam : EReal) - (m * (lam : EReal) - ((8 : ℝ) : EReal))) = Ideal.exp (s - m) * ((256 : ℝ) : EReal) := by
  induction m with
  | bot =>
    rw [le_bot_iff.1 h, EReal.bot_mul_coe_of_pos lam_pos, EReal.bot_sub, EReal.bot_sub]
    exact (zero_mul _).symm
  | top =>
    rw [EReal.top_mul_coe_of_pos lam_pos, EReal.top_sub_coe, EReal.sub_top, EReal.sub_top]
    exact (zero_mul _).symm
  | coe m =>
    induction s with
    | bot =>
      rw [EReal.bot_mul_coe_of_pos lam_pos, EReal.bot_sub, EReal.bot_sub]
      exact (zero_mul _).symm
    | top => exact absurd (top_le_iff.1 h) (EReal.coe_ne_top m)
    | coe s =>
      rw [← EReal.coe_mul, ← EReal.coe_mul, ← EReal.coe_sub, ← EReal.coe_sub, ← EReal.coe_sub]
      show ((Real.rpow 2 (s * lam - (m * lam - 8)) : ℝ) : EReal) = ((Real.exp (s - m) : ℝ) : EReal) * _
      rw [← EReal.coe_mul]
      congr 1
      have hl : Real.log 2 ≠ 0 := (Real.log_pos (by norm_num)).ne'
      have e8 : (256 : ℝ) = Real.exp (Real.log 2 * 8) := by
        rw [mul_comm, show (8 : ℝ) = ((8 : ℕ) : ℝ) by norm_num, Real.exp_nat_mul, Real.exp_log (by norm_num)]; norm_num
      show (2 : ℝ) ^ (s * lam - (m * lam - 8)) = _
      rw [Real.rpow_def_of_pos (by norm_num), e8, ← Real.exp_add]
      congr 1
      unfold lam
      field_simp
      ring

/-- A constant factor of a sum of nonnegative terms. -/
theorem sum_mul_nonneg {ι : Type*} (S : Finset ι) (f : ι → EReal) (c : EReal) (h : ∀ i, 0 ≤ f i) : (∑ i ∈ S, f i) * c = ∑ i ∈ S, f i * c := by
  classical
  induction S using Finset.induction_on with
  | empty => simp
  | insert a S ha ih =>
    rw [Finset.sum_insert ha, Finset.sum_insert ha, EReal.right_distrib_of_nonneg (h a) (Finset.sum_nonneg fun i _ => h i), ih]

/-- A sum over 64 blocks is one over the pairs of blocks from `lo` below `hi`, if the other blocks contribute nothing. -/
theorem sum_pairs (f : ℕ → EReal) (lo hi : ℕ) (hhi : hi ≤ 32) (h : ∀ n, n / 2 < lo ∨ hi ≤ n / 2 → f n = 0) :
    ∑ n : Fin 64, f n.val = ∑ p ∈ Finset.Ico lo hi, (f (2 * p) + f (2 * p + 1)) := by
  have e : ∀ k, ∑ n ∈ Finset.range (2 * k), f n = ∑ p ∈ Finset.range k, (f (2 * p) + f (2 * p + 1)) := by
    intro k
    induction k with
    | zero => rfl
    | succ k ih => rw [show 2 * (k + 1) = 2 * k + 1 + 1 by ring, Finset.sum_range_succ, Finset.sum_range_succ, ih, Finset.sum_range_succ, add_assoc]
  rw [Fin.sum_univ_eq_sum_range f 64, e 32]
  symm
  refine Finset.sum_subset (fun p hp => ?_) fun p _ hp => ?_
  · rw [Finset.mem_Ico] at hp; rw [Finset.mem_range]; omega
  · rw [Finset.mem_Ico] at hp
    rw [h _ (by omega), h _ (by omega), add_zero]

namespace In

variable (I : In)

theorem score_eq (r j : ℕ) : I.score r j = I.sel r j * (lam : EReal) := by
  unfold score sel
  split_ifs
  · unfold rawScore; rw [l2e_eq, ← mul_assoc, ← mul_assoc, ← mul_assoc]
  · rw [EReal.bot_mul_coe_of_pos lam_pos]

theorem top_mul (r : ℕ) : I.top r * (lam : EReal) = (Finset.range 8192).sup (I.score r) := by
  have hm : Monotone fun x : EReal => x * (lam : EReal) := fun a b h => mul_le_mul_of_nonneg_right h (EReal.coe_nonneg.2 lam_pos.le)
  unfold top
  rw [Finset.comp_sup_eq_sup_comp (fun x : EReal => x * (lam : EReal)) (fun a b => hm.map_sup a b) (EReal.bot_mul_coe_of_pos lam_pos)]
  exact Finset.sup_congr rfl fun j _ => (I.score_eq r j).symm

/-- The kernel's largest score is the reference's, in base two: what it does not visit is not visible. -/
theorem mx_eq (ht : I.t < 32) (r : ℕ) : I.mx r = I.top r * (lam : EReal) := by
  rw [top_mul]
  unfold mx maxes
  refine eq_of_forall_ge_iff fun x => ?_
  rw [Finset.fold_max_le, Finset.sup_le_iff]
  constructor
  · rintro ⟨-, H⟩ j hj
    by_cases hv : I.Vis r j
    · have hj := Finset.mem_range.1 hj
      have hp : j / 256 ∈ Finset.Ico (I.t - 16) (I.t + 1) := by
        unfold Vis at hv; rw [Finset.mem_Ico]; omega
      rcases Nat.lt_or_ge (j % 256) 128 with hl | hl
      · have := (max_le_iff.1 (Finset.sup_le_iff.1 (H ⟨j % 256, hl⟩ (Finset.mem_univ _)) _ hp)).1
        rwa [show 256 * (j / 256) + j % 256 = j by omega] at this
      · have := (max_le_iff.1 (Finset.sup_le_iff.1 (H ⟨j % 256 - 128, by omega⟩ (Finset.mem_univ _)) _ hp)).2
        rwa [show 256 * (j / 256) + (128 + (j % 256 - 128)) = j by omega] at this
    · unfold score; rw [if_neg hv]; exact bot_le
  · intro H
    refine ⟨negInf_eq.trans_le bot_le, fun l _ => Finset.sup_le fun p hp => ?_⟩
    have hl := l.isLt
    rw [Finset.mem_Ico] at hp
    exact max_le (H _ (Finset.mem_range.2 (by omega))) (H _ (Finset.mem_range.2 (by omega)))

theorem prob_eq (ht : I.t < 32) (r j : ℕ) (hj : j < 8192) : I.prob I.mo r j = I.wt r j * ((256 : ℝ) : EReal) := by
  unfold prob mo wt
  rw [mx_eq I ht, score_eq, ofBits_8]
  exact exp2_eq _ _ (Finset.le_sup (f := I.sel r) (Finset.mem_range.2 hj))

/-- A key that is not visible weighs nothing. -/
theorem wt_zero (r j : ℕ) (h : ¬I.Vis r j) : I.wt r j = 0 := by
  unfold wt sel; rw [if_neg h, EReal.bot_sub]; rfl

theorem wt_block_zero (r n : ℕ) (h : n / 2 < I.t - 16 ∨ I.t + 1 ≤ n / 2) (c : Fin 128) : I.wt r (128 * n + c.val) = 0 :=
  wt_zero I r _ fun hv => by have hc := c.isLt; unfold Vis at hv; omega

/-- The sum of the weights. -/
theorem lsum_eq (ht : I.t < 32) (r : ℕ) : (∑ l : Fin 128, I.lsum (I.t - 16) (I.t + 1) r l.val) * Ideal.ofBits .f32 0x3B800000#32
    = ∑ n : Fin 64, ∑ c : Fin 128, I.wt r (128 * n.val + c.val) := by
  have hw : ∀ j, 0 ≤ I.wt r j := fun j => exp_nonneg _
  have h256 : ((256 : ℝ) : EReal) * ((1 / 256 : ℝ) : EReal) = 1 := by rw [← EReal.coe_mul]; norm_num
  rw [sum_pairs (fun n => ∑ c : Fin 128, I.wt r (128 * n + c.val)) (I.t - 16) (I.t + 1) (by omega) fun n h => Finset.sum_eq_zero fun c _ => wt_block_zero I r n h c]
  unfold lsum
  rw [Finset.sum_comm]
  have e : ∀ p ∈ Finset.Ico (I.t - 16) (I.t + 1), ∑ l : Fin 128, I.ladd I.mo p r l.val
      = (∑ c : Fin 128, I.wt r (128 * (2 * p) + c.val) + ∑ c : Fin 128, I.wt r (128 * (2 * p + 1) + c.val)) * ((256 : ℝ) : EReal) := by
    intro p hp
    rw [Finset.mem_Ico] at hp
    rw [← Finset.sum_add_distrib, sum_mul_nonneg _ _ _ fun c => add_nonneg (hw _) (hw _)]
    refine Finset.sum_congr rfl fun l _ => ?_
    have hl := l.isLt
    unfold ladd
    rw [prob_eq I ht _ _ (by omega), prob_eq I ht _ _ (by omega), EReal.right_distrib_of_nonneg (hw _) (hw _),
      show 128 * (2 * p) + l.val = 256 * p + l.val by omega, show 128 * (2 * p + 1) + l.val = 256 * p + (128 + l.val) by omega]
  have hs : ∀ p, 0 ≤ ∑ c : Fin 128, I.wt r (128 * (2 * p) + c.val) + ∑ c : Fin 128, I.wt r (128 * (2 * p + 1) + c.val) :=
    fun p => add_nonneg (Finset.sum_nonneg fun _ _ => hw _) (Finset.sum_nonneg fun _ _ => hw _)
  rw [Finset.sum_congr rfl e, ← sum_mul_nonneg _ _ _ hs, ofBits_inv256, mul_assoc, h256, mul_one]

theorem pv_eq (ht : I.t < 32) (r d n : ℕ) (hn : n < 64) :
    I.pv I.mo r (128 * n) d = ∑ c : Fin 128, I.val (128 * n + c.val) d * clip (I.wt r (128 * n + c.val) * Ideal.ofBits .f32 0x43800000#32) := by
  unfold pv
  refine Finset.sum_congr rfl fun c _ => ?_
  have hc := c.isLt
  rw [prob_eq I ht _ _ (by omega), ofBits_256, mul_comm]

/-- The weighted sum of the values. -/
theorem osum_eq (ht : I.t < 32) (r d : ℕ) : I.osum (I.t - 16) (I.t + 1) r d
    = ∑ n : Fin 64, (∑ c : Fin 128, I.val (128 * n.val + c.val) d * clip (I.wt r (128 * n.val + c.val) * Ideal.ofBits .f32 0x43800000#32)) * I.vs (128 * n.val) := by
  rw [sum_pairs (fun n => (∑ c : Fin 128, I.val (128 * n + c.val) d * clip (I.wt r (128 * n + c.val) * Ideal.ofBits .f32 0x43800000#32)) * I.vs (128 * n)) (I.t - 16) (I.t + 1) (by omega) fun n h => by
    rw [Finset.sum_eq_zero fun c _ => by rw [wt_block_zero I r n h c, zero_mul, clip_zero, mul_zero], zero_mul]]
  unfold osum
  refine Finset.sum_congr rfl fun p hp => ?_
  rw [Finset.mem_Ico] at hp
  unfold oadd
  rw [show 256 * p + 128 = 128 * (2 * p + 1) by omega, show 256 * p = 128 * (2 * p) by omega, pv_eq I ht _ _ _ (by omega), pv_eq I ht _ _ _ (by omega)]

theorem out_eq (ht : I.t < 32) (r : ℕ) (d : Fin 256) : I.out r d.val = I.refOut r d := by
  unfold out refOut
  rw [lsum_eq I ht, osum_eq I ht]

end In

/-- The two outputs are one function of the arguments. -/
theorem equal (a0 : Vec Ideal S8x64x16 .f32) (a1 : Vec Ideal S8x8192x2048 .fp8e4m3) (a2 a3 : Vec Ideal S8x8192x256 .fp8e4m3) :
    Cert.ReferenceIdeal.Value.G4 a0 a1 a2 a3 = Value.GY a0 a1 a2 a3 := by
  funext x
  have hx : x = ix3 (x 0) (x 1) (x 2) := by funext a; fin_cases a <;> rfl
  have h1 : (x 1).val < 8192 := (x 1).isLt
  refine (congrArg (Cert.ReferenceIdeal.Value.G4 a0 a1 a2 a3) hx).trans ((Cert.Proof.Reference.ref_apply a0 a1 a2 a3 (x 0) (x 1) (x 2)).trans ?_)
  refine (In.out_eq _ (show (x 1).val / 256 < 32 by omega) _ _).symm.trans ?_
  unfold Value.GY
  rw [Fin.val_ofNat, Nat.mod_mod]

end Cert.Proof.AttnIdeal

end
-- ==== Proof.Pre.lean ====
/- The precondition, read: no scale of a block of values is negative or infinite. -/
module

public import proofs.«01_k».proof.Proof.Value
public import proofs.«01_k».proof.Proof.Gen.Pre_v_scales_finite
public import Idealize.ShloMosaic.Lib.ReduceAll

@[expose] public section

set_option maxRecDepth 65536

noncomputable section

namespace Cert.Proof.Pre

open Cert.Pre_v_scales_finite Cert.Pre_v_scales_finite.Gen
open Idealize.ShloMosaic Idealize.ShloMosaic.Tactic

theorem ofBits_inf : Ideal.ofBits .f32 0x7F800000#32 = ⊤ := by
  simp [Ideal.ofBits, Ideal.ieee]

theorem read (a0 : FVec Ideal S8x64x16 .f32) (a1 : FVec Ideal S8x8192x2048 .fp8e4m3) (a2 a3 : FVec Ideal S8x8192x256 .fp8e4m3)
    (h : Cert.Pre_v_scales_finite.fn (F := Ideal) a0 a1 a2 a3 = fun _ => 1#1) (b : Fin 8) (j : Fin 64) :
    0 ≤ AttnIdeal.Value.vscale a0 b j ∧ AttnIdeal.Value.vscale a0 b j ≠ ⊤ := by
  have : Subsingleton S_.Idx := ⟨fun x y => funext fun i => i.elim0⟩
  have e := Host.reduce_andi_all _ _ _ _ _ (congrFun h (Shape.Idx.first Facts.h_S_)) (ix2 b j)
  have hand : ∀ x y : Bool, IntOp.andi (BitVec.ofBool x) (BitVec.ofBool y) = 1#1 ↔ x = true ∧ y = true := by decide
  unfold AttnIdeal.Value.vscale
  revert e
  pointwise
  rw [hand, decide_eq_true_iff, decide_eq_true_iff, ofBits_inf]
  exact fun e => ⟨e.1, e.2.ne⟩

end Cert.Proof.Pre

end
-- ==== Proof.QuantBody.lean ====
/- `Quant`: the body of the kernel run whole, from any contents of its four output blocks. -/
module

public import proofs.«01_k».proof.Proof.Gen.Quant.Launch
public import proofs.«01_k».proof.Proof.Gen.Quant.Points
public import proofs.«01_k».proof.Proof.Gen.Quant.Skeleton
public import Idealize.ShloMosaic.Lib.Tactic

@[expose] public section

set_option maxRecDepth 65536
set_option maxHeartbeats 8000000

noncomputable section

namespace Cert.Proof.Quant

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame: points-tos alone. -/
local notation "𝕄" => MT nD τ sig Unit (Elt F) ℕ (UR sig nD τ) ℕ

/-- A buffer held whole at contents `f`. -/
abbrev held {sp : Space} {s : Shape} {e : EltTy} (c : Dev nD) (r : Memref sig .tc sp s e) (f : BufTy.Contents (Elt F) r.view.ty) : sProp 𝕄 :=
  iprop(r.view.loc (c : Thread nD τ) ↦[r.view.set]{fullShare} f)

/-- What the body touches: the three inputs and the four output blocks. -/
abbrev All (c : Dev nD) (arg2 : Memref sig .tc .vmem S1x256x2048 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x2048 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x64x128 .f32) (harg8 : arg8.IsWhole) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) : sProp 𝕄 :=
  iprop(held c arg2 X2 ∗ held c arg3 X3 ∗ held c arg4 X4 ∗ held c arg5 f5 ∗ held c arg6 f6 ∗ held c arg7 f7 ∗ held c arg8 f8)

/-- The body: what it leaves in the output blocks. -/
@[irreducible] def kernelRun (c : Dev nD) (i : grid0.Coords) (arg2 : Memref sig .tc .vmem S1x256x2048 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x2048 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x64x128 .f32) (harg8 : arg8.IsWhole) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    Σ' (g5 : BufTy.Contents (Elt F) arg5.view.ty) (g6 : BufTy.Contents (Elt F) arg6.view.ty) (g7 : BufTy.Contents (Elt F) arg7.view.ty), { g8 : BufTy.Contents (Elt F) arg8.view.ty //
      All c arg2 harg2 arg3 harg3 arg4 harg4 arg5 harg5 arg6 harg6 arg7 harg7 arg8 harg8 X2 X3 X4 f5 f6 f7 f8
      ⊢ wp frame (wpE (defs₀ (F := F)) Variants.none (c : Thread nD τ) none) Set.univ (cc0_quant (F := F) i arg2 harg2 arg3 harg3 arg4 harg4 arg5 harg5 arg6 harg6 arg7 harg7 arg8 harg8)
          (fun _ => All c arg2 harg2 arg3 harg3 arg4 harg4 arg5 harg5 arg6 harg6 arg7 harg7 arg8 harg8 X2 X3 X4 g5 g6 g7 g8) } := by
  refine ⟨?_, ?_, ?_, ?_, ?run⟩
  case run =>
    simp only [cc0_quant_eq_skeleton]
    unfold cc0_quant_skel
    iintro ⟨H2, H3, H4, H5, H6, H7, H8⟩
    sl_exec_parts
    sl_step
    isplitl [H2]; · iexact H2
    isplitl [H3]; · iexact H3
    isplitl [H4]; · iexact H4
    isplitl [H5]; · iexact H5
    isplitl [H6]; · iexact H6
    isplitl [H7]; · iexact H7
    iexact H8

end Cert.Proof.Quant

end
-- ==== Proof.QuantBlocks.lean ====
/- `Quant`: what the body leaves in its output blocks, element by element: each 128 by 256 block of the inputs' codes, and its
   scale in one column of one row. -/
module

public import proofs.«01_k».proof.Proof.QuantBody
public import Idealize.ShloMosaic.Lib.Pointwise
public import Idealize.ShloMosaic.Lib.Writes
public import Idealize.ShloMosaic.Lib.Ring

@[expose] public section

set_option maxRecDepth 65536
set_option maxHeartbeats 4000000

noncomputable section

namespace Cert.Proof.Quant

open Cert.Quant Cert.Quant.Gen
open Idealize.ShloMosaic Idealize.ShloMosaic.TcCoe Idealize.ShloMosaic.Tactic

variable {F : FTy → Type} [BitOps F]

/-- The codes of a block. -/
def codes (v : Vec F S1x128x256 .bf16) : FVec F S1x128x256 .fp8e4m3 := k0_pay7 (k0_pay6 v)
/-- The scale of a block. -/
def scale (v : Vec F S1x128x256 .bf16) : F .f32 := k0_pay5 v (ix2 (0 : Fin 1) (0 : Fin 1))
/-- Block `j`, `k` of the wide input. -/
def blk8 (x : Vec F S1x256x2048 .bf16) (j k : ℕ) : Vec F S1x128x256 .bf16 :=
  fun z => x (ix3 (0 : Fin 1) (Fin.ofNat 256 (128 * j + (z 1).val)) (Fin.ofNat 2048 (256 * k + (z 2).val)))
/-- Block `j` of a narrow input. -/
def blk1 (x : Vec F S1x256x256 .bf16) (j : ℕ) : Vec F S1x128x256 .bf16 :=
  fun z => x (ix3 (0 : Fin 1) (Fin.ofNat 256 (128 * j + (z 1).val)) (z 2))
/-- The codes of the wide input. -/
def out8 (x : Vec F S1x256x2048 .bf16) : Vec F S1x256x2048 .fp8e4m3 := fun y =>
  codes (blk8 x ((y 1).val / 128) ((y 2).val / 256)) (ix3 (0 : Fin 1) (Fin.ofNat 128 (y 1).val) (Fin.ofNat 256 (y 2).val))
/-- The codes of a narrow input. -/
def out1 (x : Vec F S1x256x256 .bf16) : Vec F S1x256x256 .fp8e4m3 := fun y =>
  codes (blk1 x ((y 1).val / 128)) (ix3 (0 : Fin 1) (Fin.ofNat 128 (y 1).val) (y 2))

/-- A load of the wide input reads a block. -/
theorem load8 {κ : Kind} {sp : Space} (v : View sig κ sp S1x256x2048 .bf16) (X : v.ty.Contents (Elt F)) (j k : ℕ) (off : Fin 3 → ℕ) (ho : off = ![0, 128 * j, 256 * k])
    (inb : ∀ a, off a + S1x128x256.size a ≤ S1x256x2048.size a) :
    v.readAt (Elt F) (Rect.unit (s := S1x256x2048) off S1x128x256.size inb).toLoadRect X = blk8 (v.read (Elt F) X) j k := by
  subst ho
  have h1 : 128 * j + 128 ≤ 256 := inb 1
  have h2 : 256 * k + 256 ≤ 2048 := inb 2
  funext z
  have b1 : (z 1).val < 128 := (z 1).isLt
  have b2 : (z 2).val < 256 := (z 2).isLt
  have b0 : (z 0).val < 1 := (z 0).isLt
  refine congrArg (v.read (Elt F) X) (funext fun a => Fin.ext ?_)
  fin_cases a
  · show 0 + 1 * (z 0).val = 0; omega
  · show 128 * j + 1 * (z 1).val = (128 * j + (z 1).val) % 256; omega
  · show 256 * k + 1 * (z 2).val = (256 * k + (z 2).val) % 2048; omega

/-- A load of a narrow input reads a block. -/
theorem load1 {κ : Kind} {sp : Space} (v : View sig κ sp S1x256x256 .bf16) (X : v.ty.Contents (Elt F)) (j : ℕ) (off : Fin 3 → ℕ) (ho : off = ![0, 128 * j, 0])
    (inb : ∀ a, off a + S1x128x256.size a ≤ S1x256x256.size a) :
    v.readAt (Elt F) (Rect.unit (s := S1x256x256) off S1x128x256.size inb).toLoadRect X = blk1 (v.read (Elt F) X) j := by
  subst ho
  have h1 : 128 * j + 128 ≤ 256 := inb 1
  funext z
  have b1 : (z 1).val < 128 := (z 1).isLt
  have b0 : (z 0).val < 1 := (z 0).isLt
  refine congrArg (v.read (Elt F) X) (funext fun a => Fin.ext ?_)
  fin_cases a
  · show 0 + 1 * (z 0).val = 0; omega
  · show 128 * j + 1 * (z 1).val = (128 * j + (z 1).val) % 256; omega
  · show 0 + 1 * (z 2).val = (z 2).val; omega

/-- One stored piece of the wide codes agrees with `out8`. -/
theorem piece8 {κ : Kind} {sp : Space} (v : View sig κ sp S1x256x2048 .bf16) (X : v.ty.Contents (Elt F)) (j k : ℕ) (off : Fin 3 → ℕ) (ho : off = ![0, 128 * j, 256 * k])
    (inb : ∀ a, off a + S1x128x256.size a ≤ S1x256x2048.size a) (x : S1x128x256.Idx) :
    codes (v.readAt (Elt F) (Rect.unit (s := S1x256x2048) off S1x128x256.size inb).toLoadRect X) x
      = out8 (v.read (Elt F) X) ((Rect.unit (s := S1x256x2048) off S1x128x256.size inb).emb x) := by
  rw [load8 v X j k off ho inb]
  subst ho
  have h1 : 128 * j + 128 ≤ 256 := inb 1
  have h2 : 256 * k + 256 ≤ 2048 := inb 2
  have b1 : (x 1).val < 128 := (x 1).isLt
  have b2 : (x 2).val < 256 := (x 2).isLt
  have b0 : (x 0).val < 1 := (x 0).isLt
  have e1 : (((Rect.unit (s := S1x256x2048) ![0, 128 * j, 256 * k] S1x128x256.size inb).emb x) 1).val = 128 * j + 1 * (x 1).val := rfl
  have e2 : (((Rect.unit (s := S1x256x2048) ![0, 128 * j, 256 * k] S1x128x256.size inb).emb x) 2).val = 256 * k + 1 * (x 2).val := rfl
  unfold out8
  rw [e1, e2, show (128 * j + 1 * (x 1).val) / 128 = j by omega, show (256 * k + 1 * (x 2).val) / 256 = k by omega]
  congr 1
  funext a
  apply Fin.ext
  fin_cases a
  · show (x 0).val = 0; omega
  · show (x 1).val = (128 * j + 1 * (x 1).val) % 128; omega
  · show (x 2).val = (256 * k + 1 * (x 2).val) % 256; omega

/-- One stored piece of the narrow codes agrees with `out1`. -/
theorem piece1 {κ : Kind} {sp : Space} (v : View sig κ sp S1x256x256 .bf16) (X : v.ty.Contents (Elt F)) (j : ℕ) (off : Fin 3 → ℕ) (ho : off = ![0, 128 * j, 0])
    (inb : ∀ a, off a + S1x128x256.size a ≤ S1x256x256.size a) (x : S1x128x256.Idx) :
    codes (v.readAt (Elt F) (Rect.unit (s := S1x256x256) off S1x128x256.size inb).toLoadRect X) x
      = out1 (v.read (Elt F) X) ((Rect.unit (s := S1x256x256) off S1x128x256.size inb).emb x) := by
  rw [load1 v X j off ho inb]
  subst ho
  have h1 : 128 * j + 128 ≤ 256 := inb 1
  have b1 : (x 1).val < 128 := (x 1).isLt
  have b0 : (x 0).val < 1 := (x 0).isLt
  have e1 : (((Rect.unit (s := S1x256x256) ![0, 128 * j, 0] S1x128x256.size inb).emb x) 1).val = 128 * j + 1 * (x 1).val := rfl
  unfold out1
  rw [e1, show (128 * j + 1 * (x 1).val) / 128 = j by omega]
  congr 1
  funext a
  apply Fin.ext
  fin_cases a
  · show (x 0).val = 0; omega
  · show (x 1).val = (128 * j + 1 * (x 1).val) % 128; omega
  · show (x 2).val = 0 + 1 * (x 2).val; omega

/-- The wide codes: sixteen stores that tile the block. -/
theorem read_codes8 (arg2 : Memref sig .tc .vmem S1x256x2048 .bf16) (X2 : BufTy.Contents (Elt F) arg2.view.ty) (arg5 : Memref sig .tc .vmem S1x256x2048 .fp8e4m3) (f5 : BufTy.Contents (Elt F) arg5.view.ty) :
    arg5.view.read (Elt F) (arg5.view.writes (Elt F) f5 (kernelRun.sl.H5_16 arg2 X2)) = out8 (arg2.view.read (Elt F) X2) := by
  funext y
  refine View.read_writes_apply_of_pieces arg5.view f5 (out8 (arg2.view.read (Elt F) X2)) _ ?_ y (View.cover_of_tiledL (s := S1x256x2048) _ S1x128x256.size (by sl_kernel_rfl) y)
  refine List.forall_mem_cons.mpr ⟨piece8 arg2.view X2 1 7 _ rfl inb_S1x256x2048_S1x128x256_0_128_1792, ?_⟩
  refine List.forall_mem_cons.mpr ⟨piece8 arg2.view X2 1 6 _ rfl inb_S1x256x2048_S1x128x256_0_128_1536, ?_⟩
  refine List.forall_mem_cons.mpr ⟨piece8 arg2.view X2 1 5 _ rfl inb_S1x256x2048_S1x128x256_0_128_1280, ?_⟩
  refine List.forall_mem_cons.mpr ⟨piece8 arg2.view X2 1 4 _ rfl inb_S1x256x2048_S1x128x256_0_128_1024, ?_⟩
  refine List.forall_mem_cons.mpr ⟨piece8 arg2.view X2 1 3 _ rfl inb_S1x256x2048_S1x128x256_0_128_768, ?_⟩
  refine List.forall_mem_cons.mpr ⟨piece8 arg2.view X2 1 2 _ rfl inb_S1x256x2048_S1x128x256_0_128_512, ?_⟩
  refine List.forall_mem_cons.mpr ⟨piece8 arg2.view X2 1 1 _ rfl inb_S1x256x2048_S1x128x256_0_128_256, ?_⟩
  refine List.forall_mem_cons.mpr ⟨piece8 arg2.view X2 1 0 _ rfl inb_S1x256x2048_S1x128x256_0_128_0, ?_⟩
  refine List.forall_mem_cons.mpr ⟨piece8 arg2.view X2 0 7 _ rfl inb_S1x256x2048_S1x128x256_0_0_1792, ?_⟩
  refine List.forall_mem_cons.mpr ⟨piece8 arg2.view X2 0 6 _ rfl inb_S1x256x2048_S1x128x256_0_0_1536, ?_⟩
  refine List.forall_mem_cons.mpr ⟨piece8 arg2.view X2 0 5 _ rfl inb_S1x256x2048_S1x128x256_0_0_1280, ?_⟩
  refine List.forall_mem_cons.mpr ⟨piece8 arg2.view X2 0 4 _ rfl inb_S1x256x2048_S1x128x256_0_0_1024, ?_⟩
  refine List.forall_mem_cons.mpr ⟨piece8 arg2.view X2 0 3 _ rfl inb_S1x256x2048_S1x128x256_0_0_768, ?_⟩
  refine List.forall_mem_cons.mpr ⟨piece8 arg2.view X2 0 2 _ rfl inb_S1x256x2048_S1x128x256_0_0_512, ?_⟩
  refine List.forall_mem_cons.mpr ⟨piece8 arg2.view X2 0 1 _ rfl inb_S1x256x2048_S1x128x256_0_0_256, ?_⟩
  refine List.forall_mem_cons.mpr ⟨piece8 arg2.view X2 0 0 _ rfl inb_S1x256x2048_S1x128x256_0_0_0, ?_⟩
  exact fun _ h => absurd h List.not_mem_nil

/-- The codes of the keys: two stores that tile the block. -/
theorem read_codesK (arg3 : Memref sig .tc .vmem S1x256x256 .bf16) (X3 : BufTy.Contents (Elt F) arg3.view.ty) (arg6 : Memref sig .tc .vmem S1x256x256 .fp8e4m3) (f6 : BufTy.Contents (Elt F) arg6.view.ty) :
    arg6.view.read (Elt F) (arg6.view.writes (Elt F) f6 (kernelRun.sl.H6_2 arg3 X3)) = out1 (arg3.view.read (Elt F) X3) := by
  funext y
  refine View.read_writes_apply_of_pieces arg6.view f6 (out1 (arg3.view.read (Elt F) X3)) _ ?_ y (View.cover_of_tiledL (s := S1x256x256) _ S1x128x256.size (by sl_kernel_rfl) y)
  refine List.forall_mem_cons.mpr ⟨piece1 arg3.view X3 1 _ rfl inb_S1x256x256_S1x128x256_0_128_0, ?_⟩
  refine List.forall_mem_cons.mpr ⟨piece1 arg3.view X3 0 _ rfl inb_S1x256x256_S1x128x256_0_0_0, ?_⟩
  exact fun _ h => absurd h List.not_mem_nil

/-- The codes of the values: two stores that tile the block. -/
theorem read_codesV (arg4 : Memref sig .tc .vmem S1x256x256 .bf16) (X4 : BufTy.Contents (Elt F) arg4.view.ty) (arg7 : Memref sig .tc .vmem S1x256x256 .fp8e4m3) (f7 : BufTy.Contents (Elt F) arg7.view.ty) :
    arg7.view.read (Elt F) (arg7.view.writes (Elt F) f7 (⟨Rect.unit ![0, 128, 0] S1x128x256.size inb_S1x256x256_S1x128x256_0_128_0, k0_pay123 (kernelRun.sl.r_66 arg4 X4) (kernelRun.sl.r_67 arg4 X4)⟩ :: kernelRun.sl.H7_1 arg4 X4)) = out1 (arg4.view.read (Elt F) X4) := by
  funext y
  refine View.read_writes_apply_of_pieces arg7.view f7 (out1 (arg4.view.read (Elt F) X4)) _ ?_ y (View.cover_of_tiledL (s := S1x256x256) _ S1x128x256.size (by sl_kernel_rfl) y)
  refine List.forall_mem_cons.mpr ⟨piece1 arg4.view X4 1 _ rfl inb_S1x256x256_S1x128x256_0_128_0, ?_⟩
  refine List.forall_mem_cons.mpr ⟨piece1 arg4.view X4 0 _ rfl inb_S1x256x256_S1x128x256_0_0_0, ?_⟩
  exact fun _ h => absurd h List.not_mem_nil

end Cert.Proof.Quant

end
-- ==== Proof.QuantRows.lean ====
/- `Quant`: the two rows of scales that a grid point stores. -/
module

public import proofs.«01_k».proof.Proof.QuantBlocks
public import proofs.«01_k».proof.Proof.Gen.Quant.Points
public import Idealize.ShloMosaic.Lib.WritesUnit

@[expose] public section

set_option maxRecDepth 65536
set_option maxHeartbeats 4000000

noncomputable section

namespace Cert.Proof.Quant

open Cert.Quant Cert.Quant.Gen
open Idealize.ShloMosaic Idealize.ShloMosaic.TcCoe Idealize.ShloMosaic.Tactic

variable {F : FTy → Type} [BitOps F]

/-- A row with the scale `s` laid in the lane `c`. -/
def lay (c : BitVec 32) (s : FVec F S1x1 .f32) (row : FVec F S1x128 .f32) : FVec F S1x128 .f32 :=
  select (cmpi .eq (iota .tc S1x128 32 [1] iota_S1x128_d1_w32) (broadcast S1x128 c)) (broadcastTo S1x128 (shapeCast S1x1 s shapeCasts_S1x1_S1x1) broadcasts_S1x1_S1x128) row

theorem lay_apply (c : ℕ) (hc : c < 128) (s : FVec F S1x1 .f32) (row : FVec F S1x128 .f32) (y : S1x128.Idx) :
    lay (BitVec.ofNat 32 c) s row y = if (y 1).val = c then s (ix2 (0 : Fin 1) (0 : Fin 1)) else row y := by
  have b1 : (y 1).val < 128 := (y 1).isLt
  pointwise [lay]
  unfold Scalar.select IntOp.cmpi
  by_cases h : (y 1).val = c
  · rw [if_pos h, h]; simp
  · rw [if_neg h]
    have : BitVec.ofNat 32 (y 1).val ≠ BitVec.ofNat 32 c := fun e => h (by have := congrArg BitVec.toNat e; simp only [BitVec.toNat_ofNat] at this; omega)
    exact if_neg fun e => by
      have e' : BitVec.ofBool (BitVec.ofNat 32 (y 1).val == BitVec.ofNat 32 c) = 1#1 := e
      rw [beq_eq_false_iff_ne.mpr this] at e'
      exact absurd e' (by decide)

/-- The scales of row block `j`, by lane: the eight heads, the keys, the values, then zeros. -/
def rowOf (x : Vec F S1x256x2048 .bf16) (k v : Vec F S1x256x256 .bf16) (j : ℕ) (l : ℕ) : F .f32 :=
  if l < 8 then scale (blk8 x j l) else if l = 8 then scale (blk1 k j) else if l = 9 then scale (blk1 v j)
  else Scalar.ofBits .f32 0x00000000#32

/-- Ten scales laid one after the other. -/
def layAll (s : ℕ → FVec F S1x1 .f32) : FVec F S1x128 .f32 :=
  lay 9#32 (s 9) (lay 8#32 (s 8) (lay 7#32 (s 7) (lay 6#32 (s 6) (lay 5#32 (s 5) (lay 4#32 (s 4) (lay 3#32 (s 3) (lay 2#32 (s 2)
    (lay 1#32 (s 1) (lay 0#32 (s 0) k0_pay2)))))))))

theorem layAll_apply (s : ℕ → FVec F S1x1 .f32) (y : S1x128.Idx) :
    layAll s y = if (y 1).val < 10 then s (y 1).val (ix2 (0 : Fin 1) (0 : Fin 1)) else Scalar.ofBits .f32 0x00000000#32 := by
  unfold layAll
  rw [lay_apply 9 (by decide), lay_apply 8 (by decide), lay_apply 7 (by decide), lay_apply 6 (by decide), lay_apply 5 (by decide),
    lay_apply 4 (by decide), lay_apply 3 (by decide), lay_apply 2 (by decide), lay_apply 1 (by decide), lay_apply 0 (by decide)]
  generalize (y 1).val = l
  by_cases h : l < 10
  · rw [if_pos h]
    interval_cases l <;> simp
  · rw [if_neg h]
    repeat rw [if_neg (by omega)]
    rfl

/-- The scales of the ten blocks of one half of a point's rows, as the body loads them. -/
def loads (arg2 : Memref sig .tc .vmem S1x256x2048 .bf16) (arg3 arg4 : Memref sig .tc .vmem S1x256x256 .bf16)
    (X2 : BufTy.Contents (Elt F) arg2.view.ty) (X3 : BufTy.Contents (Elt F) arg3.view.ty) (X4 : BufTy.Contents (Elt F) arg4.view.ty) (j l : ℕ) : FVec F S1x1 .f32 :=
  k0_pay5 (if l < 8 then blk8 (arg2.view.read (Elt F) X2) j l else if l = 8 then blk1 (arg3.view.read (Elt F) X3) j else blk1 (arg4.view.read (Elt F) X4) j)

theorem row0 (arg2 : Memref sig .tc .vmem S1x256x2048 .bf16) (arg3 arg4 : Memref sig .tc .vmem S1x256x256 .bf16)
    (X2 : BufTy.Contents (Elt F) arg2.view.ty) (X3 : BufTy.Contents (Elt F) arg3.view.ty) (X4 : BufTy.Contents (Elt F) arg4.view.ty) :
    k0_pay65 kernelRun.sl.v0 (kernelRun.sl.r_31 arg2 arg3 X2 X3) (kernelRun.sl.r_33 arg4 X4)
      = shapeCast S1x1x128 (layAll (loads arg2 arg3 arg4 X2 X3 X4 0)) shapeCasts_S1x128_S1x1x128 := by
  unfold layAll loads
  simp only [show (9:ℕ) < 8 ↔ False by decide, show (8:ℕ) < 8 ↔ False by decide, show (7:ℕ) < 8 ↔ True by decide, show (6:ℕ) < 8 ↔ True by decide,
    show (5:ℕ) < 8 ↔ True by decide, show (4:ℕ) < 8 ↔ True by decide, show (3:ℕ) < 8 ↔ True by decide, show (2:ℕ) < 8 ↔ True by decide,
    show (1:ℕ) < 8 ↔ True by decide, show (0:ℕ) < 8 ↔ True by decide, show (9:ℕ) = 8 ↔ False by decide, show (8:ℕ) = 8 ↔ True by decide, if_true, if_false]
  rw [← load8 arg2.view X2 0 7 _ rfl inb_S1x256x2048_S1x128x256_0_0_1792, ← load8 arg2.view X2 0 6 _ rfl inb_S1x256x2048_S1x128x256_0_0_1536,
    ← load8 arg2.view X2 0 5 _ rfl inb_S1x256x2048_S1x128x256_0_0_1280, ← load8 arg2.view X2 0 4 _ rfl inb_S1x256x2048_S1x128x256_0_0_1024,
    ← load8 arg2.view X2 0 3 _ rfl inb_S1x256x2048_S1x128x256_0_0_768, ← load8 arg2.view X2 0 2 _ rfl inb_S1x256x2048_S1x128x256_0_0_512,
    ← load8 arg2.view X2 0 1 _ rfl inb_S1x256x2048_S1x128x256_0_0_256, ← load8 arg2.view X2 0 0 _ rfl inb_S1x256x2048_S1x128x256_0_0_0,
    ← load1 arg3.view X3 0 _ rfl inb_S1x256x256_S1x128x256_0_0_0, ← load1 arg4.view X4 0 _ rfl inb_S1x256x256_S1x128x256_0_0_0]
  rfl

theorem row1 (arg2 : Memref sig .tc .vmem S1x256x2048 .bf16) (arg3 arg4 : Memref sig .tc .vmem S1x256x256 .bf16)
    (X2 : BufTy.Contents (Elt F) arg2.view.ty) (X3 : BufTy.Contents (Elt F) arg3.view.ty) (X4 : BufTy.Contents (Elt F) arg4.view.ty) :
    k0_pay1 (kernelRun.sl.r_68 arg2 arg3 arg4 X2 X3 X4)
      = shapeCast S1x1x128 (layAll (loads arg2 arg3 arg4 X2 X3 X4 1)) shapeCasts_S1x128_S1x1x128 := by
  unfold layAll loads
  simp only [show (9:ℕ) < 8 ↔ False by decide, show (8:ℕ) < 8 ↔ False by decide, show (7:ℕ) < 8 ↔ True by decide, show (6:ℕ) < 8 ↔ True by decide,
    show (5:ℕ) < 8 ↔ True by decide, show (4:ℕ) < 8 ↔ True by decide, show (3:ℕ) < 8 ↔ True by decide, show (2:ℕ) < 8 ↔ True by decide,
    show (1:ℕ) < 8 ↔ True by decide, show (0:ℕ) < 8 ↔ True by decide, show (9:ℕ) = 8 ↔ False by decide, show (8:ℕ) = 8 ↔ True by decide, if_true, if_false]
  rw [← load8 arg2.view X2 1 7 _ rfl inb_S1x256x2048_S1x128x256_0_128_1792, ← load8 arg2.view X2 1 6 _ rfl inb_S1x256x2048_S1x128x256_0_128_1536,
    ← load8 arg2.view X2 1 5 _ rfl inb_S1x256x2048_S1x128x256_0_128_1280, ← load8 arg2.view X2 1 4 _ rfl inb_S1x256x2048_S1x128x256_0_128_1024,
    ← load8 arg2.view X2 1 3 _ rfl inb_S1x256x2048_S1x128x256_0_128_768, ← load8 arg2.view X2 1 2 _ rfl inb_S1x256x2048_S1x128x256_0_128_512,
    ← load8 arg2.view X2 1 1 _ rfl inb_S1x256x2048_S1x128x256_0_128_256, ← load8 arg2.view X2 1 0 _ rfl inb_S1x256x2048_S1x128x256_0_128_0,
    ← load1 arg3.view X3 1 _ rfl inb_S1x256x256_S1x128x256_0_128_0, ← load1 arg4.view X4 1 _ rfl inb_S1x256x256_S1x128x256_0_128_0]
  rfl

/-- A stored row, lane by lane. -/
theorem row_apply (arg2 : Memref sig .tc .vmem S1x256x2048 .bf16) (arg3 arg4 : Memref sig .tc .vmem S1x256x256 .bf16)
    (X2 : BufTy.Contents (Elt F) arg2.view.ty) (X3 : BufTy.Contents (Elt F) arg3.view.ty) (X4 : BufTy.Contents (Elt F) arg4.view.ty) (j : ℕ) (z : S1x1x128.Idx) :
    shapeCast S1x1x128 (layAll (loads arg2 arg3 arg4 X2 X3 X4 j)) shapeCasts_S1x128_S1x1x128 z
      = rowOf (arg2.view.read (Elt F) X2) (arg3.view.read (Elt F) X3) (arg4.view.read (Elt F) X4) j (z 2).val := by
  have h : shapeCast S1x1x128 (layAll (loads arg2 arg3 arg4 X2 X3 X4 j)) shapeCasts_S1x128_S1x1x128 z
      = layAll (loads arg2 arg3 arg4 X2 X3 X4 j) (ix2 (0 : Fin 1) (z 2)) := by
    pointwise
  rw [h, layAll_apply]
  show (if (z 2).val < 10 then loads arg2 arg3 arg4 X2 X3 X4 j (z 2).val (ix2 (0 : Fin 1) (0 : Fin 1)) else _) = _
  unfold rowOf loads
  by_cases h8 : (z 2).val < 8
  · rw [if_pos (by omega), if_pos h8, if_pos h8]; rfl
  · by_cases h9 : (z 2).val = 8
    · rw [if_pos (by omega), if_neg h8, if_neg h8, if_pos h9, if_pos h9]; rfl
    · by_cases h10 : (z 2).val = 9
      · rw [if_pos (by omega), if_neg h8, if_neg h8, if_neg h9, if_neg h9, if_pos h10]; rfl
      · rw [if_neg (by omega), if_neg h8, if_neg h9, if_neg h10]

/-- The block of scales after a point: its two rows are new, the others are as they were. -/
theorem read_scales (i : grid0.Coords) (arg2 : Memref sig .tc .vmem S1x256x2048 .bf16) (arg3 arg4 : Memref sig .tc .vmem S1x256x256 .bf16)
    (X2 : BufTy.Contents (Elt F) arg2.view.ty) (X3 : BufTy.Contents (Elt F) arg3.view.ty) (X4 : BufTy.Contents (Elt F) arg4.view.ty)
    (arg8 : Memref sig .tc .vmem S1x64x128 .f32) (f8 : BufTy.Contents (Elt F) arg8.view.ty) (inb : ∀ a, k0_off1 i 1#32 a + S1x1x128.size a ≤ S1x64x128.size a) (y : S1x64x128.Idx) :
    arg8.view.read (Elt F) (arg8.view.writes (Elt F) f8 (⟨Rect.unit (k0_off1 i 1#32) S1x1x128.size inb, k0_pay1 (kernelRun.sl.r_68 arg2 arg3 arg4 X2 X3 X4)⟩ :: kernelRun.sl.H8_1 i arg2 arg3 arg4 X2 X3 X4)) y
      = if (y 1).val / 2 = (i 1).val then
          rowOf (arg2.view.read (Elt F) X2) (arg3.view.read (Elt F) X3) (arg4.view.read (Elt F) X4) ((y 1).val % 2) (y 2).val
        else arg8.view.read (Elt F) f8 y := by
  have o1 : k0_off1 i 1#32 = ![0, 2 * (i 1).val + 1, 0] := k0_off1_eq i 1
  have o0 : k0_off1 i 0#32 = ![0, 2 * (i 1).val, 0] := k0_off1_eq i 0
  have b0 : (y 0).val < 1 := (y 0).isLt
  unfold kernelRun.sl.H8_1
  by_cases h1 : (y 1).val = 2 * (i 1).val + 1
  · rw [View.read_writes_cons_unit_of_mem arg8.view f8 inb _ _ y (ix3 (0 : Fin 1) (0 : Fin 1) (y 2)) o1 (by
        intro a; fin_cases a
        · show (y 0).val = 0 + 0; omega
        · show (y 1).val = 2 * (i 1).val + 1 + 0; omega
        · show (y 2).val = 0 + (y 2).val; omega)]
    rw [row1, row_apply, if_pos (by omega), show (y 1).val % 2 = 1 by omega]; rfl
  · rw [View.read_writes_cons_unit_of_not_mem arg8.view f8 inb _ _ y o1 1 (by
        show (y 1).val < 2 * (i 1).val + 1 ∨ 2 * (i 1).val + 1 + 1 ≤ (y 1).val; omega)]
    by_cases h0 : (y 1).val = 2 * (i 1).val
    · rw [View.read_writes_cons_unit_of_mem arg8.view f8 (size := S1x1x128.size) _ _ _ y (ix3 (0 : Fin 1) (0 : Fin 1) (y 2)) o0 (by
          intro a; fin_cases a
          · show (y 0).val = 0 + 0; omega
          · show (y 1).val = 2 * (i 1).val + 0; omega
          · show (y 2).val = 0 + (y 2).val; omega)]
      rw [row0, row_apply, if_pos (by omega), show (y 1).val % 2 = 0 by omega]; rfl
    · rw [View.read_writes_cons_unit_of_not_mem arg8.view f8 (size := S1x1x128.size) _ _ _ y o0 1 (by
          show (y 1).val < 2 * (i 1).val ∨ 2 * (i 1).val + 1 ≤ (y 1).val; omega)]
      rw [if_neg (by omega)]
      rfl

end Cert.Proof.Quant

end
-- ==== Proof.QuantValue.lean ====
/- `Quant`: every execution of the whole program terminates, leaves the argument arrays as they were and the four output arrays at
   functions of them. -/
module

public import proofs.«01_k».proof.Proof.QuantRows
public import Idealize.ShloMosaic.Lib.Pipeline.FrameBody
public import Idealize.ShloMosaic.Lib.Pipeline.ValueKit
public import Idealize.ShloMosaic.Lib.Pipeline.ArrRel

@[expose] public section

set_option maxRecDepth 65536
set_option maxHeartbeats 8000000

noncomputable section

namespace Cert.Proof.Quant

open Idealize.ShloMosaic.Pipeline (Dat RDat Cfg Window cellOf)
open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame: points-tos alone. -/
local notation "𝕄" => MT nD τ sig Unit (Elt F) ℕ (UR sig nD τ) ℕ

/-- The block of scales after a point that finds it at `Y`: two rows are new. -/
def scales (i : grid0.Coords) (x : Vec F S1x256x2048 .bf16) (k v : Vec F S1x256x256 .bf16) (Y : Vec F S1x64x128 .f32) : Vec F S1x64x128 .f32 :=
  fun y => if (y 1).val / 2 = (i 1).val then rowOf x k v ((y 1).val % 2) (y 2).val else Y y

/-- The body, from its inputs' blocks: the codes of each, and two rows of scales. -/
theorem sound_kernel (c : Dev nD) (i : grid0.Coords) (arg2 : Memref sig .tc .vmem S1x256x2048 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x2048 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x64x128 .f32) (harg8 : arg8.IsWhole)
    (x2 : Vec F S1x256x2048 .bf16) (x3 x4 : Vec F S1x256x256 .bf16) (y5 : Vec F S1x256x2048 .fp8e4m3) (y6 y7 : Vec F S1x256x256 .fp8e4m3) (y8 : Vec F S1x64x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6 ∗ owns (c : Thread nD τ) arg7 fullShare y7 ∗ owns (c : Thread nD τ) arg8 fullShare y8
        ∗ (iprop(owns (c : Thread nD τ) arg2 fullShare x2 ∗ owns (c : Thread nD τ) arg3 fullShare x3 ∗ owns (c : Thread nD τ) arg4 fullShare x4
          ∗ owns (c : Thread nD τ) arg5 fullShare (out8 x2) ∗ owns (c : Thread nD τ) arg6 fullShare (out1 x3) ∗ owns (c : Thread nD τ) arg7 fullShare (out1 x4)
          ∗ owns (c : Thread nD τ) arg8 fullShare (scales i x2 x3 x4 y8)) -∗ K ⟨⟩))
      ⊢ wp frame (wpE (defs₀ (F := F)) Variants.none (c : Thread nD τ) none) Set.univ (cc0_quant (F := F) i arg2 harg2 arg3 harg3 arg4 harg4 arg5 harg5 arg6 harg6 arg7 harg7 arg8 harg8) K := by
  unfold owns
  iintro ⟨⟨%X2, %e2, H2⟩, ⟨%X3, %e3, H3⟩, ⟨%X4, %e4, H4⟩, ⟨%f5, %e5, H5⟩, ⟨%f6, %e6, H6⟩, ⟨%f7, %e7, H7⟩, ⟨%f8, %e8, H8⟩, Hk⟩
  iapply (wp_wand_r _ _ _)
  isplitl [H2 H3 H4 H5 H6 H7 H8]
  · iapply (kernelRun c i arg2 harg2 arg3 harg3 arg4 harg4 arg5 harg5 arg6 harg6 arg7 harg7 arg8 harg8 X2 X3 X4 f5 f6 f7 f8).2.2.2.2
    isplitl [H2]; · iexact H2
    isplitl [H3]; · iexact H3
    isplitl [H4]; · iexact H4
    isplitl [H5]; · iexact H5
    isplitl [H6]; · iexact H6
    isplitl [H7]; · iexact H7
    iexact H8
  · iintro %a ⟨H2, H3, H4, H5, H6, H7, H8⟩
    iapply Hk
    isplitl [H2]
    · iexists X2; isplitr; swap; · iexact H2
      ipureintro; exact e2
    isplitl [H3]
    · iexists X3; isplitr; swap; · iexact H3
      ipureintro; exact e3
    isplitl [H4]
    · iexists X4; isplitr; swap; · iexact H4
      ipureintro; exact e4
    isplitl [H5]
    · iexists _; isplitr; swap; · iexact H5
      ipureintro; unfold kernelRun; subst e2; exact read_codes8 arg2 X2 arg5 f5
    isplitl [H6]
    · iexists _; isplitr; swap; · iexact H6
      ipureintro; unfold kernelRun; subst e3; exact read_codesK arg3 X3 arg6 f6
    isplitl [H7]
    · iexists _; isplitr; swap; · iexact H7
      ipureintro; unfold kernelRun; subst e4; exact read_codesV arg4 X4 arg7 f7
    iexists _; isplitr; swap; · iexact H8
    ipureintro; unfold kernelRun; subst e2 e3 e4 e8; exact funext fun y => read_scales i arg2 arg3 arg4 X2 X3 X4 arg8 f8 _ y

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: an input's block stays as it is found; the codes are the codes of the blocks; the block of scales gets two new rows. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = out8 (iblk m c 0 t)
    | ⟨4, _⟩ => fun Y X => X = out1 (iblk m c 1 t)
    | ⟨5, _⟩ => fun Y X => X = out1 (iblk m c 2 t)
    | ⟨6, _⟩ => fun Y X => X = scales (grid0.coords t) (iblk m c 0 t) (iblk m c 1 t) (iblk m c 2 t) Y
  Φ _ := Pipeline.ΦA spec0 c
  q _ := fullShare
  owed _ := 0

theorem finds0 (c : Dev nD) (t : Fin cfg0.N) (Y) (h : (rdat m c).Finds 0 t Y) : Y = iblk m c 0 t := by
  obtain ⟨d, hd⟩ := ((rdat m c).finds_of_fetch (fetch0_0 t) Y).1 h
  exact hd.trans rfl
theorem finds1 (c : Dev nD) (t : Fin cfg0.N) (Y) (h : (rdat m c).Finds 1 t Y) : Y = iblk m c 1 t := by
  obtain ⟨d, hd⟩ := ((rdat m c).finds_of_fetch (fetch0_1 t) Y).1 h
  exact hd.trans rfl
theorem finds2 (c : Dev nD) (t : Fin cfg0.N) (Y) (h : (rdat m c).Finds 2 t Y) : Y = iblk m c 2 t := by
  obtain ⟨d, hd⟩ := ((rdat m c).finds_of_fetch (fetch0_2 t) Y).1 h
  exact hd.trans rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  have h0 := finds0 m c t (Y 0) (hY 0)
  have h1 := finds1 m c t (Y 1) (hY 1)
  have h2 := finds2 m c t (Y 2) (hY 2)
  rw [bigSep_W0, bigSep_W0, defs₀_row]
  unfold bodyAt0
  rw [h0, h1, h2]
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply (sound_kernel c _ _ _ _ _ _ _ _ _ _ _ _ _ _ _ (iblk m c 0 t) (iblk m c 1 t) (iblk m c 2 t) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  iexists _; isplitr; swap; · iexact H6
  ipureintro; rfl

set_option backward.isDefEq.respectTransparency.types false in
theorem run_main : θ_run defs (onTc (τ := τ) (main (F := F))) (s₀ m ρ)
      (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

end Cert.Proof.Quant

end
-- ==== Proof.QuantArrays.lean ====
/- `Quant`: the four output arrays after the run, as functions of the argument arrays. -/
module

public import proofs.«01_k».proof.Proof.QuantValue

@[expose] public section

set_option maxRecDepth 65536
set_option maxHeartbeats 8000000

noncomputable section

namespace Cert.Proof.Quant

open Idealize.ShloMosaic.Pipeline (Dat RDat Cfg Window cellOf)
open Cert.Quant Cert.Quant.Gen
open Idealize.ShloMosaic Idealize.ShloMosaic.TcCoe Idealize.ShloMosaic.Tactic
open Idealize.SL.Sem

variable {F : FTy → Type} [BitOps F]

/-- Block `j`, `h` of batch `b` of the wide argument. -/
def blkQ (a : Vec F S8x8192x2048 .bf16) (b : Fin 8) (j h : ℕ) : Vec F S1x128x256 .bf16 :=
  fun z => a (ix3 b (Fin.ofNat 8192 (128 * j + (z 1).val)) (Fin.ofNat 2048 (256 * h + (z 2).val)))
/-- Block `j` of batch `b` of a narrow argument. -/
def blkK (a : Vec F S8x8192x256 .bf16) (b : Fin 8) (j : ℕ) : Vec F S1x128x256 .bf16 :=
  fun z => a (ix3 b (Fin.ofNat 8192 (128 * j + (z 1).val)) (z 2))
/-- The codes of the wide argument. -/
def GQ (a : Vec F S8x8192x2048 .bf16) : Vec F S8x8192x2048 .fp8e4m3 := fun y =>
  codes (blkQ a (y 0) ((y 1).val / 128) ((y 2).val / 256)) (ix3 (0 : Fin 1) (Fin.ofNat 128 (y 1).val) (Fin.ofNat 256 (y 2).val))
/-- The codes of a narrow argument. -/
def GK (a : Vec F S8x8192x256 .bf16) : Vec F S8x8192x256 .fp8e4m3 := fun y =>
  codes (blkK a (y 0) ((y 1).val / 128)) (ix3 (0 : Fin 1) (Fin.ofNat 128 (y 1).val) (y 2))
/-- The scales: a row for each row block, its lanes the eight heads, the keys, the values, then zeros. -/
def GS (a0 : Vec F S8x8192x2048 .bf16) (a1 a2 : Vec F S8x8192x256 .bf16) : Vec F S8x64x128 .f32 := fun y =>
  if (y 2).val < 8 then scale (blkQ a0 (y 0) (y 1).val (y 2).val) else if (y 2).val = 8 then scale (blkK a1 (y 0) (y 1).val)
  else if (y 2).val = 9 then scale (blkK a2 (y 0) (y 1).val) else Scalar.ofBits .f32 0x00000000#32

variable (m : (ℓ : Loc nD τ sig) → Buf (Elt F) ℓ) (ρ : Dev nD → PrngReg)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, (grid0.coords t 1).val, 0] := (by decide +kernel : ∀ t : Fin grid0.N, _)
theorem idx6 : ∀ t : Fin cfg0.N, win0_6.index t = ![(grid0.coords t 0).val, 0, 0] := (by decide +kernel : ∀ t : Fin grid0.N, _)
theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)
theorem fetch6 : ∀ t : Fin cfg0.N, (cfg0.win 6).fetch t = false := (by decide +kernel : ∀ t : Fin grid0.N, _)

/-- A block of the wide input at a point is a block of its argument. -/
theorem blk_q (c : Dev nD) (t : Fin cfg0.N) (j h : ℕ) (hj : j < 2) (hh : h < 8) :
    blk8 (iblk m c 0 t) j h = blkQ (V m c main_arg0) (grid0.coords t 0) (2 * (grid0.coords t 1).val + j) h := by
  have e0 := idx0 t
  have h1 : (grid0.coords t 1).val < 32 := (grid0.coords t 1).isLt
  unfold blk8 blkQ
  funext y
  idx_bounds y
  blk_simp [iblk, e0]
  congr 1
  blk_ext [e0] <;> simp only [Fin.val_ofNat] <;> omega
theorem blk_k (c : Dev nD) (t : Fin cfg0.N) (j : ℕ) (hj : j < 2) :
    blk1 (iblk m c 1 t) j = blkK (V m c main_arg1) (grid0.coords t 0) (2 * (grid0.coords t 1).val + j) := by
  have e0 := idx1 t
  have h1 : (grid0.coords t 1).val < 32 := (grid0.coords t 1).isLt
  unfold blk1 blkK
  funext y
  idx_bounds y
  blk_simp [iblk, e0]
  congr 1
  blk_ext [e0] <;> simp only [Fin.val_ofNat] <;> omega
theorem blk_v (c : Dev nD) (t : Fin cfg0.N) (j : ℕ) (hj : j < 2) :
    blk1 (iblk m c 2 t) j = blkK (V m c main_arg2) (grid0.coords t 0) (2 * (grid0.coords t 1).val + j) := by
  have e0 := idx2 t
  have h1 : (grid0.coords t 1).val < 32 := (grid0.coords t 1).isLt
  unfold blk1 blkK
  funext y
  idx_bounds y
  blk_simp [iblk, e0]
  congr 1
  blk_ext [e0] <;> simp only [Fin.val_ofNat] <;> omega

/-- A row of scales at a point is a row of the array's. -/
theorem row_eq (c : Dev nD) (t : Fin cfg0.N) (j : ℕ) (hj : j < 2) (r : Fin 64) (hr : r.val = 2 * (grid0.coords t 1).val + j) (l : Fin 128) :
    rowOf (iblk m c 0 t) (iblk m c 1 t) (iblk m c 2 t) j l.val = GS (V m c main_arg0) (V m c main_arg1) (V m c main_arg2) (ix3 (grid0.coords t 0) r l) := by
  unfold rowOf
  show _ = if l.val < 8 then scale (blkQ (V m c main_arg0) (grid0.coords t 0) r.val l.val) else if l.val = 8 then scale (blkK (V m c main_arg1) (grid0.coords t 0) r.val)
    else if l.val = 9 then scale (blkK (V m c main_arg2) (grid0.coords t 0) r.val) else Scalar.ofBits .f32 0x00000000#32
  rw [hr]
  by_cases h8 : l.val < 8
  · rw [if_pos h8, if_pos h8, blk_q m c t j l.val hj h8]
  · rw [if_neg h8, if_neg h8, blk_k m c t j hj, blk_v m c t j hj]

/-- What the block of scales holds after a point: the rows of the batch so far. -/
theorem leaves6 (c : Dev nD) : ∀ (n : ℕ) (t : Fin cfg0.N), t.val = n → ∀ X, (rdat m c).Leaves 6 t X → ∀ (r : Fin 64) (l : Fin 128), r.val / 2 ≤ t.val % 32 →
    X (ix3 (0 : Fin 1) r l) = GS (V m c main_arg0) (V m c main_arg1) (V m c main_arg2) (ix3 (grid0.coords t 0) r l) := by
  intro n
  induction n with
  | zero =>
    rintro t ht X ⟨Y, -, hX⟩ r l hr
    have hX' : X = scales (grid0.coords t) (iblk m c 0 t) (iblk m c 1 t) (iblk m c 2 t) Y := hX
    have c1 := coord1 t
    rw [hX']
    show (if r.val / 2 = (grid0.coords t 1).val then rowOf (iblk m c 0 t) (iblk m c 1 t) (iblk m c 2 t) (r.val % 2) l.val else _) = _
    rw [if_pos (by omega)]
    exact row_eq m c t _ (by omega) r (by omega) l
  | succ n ih =>
    rintro t ht X ⟨Y, hY, hX⟩ r l hr
    have hX' : X = scales (grid0.coords t) (iblk m c 0 t) (iblk m c 1 t) (iblk m c 2 t) Y := hX
    have c1 := coord1 t
    rw [hX']
    show (if r.val / 2 = (grid0.coords t 1).val then rowOf (iblk m c 0 t) (iblk m c 1 t) (iblk m c 2 t) (r.val % 2) l.val else Y (ix3 (0 : Fin 1) r l)) = _
    by_cases h : r.val / 2 = (grid0.coords t 1).val
    · rw [if_pos h]
      exact row_eq m c t _ (by omega) r (by omega) l
    · rw [if_neg h]
      rcases ((rdat m c).finds_of_pos (fetch6 t) (by omega) Y).1 hY with hf | hL
      · have := (flush0_6 _).1 hf
        have e : (t.val - 1) % 32 = 31 := this
        omega
      · have e := ih ⟨t.val - 1, Nat.lt_of_le_of_lt (Nat.sub_le _ _) t.isLt⟩ (by show t.val - 1 = n; omega) Y hL r l (by show r.val / 2 ≤ (t.val - 1) % 32; omega)
        rw [e]
        congr 2
        apply Fin.ext
        rw [coord0, coord0]
        show (t.val - 1) / 32 = t.val / 32
        omega

variable (c : Dev nD) (after : (w' : Fin cfg0.W) → Fin cfg0.N → (cfg0.win w').block.Idx → Elt F (cfg0.win w').elt)
  (hL : ∀ (w : Fin cfg0.W) (u : Fin cfg0.N), (cfg0.win w).flush u = true → (rdat m c).Leaves w u (after w u))

include hL in
theorem final3 : ((rdat m c).withAfter after).arrAt 3 cfg0.N = GQ (V m c main_arg0) := by
  refine ((rdat m c).withAfter after).arrAt_eq_of_covers 3 _ (by decide +kernel) fun t hf y => ?_
  have e := idx3 t
  obtain ⟨Y, -, hX⟩ := hL 3 t hf
  have hX' : after 3 t = out8 (iblk m c 0 t) := hX
  idx_bounds y
  blk_simp
  rw [RDat.withAfter_after, hX']
  unfold out8 GQ
  rw [blk_q m c t _ _ (by omega) (by omega)]
  blk_simp [e]
  have h0 : (win0_3.blk t).view.emb y 0 = grid0.coords t 0 := Fin.ext (by blk_simp [e])
  have h1 : Fin.ofNat 128 ((grid0.coords t 1).val * 256 + (y 1).val) = Fin.ofNat 128 (y 1).val := Fin.ext (by simp only [Fin.val_ofNat]; omega)
  rw [h0, show ((grid0.coords t 1).val * 256 + (y 1).val) / 128 = 2 * (grid0.coords t 1).val + (y 1).val / 128 by omega, h1]

include hL in
theorem final4 : ((rdat m c).withAfter after).arrAt 4 cfg0.N = GK (V m c main_arg1) := by
  refine ((rdat m c).withAfter after).arrAt_eq_of_covers 4 _ (by decide +kernel) fun t hf y => ?_
  have e := idx4 t
  obtain ⟨Y, -, hX⟩ := hL 4 t hf
  have hX' : after 4 t = out1 (iblk m c 1 t) := hX
  idx_bounds y
  blk_simp
  rw [RDat.withAfter_after, hX']
  unfold out1 GK
  rw [blk_k m c t _ (by omega)]
  blk_simp [e]
  have h0 : (win0_4.blk t).view.emb y 0 = grid0.coords t 0 := Fin.ext (by blk_simp [e])
  have h2 : (win0_4.blk t).view.emb y 2 = y 2 := Fin.ext (by blk_simp [e])
  have h1 : Fin.ofNat 128 ((grid0.coords t 1).val * 256 + (y 1).val) = Fin.ofNat 128 (y 1).val := Fin.ext (by simp only [Fin.val_ofNat]; omega)
  rw [h0, show ((grid0.coords t 1).val * 256 + (y 1).val) / 128 = 2 * (grid0.coords t 1).val + (y 1).val / 128 by omega, h1, h2]

include hL in
theorem final5 : ((rdat m c).withAfter after).arrAt 5 cfg0.N = GK (V m c main_arg2) := by
  refine ((rdat m c).withAfter after).arrAt_eq_of_covers 5 _ (by decide +kernel) fun t hf y => ?_
  have e := idx5 t
  obtain ⟨Y, -, hX⟩ := hL 5 t hf
  have hX' : after 5 t = out1 (iblk m c 2 t) := hX
  idx_bounds y
  blk_simp
  rw [RDat.withAfter_after, hX']
  unfold out1 GK
  rw [blk_v m c t _ (by omega)]
  blk_simp [e]
  have h0 : (win0_5.blk t).view.emb y 0 = grid0.coords t 0 := Fin.ext (by blk_simp [e])
  have h2 : (win0_5.blk t).view.emb y 2 = y 2 := Fin.ext (by blk_simp [e])
  have h1 : Fin.ofNat 128 ((grid0.coords t 1).val * 256 + (y 1).val) = Fin.ofNat 128 (y 1).val := Fin.ext (by simp only [Fin.val_ofNat]; omega)
  rw [h0, show ((grid0.coords t 1).val * 256 + (y 1).val) / 128 = 2 * (grid0.coords t 1).val + (y 1).val / 128 by omega, h1, h2]

include hL in
theorem final6 : ((rdat m c).withAfter after).arrAt 6 cfg0.N = GS (V m c main_arg0) (V m c main_arg1) (V m c main_arg2) := by
  refine ((rdat m c).withAfter after).arrAt_eq_of_covers 6 _ (by decide +kernel) fun t hf y => ?_
  have e6 := idx6 t
  have hX := leaves6 m c t.val t rfl (after 6 t) (hL 6 t hf) (y 1) (y 2) (by
    have := (flush0_6 t).1 hf
    idx_bounds y
    omega)
  idx_bounds y
  blk_simp
  rw [RDat.withAfter_after]
  refine (congrArg (after 6 t) (?_ : y = ix3 (0 : Fin 1) (y 1) (y 2))).trans (hX.trans (congrArg (GS _ _ _) ?_))
  · refine funext fun a => Fin.ext ?_
    fin_cases a
    · show (y 0).val = 0; omega
    · rfl
    · rfl
  · refine funext fun a => Fin.ext ?_
    fin_cases a
    · symm; show (((win0_6.blk t).view.emb y) 0).val = (grid0.coords t 0).val; blk_simp [e6]
    · symm; show (((win0_6.blk t).view.emb y) 1).val = (y 1).val; blk_simp [e6]
    · symm; show (((win0_6.blk t).view.emb y) 2).val = (y 2).val; blk_simp [e6]

/-- The run: the four output arrays at their functions of the arguments, the arguments unchanged, every counter at zero. -/
theorem run_all : θ_run defs (onTc (τ := τ) (main (F := F))) ⟨m, fun _ => 0, ρ⟩ (fun r => (∀ c : Dev nD,
      r.2.mem ((c.tc : Thread nD τ).loc main_v0_0) = GQ (m ((c.tc : Thread nD τ).loc main_arg0))
      ∧ r.2.mem ((c.tc : Thread nD τ).loc main_v0_1) = GK (m ((c.tc : Thread nD τ).loc main_arg1))
      ∧ r.2.mem ((c.tc : Thread nD τ).loc main_v0_2) = GK (m ((c.tc : Thread nD τ).loc main_arg2))
      ∧ r.2.mem ((c.tc : Thread nD τ).loc main_v0_3) = GS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => by
    obtain ⟨after, hL, hA⟩ := RDat.FramePost.exists_exact h.1 c
    exact ⟨(hA 3).trans (final3 m c after hL), (hA 4).trans (final4 m c after hL), (hA 5).trans (final5 m c after hL), (hA 6).trans (final6 m c after hL),
      (hA 0).trans (((rdat m c).withAfter after).arrAt_in 0 rfl _), (hA 1).trans (((rdat m c).withAfter after).arrAt_in 1 rfl _),
      (hA 2).trans (((rdat m c).withAfter after).arrAt_in 2 rfl _)⟩, h.2⟩)
    (run_main m ρ)

/-- From any memory with zero counters every execution terminates with the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2.2, h.2⟩) (run_all m ρ)

end Cert.Proof.Quant

end
-- ==== Proof.QuantWords.lean ====
/- The exponent arithmetic of the quantiser on 32-bit words: `frexp` and `ldexp` of the reference
   against the shifts of the kernel, for a number whose exponent field is that of a normal number. -/
module

public import Idealize.ShloMosaic.PureOps
public import Idealize.ShloMosaic.Lib.StableHlo

@[expose] public section

set_option maxRecDepth 65536

noncomputable section

namespace Cert.Proof.Quant.Words

open Idealize.ShloMosaic

/-- The exponent field of a word. -/
def field (w : BitVec 32) : BitVec 32 := IntOp.andi (IntOp.shrui ArithUnit.vector w 23#32) 255#32
/-- A word with a zero exponent field replaced by a zero of its sign. -/
def flush (w : BitVec 32) : BitVec 32 :=
  Scalar.select (IntOp.cmpi .eq (IntOp.andi w 2139095040#32) 0#32) (IntOp.andi w 2147483648#32) w
/-- The reference's exponent: of `frexp`, or 0 where the largest magnitude is zero (`z`). -/
def rexp (z : BitVec 1) (w : BitVec 32) : BitVec 32 :=
  Scalar.select z 0#32 (Scalar.select (IntOp.ori (IntOp.cmpi .eq (field (flush w)) 255#32) (IntOp.cmpi .eq (field (flush w)) 0#32)) 0#32
    (IntOp.subi (field (flush w)) 126#32))
/-- The field of `ldexp 1 e`, before it is cut to the range of a field. -/
def lfield (e : BitVec 32) : BitVec 32 := IntOp.addi 127#32 (IntOp.minsi (IntOp.maxsi e 4294966784#32) 512#32)
/-- The word of `ldexp 1 e`. -/
def pow2 (e : BitVec 32) : BitVec 32 :=
  Scalar.select (IntOp.cmpi .sle (lfield e) 0#32) 0#32 (Scalar.select (IntOp.cmpi .sge (lfield e) 255#32) 2139095040#32
    (IntOp.ori (IntOp.ori 0#32 (IntOp.shli ArithUnit.vector (lfield e) 23#32)) 0#32))
/-- `ldexp` as it is computed from the word of its first argument. -/
def ldexp (o e : BitVec 32) : BitVec 32 :=
  Scalar.select (IntOp.cmpi .eq (field o) 255#32) o (Scalar.select (IntOp.cmpi .eq (field o) 0#32) (IntOp.andi o 2147483648#32)
    (Scalar.select (IntOp.cmpi .sle (IntOp.addi (field o) (IntOp.minsi (IntOp.maxsi e 4294966784#32) 512#32)) 0#32) (IntOp.andi o 2147483648#32)
      (Scalar.select (IntOp.cmpi .sge (IntOp.addi (field o) (IntOp.minsi (IntOp.maxsi e 4294966784#32) 512#32)) 255#32)
        (IntOp.ori (IntOp.andi o 2147483648#32) 2139095040#32)
        (IntOp.ori (IntOp.ori (IntOp.andi o 2147483648#32)
          (IntOp.shli ArithUnit.vector (IntOp.addi (field o) (IntOp.minsi (IntOp.maxsi e 4294966784#32) 512#32)) 23#32)) (IntOp.andi o 8388607#32)))))

/-- At the word of 1 it is the power of two. -/
theorem ldexp_one (e : BitVec 32) : ldexp (flush 1065353216#32) e = pow2 e := by
  rw [show flush 1065353216#32 = 1065353216#32 by decide]
  unfold ldexp
  rw [show field 1065353216#32 = 127#32 by decide, show IntOp.cmpi .eq 127#32 255#32 = 0#1 by decide, show IntOp.cmpi .eq 127#32 0#32 = 0#1 by decide,
    show IntOp.andi 1065353216#32 2147483648#32 = 0#32 by decide, show IntOp.andi 1065353216#32 8388607#32 = 0#32 by decide]
  rfl

/-- The kernel's exponent. -/
def kexp (z : BitVec 1) (w : BitVec 32) : BitVec 32 :=
  Scalar.select z 0#32 (IntOp.subi (IntOp.andi (IntOp.shrsi ArithUnit.vector w 23#32) 255#32) 126#32)
/-- The word of the kernel's scale. -/
def up (e : BitVec 32) : BitVec 32 := IntOp.shli ArithUnit.vector (IntOp.addi e 127#32) 23#32
/-- The word of the kernel's inverse scale. -/
def down (e : BitVec 32) : BitVec 32 := IntOp.shli ArithUnit.vector (IntOp.subi 127#32 e) 23#32

/-- The condition on a block: its largest magnitude is zero, or the scaled one is a normal number below 2^127. -/
def ok (z : BitVec 1) (w : BitVec 32) : BitVec 1 :=
  IntOp.ori z (IntOp.andi (IntOp.cmpi .sgt (IntOp.andi (IntOp.shrsi ArithUnit.host w 23#32) 255#32) 0#32) (IntOp.cmpi .slt (IntOp.andi (IntOp.shrsi ArithUnit.host w 23#32) 255#32) 254#32))

/-- The arithmetic shift agrees with the field: the bits it brings in are cut off. -/
theorem shrsi_field (w : BitVec 32) (u : ArithUnit) : IntOp.andi (IntOp.shrsi u w 23#32) 255#32 = field w := by
  show w.sshiftRight 23 &&& 255#32 = (w >>> 23) &&& 255#32
  refine BitVec.eq_of_getLsbD_eq fun i hi => ?_
  rw [BitVec.getLsbD_and, BitVec.getLsbD_and]
  by_cases h : i < 8
  · rw [BitVec.getLsbD_sshiftRight, BitVec.getLsbD_ushiftRight]
    have h1 : 23 + i < 32 := by omega
    have h2 : ¬ 32 ≤ i := by omega
    simp [h1, hi, h2]
  · have : (255#32).getLsbD i = false := (by decide : ∀ k : Fin 32, ¬ k.val < 8 → (255#32).getLsbD k.val = false) ⟨i, hi⟩ h
    rw [this, Bool.and_false, Bool.and_false]

/-- A word with a nonzero field is not flushed. -/
theorem flush_eq (w : BitVec 32) (h : field w ≠ 0#32) : flush w = w := by
  unfold flush Scalar.select
  refine if_neg fun e => h ?_
  have e' : IntOp.andi w 2139095040#32 = 0#32 := by
    have : ∀ x : BitVec 32, IntOp.cmpi .eq x 0#32 = 1 → x = 0#32 := fun x hx => by
      have hb : ∀ b : Bool, BitVec.ofBool b = 1 → b = true := by decide
      exact eq_of_beq (hb _ hx)
    exact this _ e
  show (w >>> 23#32) &&& 255#32 = 0#32
  have e2 : w &&& 2139095040#32 = 0#32 := e'
  have := congrArg (· >>> 23#32) e2
  simp only [BitVec.ushiftRight_eq', BitVec.ushiftRight_and_distrib] at this ⊢
  exact this

theorem field_lt (w : BitVec 32) : (field w).toNat < 256 := by
  show ((w >>> 23#32) &&& 255#32).toNat < 256
  rw [BitVec.toNat_and]
  exact Nat.lt_succ_of_le Nat.and_le_right

/-- The two computations on a field, for each of its values. -/
theorem table : ∀ k : Fin 256, IntOp.cmpi .sgt (BitVec.ofNat 32 k.val) 0#32 = 1#1 → IntOp.cmpi .slt (BitVec.ofNat 32 k.val) 254#32 = 1#1 →
    BitVec.ofNat 32 k.val ≠ 0#32 ∧
    Scalar.select (IntOp.ori (IntOp.cmpi .eq (BitVec.ofNat 32 k.val) 255#32) (IntOp.cmpi .eq (BitVec.ofNat 32 k.val) 0#32)) 0#32
      (IntOp.subi (BitVec.ofNat 32 k.val) 126#32) = IntOp.subi (BitVec.ofNat 32 k.val) 126#32 ∧
    pow2 (IntOp.subi (BitVec.ofNat 32 k.val) 126#32) = up (IntOp.subi (BitVec.ofNat 32 k.val) 126#32) ∧
    pow2 (IntOp.subi 0#32 (IntOp.subi (BitVec.ofNat 32 k.val) 126#32)) = down (IntOp.subi (BitVec.ofNat 32 k.val) 126#32) := by
  decide +kernel

/-- Where the condition holds, the reference's scale and inverse scale are the kernel's. -/
theorem scales_eq (z : BitVec 1) (w : BitVec 32) (h : ok z w = 1#1) :
    pow2 (rexp z w) = up (kexp z w) ∧ pow2 (IntOp.subi 0#32 (rexp z w)) = down (kexp z w) := by
  unfold ok at h
  rw [shrsi_field] at h
  unfold rexp kexp
  rw [shrsi_field]
  have hz : ∀ x : BitVec 1, x = 1#1 ∨ x = 0#1 := by decide
  rcases hz z with rfl | rfl
  · exact ⟨(by decide : pow2 0#32 = up 0#32), (by decide : pow2 (IntOp.subi 0#32 0#32) = down 0#32)⟩
  · have hf : ∃ k : Fin 256, field w = BitVec.ofNat 32 k.val := ⟨⟨_, field_lt w⟩, by simp⟩
    obtain ⟨k, hk⟩ := hf
    have hand : ∀ x y : BitVec 1, IntOp.ori 0#1 (IntOp.andi x y) = 1#1 → x = 1#1 ∧ y = 1#1 := by decide
    obtain ⟨h1, h2⟩ := hand _ _ h
    rw [hk] at h1 h2
    obtain ⟨h0, t1, t2, t3⟩ := table k h1 h2
    rw [flush_eq w (hk ▸ h0), hk, t1]
    exact ⟨t2, t3⟩

end Cert.Proof.Quant.Words

end
-- ==== Proof.QuantRef.lean ====
/- The quantiser's reference at an index: the largest magnitude of a block, then the exponent, the
   scale and the code as functions of it. -/
module

public import proofs.«01_k».proof.Proof.QuantArrays
public import proofs.«01_k».proof.Proof.QuantWords
public import proofs.«01_k».proof.Proof.Gen.QuantReference.Value
public import Idealize.ShloMosaic.PureOps.BitExact.Laws
public import Idealize.ShloMosaic.PureOps.Reduce
public import Idealize.ShloMosaic.Lib.Pointwise

@[expose] public section

set_option maxRecDepth 65536

noncomputable section

namespace Cert.Proof.Quant

open Idealize.ShloMosaic Idealize.ShloMosaic.TcCoe Idealize.ShloMosaic.Tactic

/-- The largest magnitude of a block. -/
def amax (v : Vec Bits Cert.Quant.S1x128x256 .bf16) : Bits .f32 :=
  Finset.fold FloatOps.maximumf (FloatOps.ofBits .f32 4286578688#32)
    (fun x : Fin 128 × Fin 256 => FloatOps.absf (FloatOps.extf .f32 Cert.Quant.Gen.bitsLt_bf16_f32 (v (ix3 (0 : Fin 1) x.1 x.2)))) Finset.univ

/-- Whether a largest magnitude is zero. -/
def zero (a : Bits .f32) : BitVec 1 := FloatOps.cmpf .oeq a (FloatOps.ofBits .f32 0#32)
/-- The word of a largest magnitude over the largest code. -/
def word (a : Bits .f32) : BitVec 32 := BitOps.toBits (FloatOps.mulf a (FloatOps.ofBits .f32 991054117#32))
/-- The code of an element under a word of inverse scale. -/
def code (x : Bits .bf16) (w : BitVec 32) : Bits .fp8e4m3 :=
  FloatOps.truncf .fp8e4m3 Cert.Quant.Gen.bitsLt_fp8e4m3_f32 (FloatOps.minimumf (FloatOps.ofBits .f32 1138753536#32)
    (FloatOps.maximumf (FloatOps.ofBits .f32 3286237184#32) (FloatOps.mulf (FloatOps.extf .f32 Cert.Quant.Gen.bitsLt_bf16_f32 x) (FloatOps.ofBits .f32 w))))

theorem scale_eq (v : Vec Bits Cert.Quant.S1x128x256 .bf16) :
    scale v = FloatOps.ofBits .f32 (Words.up (Words.kexp (zero (amax v)) (word (amax v)))) := by
  pointwise [scale, Cert.Quant.Gen.k0_pay5, Cert.Quant.Gen.k0_pay4, Cert.Quant.Gen.k0_pay3]
  rfl

theorem codes_eq (v : Vec Bits Cert.Quant.S1x128x256 .bf16) (z : Cert.Quant.S1x128x256.Idx) :
    codes v z = code (v z) (Words.down (Words.kexp (zero (amax v)) (word (amax v)))) := by
  pointwise [codes, Cert.Quant.Gen.k0_pay7, Cert.Quant.Gen.k0_pay6, Cert.Quant.Gen.k0_pay4, Cert.Quant.Gen.k0_pay3]
  rfl

section
open Cert.QuantReference Cert.QuantReference.Gen Cert.QuantReference.Value

variable (b : Fin 8) (j : Fin 64)

/-- The wide argument's blocks, over any shape condition of the reduction. -/
theorem fold_q (g : S8x64x128x8x256.Idx → S8x64x8.Idx) (hg : ∀ i, (g i 0).val = (i 0).val ∧ (g i 1).val = (i 1).val ∧ (g i 2).val = (i 3).val)
    (h : Fin 8) (f : S8x64x128x8x256.Idx → Bits .f32) (z : Bits .f32) [DecidablePred fun i => g i = ix3 b j h] :
    Finset.fold FloatOps.maximumf z f (Finset.univ.filter fun i => g i = ix3 b j h)
      = Finset.fold FloatOps.maximumf z (fun x : Fin 128 × Fin 256 => f (ix5 b j x.1 h x.2)) Finset.univ := by
  refine Finset.fold_filter_eq_fold_of_fiber FloatOps.maximumf (fun i => g i = ix3 b j h) (fun x : Fin 128 × Fin 256 => ix5 b j x.1 h x.2) (fun x y e => ?_) (fun i => Iff.intro (fun e => Exists.intro (i 2, i 4) ?_) ?_) z f
  · exact Prod.ext (congrFun e 2) (congrFun e 4)
  · obtain ⟨g0, g1, g2⟩ := hg i
    rw [e] at g0 g1 g2
    funext a
    fin_cases a
    · exact Fin.ext g0
    · exact Fin.ext g1
    · rfl
    · exact Fin.ext g2
    · rfl
  · rintro ⟨x, rfl⟩
    obtain ⟨g0, g1, g2⟩ := hg (ix5 b j x.1 h x.2)
    funext a
    fin_cases a
    · exact Fin.ext g0
    · exact Fin.ext g1
    · exact Fin.ext g2

/-- The narrow arguments' blocks. -/
theorem fold_k (g : S8x64x128x1x256.Idx → S8x64x1.Idx) (hg : ∀ i, (g i 0).val = (i 0).val ∧ (g i 1).val = (i 1).val)
    (f : S8x64x128x1x256.Idx → Bits .f32) (z : Bits .f32) [DecidablePred fun i => g i = ix3 b j (0 : Fin 1)] :
    Finset.fold FloatOps.maximumf z f (Finset.univ.filter fun i => g i = ix3 b j (0 : Fin 1))
      = Finset.fold FloatOps.maximumf z (fun x : Fin 128 × Fin 256 => f (ix5 b j x.1 (0 : Fin 1) x.2)) Finset.univ := by
  refine Finset.fold_filter_eq_fold_of_fiber FloatOps.maximumf (fun i => g i = ix3 b j (0 : Fin 1)) (fun x : Fin 128 × Fin 256 => ix5 b j x.1 (0 : Fin 1) x.2) (fun x y e => ?_) (fun i => Iff.intro (fun e => Exists.intro (i 2, i 4) ?_) ?_) z f
  · exact Prod.ext (congrFun e 2) (congrFun e 4)
  · obtain ⟨g0, g1⟩ := hg i
    rw [e] at g0 g1
    funext a
    fin_cases a
    · exact Fin.ext g0
    · exact Fin.ext g1
    · rfl
    · exact Subsingleton.elim (α := Fin 1) _ _
    · rfl
  · rintro ⟨x, rfl⟩
    obtain ⟨g0, g1⟩ := hg (ix5 b j x.1 (0 : Fin 1) x.2)
    funext a
    fin_cases a
    · exact Fin.ext g0
    · exact Fin.ext g1
    · exact Subsingleton.elim (α := Fin 1) _ _

/-- The largest magnitude of a block of the wide argument, its elements written by row and column. -/
theorem amax_q (a : Vec Bits S8x8192x2048 .bf16) (h : Fin 8) (hb : FTy.bf16.bits < FTy.f32.bits)
    (hr : ∀ x : Fin 128 × Fin 256, j.val * 128 + x.1.val < 8192) (hc : ∀ x : Fin 128 × Fin 256, h.val * 256 + x.2.val < 2048) :
    Finset.fold FloatOps.maximumf (FloatOps.ofBits .f32 4286578688#32) (fun x : Fin 128 × Fin 256 => FloatOps.absf (FloatOps.extf .f32 hb
      (a (ix3 b ⟨j.val * 128 + x.1.val, hr x⟩ ⟨h.val * 256 + x.2.val, hc x⟩)))) Finset.univ = amax (blkQ a b j.val h.val) := by
  unfold amax blkQ
  refine congrArg (fun f => Finset.fold FloatOps.maximumf _ f Finset.univ) (funext fun x => ?_)
  have h1 : (⟨j.val * 128 + x.1.val, hr x⟩ : Fin 8192) = Fin.ofNat 8192 (128 * j.val + x.1.val) := Fin.ext (by
    have := hr x; simp only [Fin.val_ofNat]; omega)
  have h2 : (⟨h.val * 256 + x.2.val, hc x⟩ : Fin 2048) = Fin.ofNat 2048 (256 * h.val + x.2.val) := Fin.ext (by
    have := hc x; simp only [Fin.val_ofNat]; omega)
  rw [h1, h2]
  rfl

/-- The same of a narrow argument. -/
theorem amax_k (a : Vec Bits S8x8192x256 .bf16) (hb : FTy.bf16.bits < FTy.f32.bits)
    (hr : ∀ x : Fin 128 × Fin 256, j.val * 128 + x.1.val < 8192) :
    Finset.fold FloatOps.maximumf (FloatOps.ofBits .f32 4286578688#32) (fun x : Fin 128 × Fin 256 => FloatOps.absf (FloatOps.extf .f32 hb
      (a (ix3 b ⟨j.val * 128 + x.1.val, hr x⟩ x.2)))) Finset.univ = amax (blkK a b j.val) := by
  unfold amax blkK
  refine congrArg (fun f => Finset.fold FloatOps.maximumf _ f Finset.univ) (funext fun x => ?_)
  have h1 : (⟨j.val * 128 + x.1.val, hr x⟩ : Fin 8192) = Fin.ofNat 8192 (128 * j.val + x.1.val) := Fin.ext (by
    have := hr x; simp only [Fin.val_ofNat]; omega)
  rw [h1]
  rfl

theorem ref_amax_q (a : Vec Bits S8x8192x2048 .bf16) (h : Fin 8) : k0_pay3 a (ix3 b j h) = amax (blkQ a b j.val h.val) := by
  pointwise [k0_pay3, k0_pay2]
  rw [fold_q b j _ (fun i => ⟨rfl, rfl, rfl⟩)]
  exact amax_q b j a h _ (fun x => by have := x.1.isLt; omega) (fun x => by have := x.2.isLt; omega)

theorem ref_amax_k (a : Vec Bits S8x8192x256 .bf16) : k0_pay22 a (ix3 b j (0 : Fin 1)) = amax (blkK a b j.val) := by
  pointwise [k0_pay22, k0_pay21]
  rw [fold_k b j _ (fun i => ⟨rfl, rfl⟩)]
  exact amax_k b j a _ (fun x => by have := x.1.isLt; omega)

theorem ref_amax_v (a : Vec Bits S8x8192x256 .bf16) : k0_pay46 a (ix3 b j (0 : Fin 1)) = amax (blkK a b j.val) := by
  pointwise [k0_pay46, k0_pay45]
  rw [fold_k b j _ (fun i => ⟨rfl, rfl⟩)]
  exact amax_k b j a _ (fun x => by have := x.1.isLt; omega)

/-- The exponent of a largest magnitude. -/
def expo (a : Bits .f32) : BitVec 32 := Words.rexp (zero a) (word a)

theorem expo_q (a : Vec Bits S8x8192x2048 .bf16) (i) : k0_pay6 (k0_pay4 a) (k0_pay5 a) i = expo (k0_pay3 a i) := by
  pointwise [k0_pay6, k0_pay5, k0_pay4]
  rfl

theorem expo_k (a : Vec Bits S8x8192x256 .bf16) (i) : k0_pay28 (k0_pay22 a) (k0_pay25 a) (k0_pay27 a) i = expo (k0_pay22 a i) := by
  pointwise [k0_pay28, k0_pay27, k0_pay26, k0_pay25, k0_pay24, k0_pay23]
  rfl

theorem expo_v (a : Vec Bits S8x8192x256 .bf16) (i) :
    k0_pay49 (k0_pay46 a) (k0_pay47 a) (k0_pay48 a) 2147483648#32 i = expo (k0_pay46 a i) := by
  pointwise [k0_pay49, k0_pay48, k0_pay47]
  rfl

theorem scale_q (v : IVec S8x64x8 32) (w : IVec S8x64x8 1) (i) :
    k0_pay11 (F := Bits) (k0_pay7 (F := Bits)) (k0_pay9 (F := Bits)) (k0_pay10 (F := Bits) v w) i = FloatOps.ofBits .f32 (Words.pow2 (k0_pay6 v w i)) := by
  pointwise [k0_pay11, k0_pay10, k0_pay9, k0_pay8, k0_pay7]
  exact congrArg (FloatOps.ofBits .f32) (Words.ldexp_one _)

theorem scale_k (x : FVec Bits S8x64x1 .f32) (v : IVec S8x64x1 32) (w : IVec S8x64x1 1) (i) :
    k0_pay36 (F := Bits) (k0_pay29 (F := Bits)) (k0_pay30 (F := Bits)) (k0_pay31 (F := Bits)) (k0_pay32 (F := Bits)) (k0_pay33 (F := Bits))
      (k0_pay34 (F := Bits)) 512#32 (k0_pay35 x v w) i = FloatOps.ofBits .f32 (Words.pow2 (k0_pay28 x v w i)) := by
  pointwise [k0_pay36, k0_pay35, k0_pay34, k0_pay33, k0_pay32, k0_pay31, k0_pay30, k0_pay29]
  exact congrArg (FloatOps.ofBits .f32) (Words.ldexp_one _)

theorem scale_v (v : IVec S8x64x1 32) (i) :
    k0_pay52 (F := Bits) v (k0_pay50 (F := Bits)) k0_pay51 i = FloatOps.ofBits .f32 (Words.pow2 (v i)) := by
  pointwise [k0_pay52, k0_pay51, k0_pay50]
  exact congrArg (FloatOps.ofBits .f32) (Words.ldexp_one _)

/-- A code of the wide argument. -/
theorem codes_q (a : Vec Bits S8x8192x2048 .bf16) (v : IVec S8x64x8 32) (i : S8x8192x2048.Idx) (h1 : (i 1).val / 128 < 64) (h2 : (i 2).val / 256 < 8) :
    k0_pay20 (k0_pay2 a) (k0_pay12 (F := Bits)) (k0_pay13 (F := Bits)) (k0_pay15 (F := Bits)) (k0_pay16 (F := Bits)) (k0_pay18 (F := Bits) v) (k0_pay19 (F := Bits) v) i
      = code (a i) (Words.pow2 (IntOp.subi 0#32 (v (ix3 (i 0) (⟨(i 1).val / 128, h1⟩ : Fin 64) (⟨(i 2).val / 256, h2⟩ : Fin 8))))) := by
  pointwise [k0_pay20, k0_pay19, k0_pay18, k0_pay17, k0_pay16, k0_pay15, k0_pay14, k0_pay13, k0_pay12, k0_pay2]
  refine (?_ : _ = code (a i) (Words.ldexp (Words.flush 1065353216#32) _)).trans (congrArg (code (a i)) (Words.ldexp_one _))
  unfold code
  congr 5

/-- A code of the keys. -/
theorem codes_k (a : Vec Bits S8x8192x256 .bf16) (v : IVec S8x64x1 32) (i : S8x8192x256.Idx) (h1 : (i 1).val / 128 < 64) :
    k0_pay44 (k0_pay21 a) (k0_pay37 v) (k0_pay38 (F := Bits)) (k0_pay39 (F := Bits)) (k0_pay40 (F := Bits)) (k0_pay41 (F := Bits)) (k0_pay42 (F := Bits)) (k0_pay43 (F := Bits)) 4294966784#32 512#32 i
      = code (a i) (Words.pow2 (IntOp.subi 0#32 (v (ix3 (i 0) (⟨(i 1).val / 128, h1⟩ : Fin 64) (0 : Fin 1))))) := by
  pointwise [k0_pay44, k0_pay43, k0_pay42, k0_pay41, k0_pay40, k0_pay39, k0_pay38, k0_pay37, k0_pay21]
  refine (?_ : _ = code (a i) (Words.ldexp (Words.flush 1065353216#32) _)).trans (congrArg (code (a i)) (Words.ldexp_one _))
  unfold code
  congr 5

/-- A code of the values. -/
theorem codes_v (a : Vec Bits S8x8192x256 .bf16) (v : IVec S8x64x1 32) (i : S8x8192x256.Idx) (h1 : (i 1).val / 128 < 64) :
    k0_pay55 (k0_pay45 a) (k0_pay53 v) (k0_pay54 (F := Bits)) i
      = code (a i) (Words.pow2 (IntOp.subi 0#32 (v (ix3 (i 0) (⟨(i 1).val / 128, h1⟩ : Fin 64) (0 : Fin 1))))) := by
  pointwise [k0_pay55, k0_pay54, k0_pay53, k0_pay45]
  refine (?_ : _ = code (a i) (Words.ldexp (Words.flush 1065353216#32) _)).trans (congrArg (code (a i)) (Words.ldexp_one _))
  unfold code
  congr 5

variable (a0 : Vec Bits S8x8192x2048 .bf16) (a1 a2 : Vec Bits S8x8192x256 .bf16)

/-- A load of a whole array reads it. -/
theorem ld_q : View.ld a0 r0_0 = a0 := View.ld_unit_zero (S := S8x8192x2048) hz0 _ a0
theorem ld_k : View.ld a1 r0_1 = a1 := View.ld_unit_zero (S := S8x8192x256) hz1 _ a1

theorem pay56_eq : k0_pay56 a0 a1 a2 = k0_pay4 a0 := congrArg k0_pay4 (ld_q a0)
theorem pay57_eq : k0_pay57 a0 a1 a2 = k0_pay5 a0 := congrArg k0_pay5 (ld_q a0)
theorem pay58_eq : k0_pay58 a0 a1 a2 = k0_pay6 (k0_pay4 a0) (k0_pay5 a0) := congrArg₂ k0_pay6 (pay56_eq a0 a1 a2) (pay57_eq a0 a1 a2)
theorem pay59_eq : k0_pay59 a0 a1 a2 = k0_pay22 a1 := congrArg k0_pay22 (ld_k a1)
theorem pay60_eq : k0_pay60 a0 a1 a2 = k0_pay25 a1 := congrArg k0_pay25 (ld_k a1)
theorem pay61_eq : k0_pay61 a0 a1 a2 = k0_pay27 a1 := congrArg k0_pay27 (ld_k a1)
theorem pay62_eq : k0_pay62 a0 a1 a2 = k0_pay49 (k0_pay46 a2) (k0_pay47 a2) (k0_pay48 a2) 2147483648#32 :=
  congrArg (fun x => k0_pay49 (k0_pay46 x) (k0_pay47 x) (k0_pay48 x) 2147483648#32) (ld_k a2)

/-- The reference's codes of the wide argument. -/
theorem G3_apply (i : S8x8192x2048.Idx) (h1 : (i 1).val / 128 < 64) (h2 : (i 2).val / 256 < 8) :
    G3 a0 a1 a2 i = code (a0 i) (Words.pow2 (IntOp.subi 0#32 (expo (amax (blkQ a0 (i 0) ((i 1).val / 128) ((i 2).val / 256)))))) := by
  unfold G3
  rw [codes_q a0 _ i h1 h2, pay58_eq, expo_q]
  exact congrArg (fun x => code (a0 i) (Words.pow2 (IntOp.subi 0#32 (expo x)))) (ref_amax_q (i 0) ⟨_, h1⟩ a0 ⟨_, h2⟩)

/-- The reference's codes of the keys. -/
theorem G4_apply (i : S8x8192x256.Idx) (h1 : (i 1).val / 128 < 64) :
    G4 a0 a1 a2 i = code (a1 i) (Words.pow2 (IntOp.subi 0#32 (expo (amax (blkK a1 (i 0) ((i 1).val / 128)))))) := by
  unfold G4
  rw [codes_k a1 _ i h1, pay59_eq, pay60_eq, pay61_eq, expo_k]
  exact congrArg (fun x => code (a1 i) (Words.pow2 (IntOp.subi 0#32 (expo x)))) (ref_amax_k (i 0) ⟨_, h1⟩ a1)

/-- The reference's codes of the values. -/
theorem G5_apply (i : S8x8192x256.Idx) (h1 : (i 1).val / 128 < 64) :
    G5 a0 a1 a2 i = code (a2 i) (Words.pow2 (IntOp.subi 0#32 (expo (amax (blkK a2 (i 0) ((i 1).val / 128)))))) := by
  unfold G5
  rw [codes_v a2 _ i h1, pay62_eq, expo_v]
  exact congrArg (fun x => code (a2 i) (Words.pow2 (IntOp.subi 0#32 (expo x)))) (ref_amax_v (i 0) ⟨_, h1⟩ a2)

/-- The reference's scales. -/
theorem G6_apply (i : S8x64x128.Idx) :
    G6 a0 a1 a2 i = if h : (i 2).val < 8 then FloatOps.ofBits (F := Bits) .f32 (Words.pow2 (expo (amax (blkQ a0 (i 0) (i 1).val (i 2).val))))
      else if (i 2).val = 8 then FloatOps.ofBits (F := Bits) .f32 (Words.pow2 (expo (amax (blkK a1 (i 0) (i 1).val))))
      else if (i 2).val = 9 then FloatOps.ofBits (F := Bits) .f32 (Words.pow2 (expo (amax (blkK a2 (i 0) (i 1).val))))
      else FloatOps.ofBits (F := Bits) .f32 0#32 := by
  have e : ∀ (x : FVec Bits S8x64x8 .f32) (y z : FVec Bits S8x64x1 .f32), k0_pay1 x y z i
      = if h : (i 2).val < 8 then x (ix3 (i 0) (i 1) (⟨(i 2).val, h⟩ : Fin 8)) else if (i 2).val = 8 then y (ix3 (i 0) (i 1) (0 : Fin 1))
        else if (i 2).val = 9 then z (ix3 (i 0) (i 1) (0 : Fin 1)) else FloatOps.ofBits .f32 0#32 := fun x y z => by
    pointwise [k0_pay1]
    split
    · rfl
    · rename_i h
      by_cases h8 : (i 2).val = 8
      · rw [dif_pos (by omega), if_pos h8]
        exact congrArg y (congrArg (ix3 (i 0) (i 1)) (Fin.ext (by show (i 2).val - 8 = 0; omega)))
      · rw [dif_neg (by omega), if_neg h8]
        by_cases h9 : (i 2).val = 9
        · rw [dif_pos (by omega), if_pos h9]
          exact congrArg z (congrArg (ix3 (i 0) (i 1)) (Fin.ext (by show (i 2).val - 8 - 1 = 0; omega)))
        · rw [dif_neg (by omega), if_neg h9]
  unfold G6
  have hk : k0_pay22 a1 (ix3 (i 0) (i 1) (0 : Fin 1)) = amax (blkK a1 (i 0) (i 1).val) := ref_amax_k (i 0) (i 1) a1
  have hv : k0_pay46 a2 (ix3 (i 0) (i 1) (0 : Fin 1)) = amax (blkK a2 (i 0) (i 1).val) := ref_amax_v (i 0) (i 1) a2
  rw [e, scale_k, scale_v, pay59_eq, pay60_eq, pay61_eq, expo_k, hk, pay62_eq, expo_v, hv]
  split
  · rename_i h
    rw [scale_q, pay56_eq, pay57_eq, expo_q]
    exact congrArg (fun x => FloatOps.ofBits .f32 (Words.pow2 (expo x))) (ref_amax_q (i 0) (i 1) a0 ⟨_, h⟩)
  · rfl

end

/-- The condition on one block. -/
def good (a : Bits .f32) : Prop := Words.ok (zero a) (word a) = 1#1

theorem expo_eq (a : Bits .f32) (h : good a) : Words.pow2 (expo a) = Words.up (Words.kexp (zero a) (word a))
    ∧ Words.pow2 (IntOp.subi 0#32 (expo a)) = Words.down (Words.kexp (zero a) (word a)) := Words.scales_eq _ _ h

section
open Cert.Quant Cert.Quant.Gen

/-- The kernel's codes of the wide argument are the reference's. -/
theorem GQ_eq (a0 : Vec Bits S8x8192x2048 .bf16) (a1 a2 : Vec Bits S8x8192x256 .bf16)
    (h : ∀ (b : Fin 8) (j : Fin 64) (k : Fin 8), good (amax (blkQ a0 b j.val k.val))) : GQ a0 = Cert.QuantReference.Value.G3 a0 a1 a2 := by
  funext i
  idx_bounds i
  have h1 : (i 1).val / 128 < 64 := by omega
  have h2 : (i 2).val / 256 < 8 := by omega
  rw [G3_apply a0 a1 a2 i h1 h2, (expo_eq _ (h (i 0) ⟨_, h1⟩ ⟨_, h2⟩)).2]
  unfold GQ
  rw [codes_eq]
  refine congrArg (fun x => code x _) (congrArg a0 (funext fun x => Fin.ext ?_))
  fin_cases x
  · rfl
  · show (128 * ((i 1).val / 128) + (i 1).val % 128) % 8192 = (i 1).val; omega
  · show (256 * ((i 2).val / 256) + (i 2).val % 256) % 2048 = (i 2).val; omega

/-- The kernel's codes of a narrow argument. -/
theorem GK_apply (a : Vec Bits S8x8192x256 .bf16) (i : S8x8192x256.Idx) :
    GK a i = code (a i) (Words.down (Words.kexp (zero (amax (blkK a (i 0) ((i 1).val / 128)))) (word (amax (blkK a (i 0) ((i 1).val / 128)))))) := by
  idx_bounds i
  unfold GK
  rw [codes_eq]
  refine congrArg (fun x => code x _) (congrArg a (funext fun x => Fin.ext ?_))
  fin_cases x
  · rfl
  · show (128 * ((i 1).val / 128) + (i 1).val % 128) % 8192 = (i 1).val; omega
  · rfl

theorem GK_eq_G4 (a0 : Vec Bits S8x8192x2048 .bf16) (a1 a2 : Vec Bits S8x8192x256 .bf16)
    (h : ∀ (b : Fin 8) (j : Fin 64), good (amax (blkK a1 b j.val))) : GK a1 = Cert.QuantReference.Value.G4 a0 a1 a2 := by
  funext i
  idx_bounds i
  have h1 : (i 1).val / 128 < 64 := by omega
  rw [G4_apply a0 a1 a2 i h1, (expo_eq _ (h (i 0) ⟨_, h1⟩)).2, GK_apply]

theorem GK_eq_G5 (a0 : Vec Bits S8x8192x2048 .bf16) (a1 a2 : Vec Bits S8x8192x256 .bf16)
    (h : ∀ (b : Fin 8) (j : Fin 64), good (amax (blkK a2 b j.val))) : GK a2 = Cert.QuantReference.Value.G5 a0 a1 a2 := by
  funext i
  idx_bounds i
  have h1 : (i 1).val / 128 < 64 := by omega
  rw [G5_apply a0 a1 a2 i h1, (expo_eq _ (h (i 0) ⟨_, h1⟩)).2, GK_apply]

/-- The kernel's scales are the reference's. -/
theorem GS_eq (a0 : Vec Bits S8x8192x2048 .bf16) (a1 a2 : Vec Bits S8x8192x256 .bf16)
    (h : ∀ (b : Fin 8) (j : Fin 64) (k : Fin 8), good (amax (blkQ a0 b j.val k.val)))
    (hk : ∀ (b : Fin 8) (j : Fin 64), good (amax (blkK a1 b j.val))) (hv : ∀ (b : Fin 8) (j : Fin 64), good (amax (blkK a2 b j.val))) :
    GS a0 a1 a2 = Cert.QuantReference.Value.G6 a0 a1 a2 := by
  funext i
  rw [G6_apply, (expo_eq _ (hk (i 0) (i 1))).1, (expo_eq _ (hv (i 0) (i 1))).1]
  unfold GS
  rw [scale_eq, scale_eq, scale_eq]
  by_cases h8 : (i 2).val < 8
  · rw [if_pos h8, dif_pos h8, (expo_eq _ (h (i 0) (i 1) ⟨_, h8⟩)).1]
  · rw [if_neg h8, dif_neg h8]

end

end Cert.Proof.Quant

end
-- ==== Proof.QuantPre.lean ====
/- The quantiser's precondition, read: the condition on every block of the three arguments. -/
module

public import proofs.«01_k».proof.Proof.QuantRef
public import proofs.«01_k».proof.Proof.Gen.Pre_scalable
public import Idealize.ShloMosaic.Lib.ReduceAll

@[expose] public section

set_option maxRecDepth 65536

noncomputable section

namespace Cert.Proof.Quant

open Cert.Pre_scalable Cert.Pre_scalable.Gen
open Idealize.ShloMosaic Idealize.ShloMosaic.Tactic

theorem read (a0 : FVec Bits S8x8192x2048 .bf16) (a1 a2 : FVec Bits S8x8192x256 .bf16)
    (h : Cert.Pre_scalable.fn (F := Bits) a0 a1 a2 = fun _ => 1#1) :
    (∀ (b : Fin 8) (j : Fin 64) (k : Fin 8), good (amax (blkQ a0 b j.val k.val)))
      ∧ (∀ (b : Fin 8) (j : Fin 64), good (amax (blkK a1 b j.val))) ∧ ∀ (b : Fin 8) (j : Fin 64), good (amax (blkK a2 b j.val)) := by
  have : Subsingleton S_.Idx := ⟨fun x y => funext fun i => i.elim0⟩
  have hand : ∀ x y : BitVec 1, IntOp.andi x y = 1#1 ↔ x = 1#1 ∧ y = 1#1 := by decide
  have h1 := congrFun h (Shape.Idx.first Facts.h_S_)
  unfold fn fn_part1 fn_part2 fn_part3 at h1
  obtain ⟨h2, h5⟩ := (hand _ _).1 h1
  obtain ⟨h3, h4⟩ := (hand _ _).1 h2
  clear h1 h2
  refine ⟨fun b j k => ?_, fun b j => ?_, fun b j => ?_⟩
  · have e := Host.reduce_andi_all _ _ _ _ _ h3 (ix3 b j k)
    revert e
    clear h3 h4 h5
    pointwise
    rw [fold_q b j _ (fun i => ⟨rfl, rfl, rfl⟩)]
    intro e
    rw [← amax_q b j a0 k Facts.bitsLt_bf16_f32 (fun x => by have := x.1.isLt; omega) (fun x => by have := x.2.isLt; omega)]
    exact e
  · have e := Host.reduce_andi_all _ _ _ _ _ h4 (ix3 b j (0 : Fin 1))
    revert e
    clear h3 h4 h5
    pointwise
    rw [fold_k b j _ (fun i => ⟨rfl, rfl⟩)]
    intro e
    rw [← amax_k b j a1 Facts.bitsLt_bf16_f32 (fun x => by have := x.1.isLt; omega)]
    exact e
  · have e := Host.reduce_andi_all _ _ _ _ _ h5 (ix3 b j (0 : Fin 1))
    revert e
    clear h3 h4 h5
    pointwise
    rw [fold_k b j _ (fun i => ⟨rfl, rfl⟩)]
    intro e
    rw [← amax_k b j a2 Facts.bitsLt_bf16_f32 (fun x => by have := x.1.isLt; omega)]
    exact e

end Cert.Proof.Quant

end
-- ==== Proof.lean ====
module

public import proofs.«01_k».proof.Defs
public import proofs.«01_k».proof.Proof.AttnFrame
public import proofs.«01_k».proof.Proof.AttnIdealFrame
public import proofs.«01_k».proof.Proof.Equal
public import proofs.«01_k».proof.Proof.Pre
public import proofs.«01_k».proof.Proof.QuantPre
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_v_scales_finite
public import proofs.«01_k».proof.Proof.Gen.Pre_scalable
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.QuantReference
public import proofs.«01_k».proof.Proof.Gen.QuantReference.Skeleton
public import proofs.«01_k».proof.Proof.Gen.QuantReference.Launch
public import proofs.«01_k».proof.Proof.Gen.QuantReference.Points
public import proofs.«01_k».proof.Proof.Gen.QuantReference.Frame
public import proofs.«01_k».proof.Proof.Gen.QuantReference.Value
public import Idealize.ShloMosaic.Adequacy
public import Idealize.ShloMosaic.Init

@[expose] public section

noncomputable section

namespace Cert.Proof

open Idealize.ShloMosaic Idealize.SL.Sem

/-- The named constant is, at single precision, the constant it replaces. -/
theorem preserves : Cert.preserves_Attn_AttnIdeal :=
  IdealRules.named_const.statement Cert.AttnIdeal.κ "log2e" .f32 0x3FB8AA3B#32 (((Real.log 2)⁻¹ : ℝ) : EReal) rfl

/-- The idealized form and the reference leave the same output. -/
theorem algebraic : Cert.algebraic_AttnIdeal_ReferenceIdeal_pre_v_scales_finite := fun m g m' g' hpre hargs =>
  ⟨fun c => Cert.Proof.AttnIdeal.Value.GY (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) (m ((c.tc : Thread Cert.AttnIdeal.nD Cert.AttnIdeal.τ).loc Cert.AttnIdeal.main_arg3)),
    Cert.Proof.AttnIdeal.Value.run m g fun c b j => Cert.Proof.Pre.read _ _ _ _ (hpre c) b j,
    (θ_run _ _ _).mono (fun _ h c => ⟨(h c).1.trans (by
        rw [(hargs c).1, (hargs c).2.1, (hargs c).2.2.1, (hargs c).2.2.2]
        exact Cert.Proof.AttnIdeal.equal _ _ _ _), (h c).2⟩)
      (Cert.ReferenceIdeal.Value.run m' g')⟩

/-- Under the precondition the two runs leave the kernel's arrays. -/
theorem bitexact : Cert.bitexact_Quant_QuantReference_pre_scalable := fun m g m' g' hpre hargs =>
  ⟨fun c => Cert.Proof.Quant.GQ (m ((c.tc : Thread Cert.Quant.nD Cert.Quant.τ).loc Cert.Quant.main_arg0)),
    fun c => Cert.Proof.Quant.GK (m ((c.tc : Thread Cert.Quant.nD Cert.Quant.τ).loc Cert.Quant.main_arg1)),
    fun c => Cert.Proof.Quant.GK (m ((c.tc : Thread Cert.Quant.nD Cert.Quant.τ).loc Cert.Quant.main_arg2)),
    fun c => Cert.Proof.Quant.GS (m ((c.tc : Thread Cert.Quant.nD Cert.Quant.τ).loc Cert.Quant.main_arg0))
      (m ((c.tc : Thread Cert.Quant.nD Cert.Quant.τ).loc Cert.Quant.main_arg1)) (m ((c.tc : Thread Cert.Quant.nD Cert.Quant.τ).loc Cert.Quant.main_arg2)),
    (θ_run _ _ _).mono (fun _ h c => h.1 c) (Cert.Proof.Quant.run_all m g),
    (θ_run _ _ _).mono (fun _ h c => by
        obtain ⟨gq, gk, gv⟩ := Cert.Proof.Quant.read _ _ _ (hpre c)
        obtain ⟨e0, e1, e2⟩ := hargs c
        obtain ⟨r3, r4, r5, r6, hrest⟩ := h c
        rw [e0, e1, e2] at r3 r4 r5 r6
        exact ⟨r3.trans (Cert.Proof.Quant.GQ_eq _ _ _ gq).symm, r4.trans (Cert.Proof.Quant.GK_eq_G4 _ _ _ gk).symm,
          r5.trans (Cert.Proof.Quant.GK_eq_G5 _ _ _ gv).symm, r6.trans (Cert.Proof.Quant.GS_eq _ _ _ gq gk gv).symm, hrest⟩)
      (Cert.QuantReference.Value.run m' g')⟩

theorem claim : Cert.Claim := ⟨Cert.Attn.Gen.facts, Cert.AttnIdeal.Gen.facts, Cert.ReferenceIdeal.Gen.facts, Cert.Quant.Gen.facts,
  Cert.QuantReference.Gen.facts, Cert.Pre_v_scales_finite.Gen.facts, Cert.Pre_scalable.Gen.facts,
  fun m ρ _ => Cert.Proof.Attn.Forget.frame m ρ,
  fun m ρ _ => Cert.Proof.AttnIdeal.Forget.frame m ρ,
  fun m ρ _ => Cert.Proof.AttnIdeal.Forget.frame m ρ,
  fun m ρ _ => Cert.ReferenceIdeal.Gen.frame m ρ,
  fun m ρ _ => Cert.ReferenceIdeal.Gen.frame m ρ,
  fun m ρ _ => Cert.Proof.Quant.frame m ρ,
  fun m ρ _ => Cert.Proof.Quant.frame m ρ,
  fun m ρ _ => Cert.QuantReference.Gen.frame m ρ,
  fun m ρ _ => Cert.QuantReference.Gen.frame m ρ,
  preserves,
  algebraic,
  bitexact⟩

end Cert.Proof

end
